-- ==== Defs.lean ====
def Pre_Four (m : (ℓ : Loc Cert.Four.nD Cert.Four.τ Cert.Four.sig) → Buf (Elt Bits) ℓ) : Prop :=
  True

def Pre_FourIdeal (m : (ℓ : Loc Cert.FourIdeal.nD Cert.FourIdeal.τ Cert.FourIdeal.sig) → Buf (Elt Ideal) ℓ) : Prop :=
  True

def Pre_FourRefIdeal (m : (ℓ : Loc Cert.FourRefIdeal.nD Cert.FourRefIdeal.τ Cert.FourRefIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_FourCtx (m : (ℓ : Loc Cert.FourCtx.nD Cert.FourCtx.τ Cert.FourCtx.sig) → Buf (Elt Bits) ℓ) : Prop :=
  True

def Pre_FourCtxIdeal (m : (ℓ : Loc Cert.FourCtxIdeal.nD Cert.FourCtxIdeal.τ Cert.FourCtxIdeal.sig) → Buf (Elt Ideal) ℓ) : Prop :=
  True

def Pre_FourCtxRefIdeal (m : (ℓ : Loc Cert.FourCtxRefIdeal.nD Cert.FourCtxRefIdeal.τ Cert.FourCtxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Four [hFour : Cert.Four.Facts] : Prop :=
  ∀ (m : (ℓ : Loc Cert.Four.nD Cert.Four.τ Cert.Four.sig) → Buf (Elt Bits) ℓ) (g : Dev Cert.Four.nD → PrngReg), Pre_Four m →
    θ_run (Cert.Four.defs (F := Bits)) (onTc (τ := Cert.Four.τ) (Cert.Four.main (F := Bits))) ⟨m, fun _ => 0, g⟩ (fun r => (∀ c : Dev Cert.Four.nD,
      r.2.mem ((c.tc : Thread Cert.Four.nD Cert.Four.τ).loc Cert.Four.main_arg0) = m ((c.tc : Thread Cert.Four.nD Cert.Four.τ).loc Cert.Four.main_arg0)
      ∧ r.2.mem ((c.tc : Thread Cert.Four.nD Cert.Four.τ).loc Cert.Four.main_arg1) = m ((c.tc : Thread Cert.Four.nD Cert.Four.τ).loc Cert.Four.main_arg1)
      ∧ r.2.mem ((c.tc : Thread Cert.Four.nD Cert.Four.τ).loc Cert.Four.main_arg2) = m ((c.tc : Thread Cert.Four.nD Cert.Four.τ).loc Cert.Four.main_arg2))
      ∧ r.2.sem = fun _ => 0)

def quiescent_FourIdeal [hFourIdeal : Cert.FourIdeal.Facts] : Prop :=
  ∀ (m : (ℓ : Loc Cert.FourIdeal.nD Cert.FourIdeal.τ Cert.FourIdeal.sig) → Buf (Elt Ideal) ℓ) (g : Dev Cert.FourIdeal.nD → PrngReg), Pre_FourIdeal m →
    θ_run (Cert.FourIdeal.defs (F := Ideal)) (onTc (τ := Cert.FourIdeal.τ) (Cert.FourIdeal.main (F := Ideal))) ⟨m, fun _ => 0, g⟩ (fun r => (∀ c : Dev Cert.FourIdeal.nD,
      r.2.mem ((c.tc : Thread Cert.FourIdeal.nD Cert.FourIdeal.τ).loc Cert.FourIdeal.main_arg0) = m ((c.tc : Thread Cert.FourIdeal.nD Cert.FourIdeal.τ).loc Cert.FourIdeal.main_arg0)
      ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
      ∧ r.2.mem ((c.tc : Thread Cert.FourIdeal.nD Cert.FourIdeal.τ).loc Cert.FourIdeal.main_arg2) = m ((c.tc : Thread Cert.FourIdeal.nD Cert.FourIdeal.τ).loc Cert.FourIdeal.main_arg2))
      ∧ r.2.sem = fun _ => 0)

def quiescent_FourRefIdeal [hFourRefIdeal : Cert.FourRefIdeal.Facts] : Prop :=
  ∀ (m : (ℓ : Loc Cert.FourRefIdeal.nD Cert.FourRefIdeal.τ Cert.FourRefIdeal.sig) → Buf (Elt Ideal) ℓ) (g : Dev Cert.FourRefIdeal.nD → PrngReg), Pre_FourRefIdeal m →
    θ_run (Cert.FourRefIdeal.defs (F := Ideal)) (onTc (τ := Cert.FourRefIdeal.τ) (Cert.FourRefIdeal.main (F := Ideal))) ⟨m, fun _ => 0, g⟩ (fun r => (∀ c : Dev Cert.FourRefIdeal.nD,
      r.2.mem ((c.tc : Thread Cert.FourRefIdeal.nD Cert.FourRefIdeal.τ).loc Cert.FourRefIdeal.main_arg0) = m ((c.tc : Thread Cert.FourRefIdeal.nD Cert.FourRefIdeal.τ).loc Cert.FourRefIdeal.main_arg0)
      ∧ r.2.mem ((c.tc : Thread Cert.FourRefIdeal.nD Cert.FourRefIdeal.τ).loc Cert.FourRefIdeal.main_arg1) = m ((c.tc : Thread Cert.FourRefIdeal.nD Cert.FourRefIdeal.τ).loc Cert.FourRefIdeal.main_arg1)
      ∧ r.2.mem ((c.tc : Thread Cert.FourRefIdeal.nD Cert.FourRefIdeal.τ).loc Cert.FourRefIdeal.main_arg2) = m ((c.tc : Thread Cert.FourRefIdeal.nD Cert.FourRefIdeal.τ).loc Cert.FourRefIdeal.main_arg2))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_FourCtx [hFourCtx : Cert.FourCtx.Facts] : Prop :=
  ∀ (m : (ℓ : Loc Cert.FourCtx.nD Cert.FourCtx.τ Cert.FourCtx.sig) → Buf (Elt Bits) ℓ) (g : Dev Cert.FourCtx.nD → PrngReg), Pre_FourCtx m →
    θ_run (Cert.FourCtx.defs (F := Bits)) (onTc (τ := Cert.FourCtx.τ) (Cert.FourCtx.main (F := Bits))) ⟨m, fun _ => 0, g⟩ (fun r => (∀ c : Dev Cert.FourCtx.nD,
      r.2.mem ((c.tc : Thread Cert.FourCtx.nD Cert.FourCtx.τ).loc Cert.FourCtx.main_arg0) = m ((c.tc : Thread Cert.FourCtx.nD Cert.FourCtx.τ).loc Cert.FourCtx.main_arg0)
      ∧ r.2.mem ((c.tc : Thread Cert.FourCtx.nD Cert.FourCtx.τ).loc Cert.FourCtx.main_arg1) = m ((c.tc : Thread Cert.FourCtx.nD Cert.FourCtx.τ).loc Cert.FourCtx.main_arg1)
      ∧ r.2.mem ((c.tc : Thread Cert.FourCtx.nD Cert.FourCtx.τ).loc Cert.FourCtx.main_arg2) = m ((c.tc : Thread Cert.FourCtx.nD Cert.FourCtx.τ).loc Cert.FourCtx.main_arg2))
      ∧ r.2.sem = fun _ => 0)

def quiescent_FourCtxIdeal [hFourCtxIdeal : Cert.FourCtxIdeal.Facts] : Prop :=
  ∀ (m : (ℓ : Loc Cert.FourCtxIdeal.nD Cert.FourCtxIdeal.τ Cert.FourCtxIdeal.sig) → Buf (Elt Ideal) ℓ) (g : Dev Cert.FourCtxIdeal.nD → PrngReg), Pre_FourCtxIdeal m →
    θ_run (Cert.FourCtxIdeal.defs (F := Ideal)) (onTc (τ := Cert.FourCtxIdeal.τ) (Cert.FourCtxIdeal.main (F := Ideal))) ⟨m, fun _ => 0, g⟩ (fun r => (∀ c : Dev Cert.FourCtxIdeal.nD,
      r.2.mem ((c.tc : Thread Cert.FourCtxIdeal.nD Cert.FourCtxIdeal.τ).loc Cert.FourCtxIdeal.main_arg0) = m ((c.tc : Thread Cert.FourCtxIdeal.nD Cert.FourCtxIdeal.τ).loc Cert.FourCtxIdeal.main_arg0)
      ∧ r.2.mem ((c.tc : Thread Cert.FourCtxIdeal.nD Cert.FourCtxIdeal.τ).loc Cert.FourCtxIdeal.main_arg1) = m ((c.tc : Thread Cert.FourCtxIdeal.nD Cert.FourCtxIdeal.τ).loc Cert.FourCtxIdeal.main_arg1)
      ∧ r.2.mem ((c.tc : Thread Cert.FourCtxIdeal.nD Cert.FourCtxIdeal.τ).loc Cert.FourCtxIdeal.main_arg2) = m ((c.tc : Thread Cert.FourCtxIdeal.nD Cert.FourCtxIdeal.τ).loc Cert.FourCtxIdeal.main_arg2))
      ∧ r.2.sem = fun _ => 0)

def quiescent_FourCtxRefIdeal [hFourCtxRefIdeal : Cert.FourCtxRefIdeal.Facts] : Prop :=
  ∀ (m : (ℓ : Loc Cert.FourCtxRefIdeal.nD Cert.FourCtxRefIdeal.τ Cert.FourCtxRefIdeal.sig) → Buf (Elt Ideal) ℓ) (g : Dev Cert.FourCtxRefIdeal.nD → PrngReg), Pre_FourCtxRefIdeal m →
    θ_run (Cert.FourCtxRefIdeal.defs (F := Ideal)) (onTc (τ := Cert.FourCtxRefIdeal.τ) (Cert.FourCtxRefIdeal.main (F := Ideal))) ⟨m, fun _ => 0, g⟩ (fun r => (∀ c : Dev Cert.FourCtxRefIdeal.nD,
      r.2.mem ((c.tc : Thread Cert.FourCtxRefIdeal.nD Cert.FourCtxRefIdeal.τ).loc Cert.FourCtxRefIdeal.main_arg0) = m ((c.tc : Thread Cert.FourCtxRefIdeal.nD Cert.FourCtxRefIdeal.τ).loc Cert.FourCtxRefIdeal.main_arg0)
      ∧ r.2.mem ((c.tc : Thread Cert.FourCtxRefIdeal.nD Cert.FourCtxRefIdeal.τ).loc Cert.FourCtxRefIdeal.main_arg1) = m ((c.tc : Thread Cert.FourCtxRefIdeal.nD Cert.FourCtxRefIdeal.τ).loc Cert.FourCtxRefIdeal.main_arg1)
      ∧ r.2.mem ((c.tc : Thread Cert.FourCtxRefIdeal.nD Cert.FourCtxRefIdeal.τ).loc Cert.FourCtxRefIdeal.main_arg2) = m ((c.tc : Thread Cert.FourCtxRefIdeal.nD Cert.FourCtxRefIdeal.τ).loc Cert.FourCtxRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Four_FourIdeal : Prop :=
  True

def algebraic_FourIdeal_FourRefIdeal [hFourIdeal : Cert.FourIdeal.Facts] [hFourRefIdeal : Cert.FourRefIdeal.Facts] : Prop :=
  ∀ (m : (ℓ : Loc Cert.FourIdeal.nD Cert.FourIdeal.τ Cert.FourIdeal.sig) → Buf (Elt Ideal) ℓ) (g : Dev Cert.FourIdeal.nD → PrngReg)
    (m' : (ℓ : Loc Cert.FourRefIdeal.nD Cert.FourRefIdeal.τ Cert.FourRefIdeal.sig) → Buf (Elt Ideal) ℓ) (g' : Dev Cert.FourRefIdeal.nD → PrngReg), Pre_FourIdeal m →
    (∀ c : Dev Cert.FourIdeal.nD,
      m' ((c.tc : Thread Cert.FourRefIdeal.nD Cert.FourRefIdeal.τ).loc Cert.FourRefIdeal.main_arg0) = m ((c.tc : Thread Cert.FourIdeal.nD Cert.FourIdeal.τ).loc Cert.FourIdeal.main_arg0)
      ∧ m' ((c.tc : Thread Cert.FourRefIdeal.nD Cert.FourRefIdeal.τ).loc Cert.FourRefIdeal.main_arg1) = m ((c.tc : Thread Cert.FourIdeal.nD Cert.FourIdeal.τ).loc Cert.FourIdeal.main_arg1)
      ∧ m' ((c.tc : Thread Cert.FourRefIdeal.nD Cert.FourRefIdeal.τ).loc Cert.FourRefIdeal.main_arg2) = m ((c.tc : Thread Cert.FourIdeal.nD Cert.FourIdeal.τ).loc Cert.FourIdeal.main_arg2)) →
    ∃ (v0 : (c : Dev Cert.FourIdeal.nD) → Buf (Elt Ideal) ((c.tc : Thread Cert.FourIdeal.nD Cert.FourIdeal.τ).loc Cert.FourIdeal.main_v21)),
      θ_run (Cert.FourIdeal.defs (F := Ideal)) (onTc (τ := Cert.FourIdeal.τ) (Cert.FourIdeal.main (F := Ideal))) ⟨m, fun _ => 0, g⟩ (fun r => ∀ c : Dev Cert.FourIdeal.nD,
          r.2.mem ((c.tc : Thread Cert.FourIdeal.nD Cert.FourIdeal.τ).loc Cert.FourIdeal.main_v21) = v0 c
          ∧ r.2.mem ((c.tc : Thread Cert.FourIdeal.nD Cert.FourIdeal.τ).loc Cert.FourIdeal.main_arg0) = m ((c.tc : Thread Cert.FourIdeal.nD Cert.FourIdeal.τ).loc Cert.FourIdeal.main_arg0)
          ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
          ∧ r.2.mem ((c.tc : Thread Cert.FourIdeal.nD Cert.FourIdeal.τ).loc Cert.FourIdeal.main_arg2) = m ((c.tc : Thread Cert.FourIdeal.nD Cert.FourIdeal.τ).loc Cert.FourIdeal.main_arg2))
      ∧ θ_run (Cert.FourRefIdeal.defs (F := Ideal)) (onTc (τ := Cert.FourRefIdeal.τ) (Cert.FourRefIdeal.main (F := Ideal))) ⟨m', fun _ => 0, g'⟩ (fun r => ∀ c : Dev Cert.FourRefIdeal.nD,
          r.2.mem ((c.tc : Thread Cert.FourRefIdeal.nD Cert.FourRefIdeal.τ).loc Cert.FourRefIdeal.main_v22) = v0 c
          ∧ r.2.mem ((c.tc : Thread Cert.FourRefIdeal.nD Cert.FourRefIdeal.τ).loc Cert.FourRefIdeal.main_arg0) = m' ((c.tc : Thread Cert.FourRefIdeal.nD Cert.FourRefIdeal.τ).loc Cert.FourRefIdeal.main_arg0)
          ∧ r.2.mem ((c.tc : Thread Cert.FourRefIdeal.nD Cert.FourRefIdeal.τ).loc Cert.FourRefIdeal.main_arg1) = m' ((c.tc : Thread Cert.FourRefIdeal.nD Cert.FourRefIdeal.τ).loc Cert.FourRefIdeal.main_arg1)
          ∧ r.2.mem ((c.tc : Thread Cert.FourRefIdeal.nD Cert.FourRefIdeal.τ).loc Cert.FourRefIdeal.main_arg2) = m' ((c.tc : Thread Cert.FourRefIdeal.nD Cert.FourRefIdeal.τ).loc Cert.FourRefIdeal.main_arg2))

def preserves_Experts_ExpertsIdeal : Prop :=
  IdealRules.bf16_pair.Statement Cert.ExpertsIdeal.S1024x512 Cert.ExpertsIdeal.S512x512
  ∧ IdealRules.bf16_pack.Statement Cert.ExpertsIdeal.S512x512

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v24)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v24) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v75) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v17_0)) (v1 : (c : Dev Cert.PreIdeal.nD) → Buf (Elt Ideal) ((c.tc : Thread Cert.PreIdeal.nD Cert.PreIdeal.τ).loc Cert.PreIdeal.main_v17_1)) (v2 : (c : Dev Cert.PreIdeal.nD) → Buf (Elt Ideal) ((c.tc : Thread Cert.PreIdeal.nD Cert.PreIdeal.τ).loc Cert.PreIdeal.main_v17_2)) (v3 : (c : Dev Cert.PreIdeal.nD) → Buf (Elt Ideal) ((c.tc : Thread Cert.PreIdeal.nD Cert.PreIdeal.τ).loc Cert.PreIdeal.main_v17_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v17_0) = v0 c
          ∧ r.2.mem ((c.tc : Thread Cert.PreIdeal.nD Cert.PreIdeal.τ).loc Cert.PreIdeal.main_v17_1) = v1 c
          ∧ r.2.mem ((c.tc : Thread Cert.PreIdeal.nD Cert.PreIdeal.τ).loc Cert.PreIdeal.main_v17_2) = v2 c
          ∧ r.2.mem ((c.tc : Thread Cert.PreIdeal.nD Cert.PreIdeal.τ).loc Cert.PreIdeal.main_v17_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v148) = v0 c
          ∧ r.2.mem ((c.tc : Thread Cert.PreRefIdeal.nD Cert.PreRefIdeal.τ).loc Cert.PreRefIdeal.main_v157) = v1 c
          ∧ r.2.mem ((c.tc : Thread Cert.PreRefIdeal.nD Cert.PreRefIdeal.τ).loc Cert.PreRefIdeal.main_v166) = v2 c
          ∧ r.2.mem ((c.tc : Thread Cert.PreRefIdeal.nD Cert.PreRefIdeal.τ).loc Cert.PreRefIdeal.main_v170) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6))

def preserves_FourCtx_FourCtxIdeal : Prop :=
  True

def algebraic_FourCtxIdeal_FourCtxRefIdeal [hFourCtxIdeal : Cert.FourCtxIdeal.Facts] [hFourCtxRefIdeal : Cert.FourCtxRefIdeal.Facts] : Prop :=
  ∀ (m : (ℓ : Loc Cert.FourCtxIdeal.nD Cert.FourCtxIdeal.τ Cert.FourCtxIdeal.sig) → Buf (Elt Ideal) ℓ) (g : Dev Cert.FourCtxIdeal.nD → PrngReg)
    (m' : (ℓ : Loc Cert.FourCtxRefIdeal.nD Cert.FourCtxRefIdeal.τ Cert.FourCtxRefIdeal.sig) → Buf (Elt Ideal) ℓ) (g' : Dev Cert.FourCtxRefIdeal.nD → PrngReg), Pre_FourCtxIdeal m →
    (∀ c : Dev Cert.FourCtxIdeal.nD,
      m' ((c.tc : Thread Cert.FourCtxRefIdeal.nD Cert.FourCtxRefIdeal.τ).loc Cert.FourCtxRefIdeal.main_arg0) = m ((c.tc : Thread Cert.FourCtxIdeal.nD Cert.FourCtxIdeal.τ).loc Cert.FourCtxIdeal.main_arg0)
      ∧ m' ((c.tc : Thread Cert.FourCtxRefIdeal.nD Cert.FourCtxRefIdeal.τ).loc Cert.FourCtxRefIdeal.main_arg1) = m ((c.tc : Thread Cert.FourCtxIdeal.nD Cert.FourCtxIdeal.τ).loc Cert.FourCtxIdeal.main_arg1)
      ∧ m' ((c.tc : Thread Cert.FourCtxRefIdeal.nD Cert.FourCtxRefIdeal.τ).loc Cert.FourCtxRefIdeal.main_arg2) = m ((c.tc : Thread Cert.FourCtxIdeal.nD Cert.FourCtxIdeal.τ).loc Cert.FourCtxIdeal.main_arg2)) →
    ∃ (v0 : (c : Dev Cert.FourCtxIdeal.nD) → Buf (Elt Ideal) ((c.tc : Thread Cert.FourCtxIdeal.nD Cert.FourCtxIdeal.τ).loc Cert.FourCtxIdeal.main_v21)),
      θ_run (Cert.FourCtxIdeal.defs (F := Ideal)) (onTc (τ := Cert.FourCtxIdeal.τ) (Cert.FourCtxIdeal.main (F := Ideal))) ⟨m, fun _ => 0, g⟩ (fun r => ∀ c : Dev Cert.FourCtxIdeal.nD,
          r.2.mem ((c.tc : Thread Cert.FourCtxIdeal.nD Cert.FourCtxIdeal.τ).loc Cert.FourCtxIdeal.main_v21) = v0 c
          ∧ r.2.mem ((c.tc : Thread Cert.FourCtxIdeal.nD Cert.FourCtxIdeal.τ).loc Cert.FourCtxIdeal.main_arg0) = m ((c.tc : Thread Cert.FourCtxIdeal.nD Cert.FourCtxIdeal.τ).loc Cert.FourCtxIdeal.main_arg0)
          ∧ r.2.mem ((c.tc : Thread Cert.FourCtxIdeal.nD Cert.FourCtxIdeal.τ).loc Cert.FourCtxIdeal.main_arg1) = m ((c.tc : Thread Cert.FourCtxIdeal.nD Cert.FourCtxIdeal.τ).loc Cert.FourCtxIdeal.main_arg1)
          ∧ r.2.mem ((c.tc : Thread Cert.FourCtxIdeal.nD Cert.FourCtxIdeal.τ).loc Cert.FourCtxIdeal.main_arg2) = m ((c.tc : Thread Cert.FourCtxIdeal.nD Cert.FourCtxIdeal.τ).loc Cert.FourCtxIdeal.main_arg2))
      ∧ θ_run (Cert.FourCtxRefIdeal.defs (F := Ideal)) (onTc (τ := Cert.FourCtxRefIdeal.τ) (Cert.FourCtxRefIdeal.main (F := Ideal))) ⟨m', fun _ => 0, g'⟩ (fun r => ∀ c : Dev Cert.FourCtxRefIdeal.nD,
          r.2.mem ((c.tc : Thread Cert.FourCtxRefIdeal.nD Cert.FourCtxRefIdeal.τ).loc Cert.FourCtxRefIdeal.main_v22) = v0 c
          ∧ r.2.mem ((c.tc : Thread Cert.FourCtxRefIdeal.nD Cert.FourCtxRefIdeal.τ).loc Cert.FourCtxRefIdeal.main_arg0) = m' ((c.tc : Thread Cert.FourCtxRefIdeal.nD Cert.FourCtxRefIdeal.τ).loc Cert.FourCtxRefIdeal.main_arg0)
          ∧ r.2.mem ((c.tc : Thread Cert.FourCtxRefIdeal.nD Cert.FourCtxRefIdeal.τ).loc Cert.FourCtxRefIdeal.main_arg1) = m' ((c.tc : Thread Cert.FourCtxRefIdeal.nD Cert.FourCtxRefIdeal.τ).loc Cert.FourCtxRefIdeal.main_arg1)
          ∧ r.2.mem ((c.tc : Thread Cert.FourCtxRefIdeal.nD Cert.FourCtxRefIdeal.τ).loc Cert.FourCtxRefIdeal.main_arg2) = m' ((c.tc : Thread Cert.FourCtxRefIdeal.nD Cert.FourCtxRefIdeal.τ).loc Cert.FourCtxRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v14) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hFour : Cert.Four.Facts) (hFourIdeal : Cert.FourIdeal.Facts) (hFourRefIdeal : Cert.FourRefIdeal.Facts) (hExperts : Cert.Experts.Facts) (hExpertsIdeal : Cert.ExpertsIdeal.Facts) (hExpertsRefIdeal : Cert.ExpertsRefIdeal.Facts) (hPre : Cert.Pre.Facts) (hPreIdeal : Cert.PreIdeal.Facts) (hPreRefIdeal : Cert.PreRefIdeal.Facts) (hFourCtx : Cert.FourCtx.Facts) (hFourCtxIdeal : Cert.FourCtxIdeal.Facts) (hFourCtxRefIdeal : Cert.FourCtxRefIdeal.Facts) (hAda : Cert.Ada.Facts) (hAdaIdeal : Cert.AdaIdeal.Facts) (hAdaRefIdeal : Cert.AdaRefIdeal.Facts) (hPre_tables : Cert.Pre_tables.Facts),
    quiescent_Four (hFour := hFour)
    ∧ quiescent_FourIdeal (hFourIdeal := hFourIdeal)
    ∧ quiescent_FourRefIdeal (hFourRefIdeal := hFourRefIdeal)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal) (hPre_tables := hPre_tables)
    ∧ quiescent_Pre (hPre := hPre)
    ∧ quiescent_PreIdeal (hPreIdeal := hPreIdeal)
    ∧ quiescent_PreRefIdeal (hPreRefIdeal := hPreRefIdeal)
    ∧ quiescent_FourCtx (hFourCtx := hFourCtx)
    ∧ quiescent_FourCtxIdeal (hFourCtxIdeal := hFourCtxIdeal)
    ∧ quiescent_FourCtxRefIdeal (hFourCtxRefIdeal := hFourCtxRefIdeal)
    ∧ quiescent_Ada (hAda := hAda)
    ∧ quiescent_AdaIdeal (hAdaIdeal := hAdaIdeal)
    ∧ quiescent_AdaRefIdeal (hAdaRefIdeal := hAdaRefIdeal)
    ∧ preserves_Four_FourIdeal
    ∧ algebraic_FourIdeal_FourRefIdeal (hFourIdeal := hFourIdeal) (hFourRefIdeal := hFourRefIdeal)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_Pre_PreIdeal
    ∧ algebraic_PreIdeal_PreRefIdeal (hPreIdeal := hPreIdeal) (hPreRefIdeal := hPreRefIdeal)
    ∧ preserves_FourCtx_FourCtxIdeal
    ∧ algebraic_FourCtxIdeal_FourCtxRefIdeal (hFourCtxIdeal := hFourCtxIdeal) (hFourCtxRefIdeal := hFourCtxRefIdeal)
    ∧ preserves_Ada_AdaIdeal
    ∧ algebraic_AdaIdeal_AdaRefIdeal (hAdaIdeal := hAdaIdeal) (hAdaRefIdeal := hAdaRefIdeal)
-- ==== Pre_tables.lean ====
abbrev S364 : Shape := ⟨1, ![364]⟩
abbrev S1 : Shape := ⟨1, ![1]⟩
abbrev S372736x512 : Shape := ⟨2, ![372736, 512]⟩
abbrev S4x32x1024x2048 : Shape := ⟨4, ![4, 32, 1024, 2048]⟩
abbrev S4x32x1024x1024 : Shape := ⟨4, ![4, 32, 1024, 1024]⟩
abbrev S32x2048 : Shape := ⟨2, ![32, 2048]⟩
abbrev S32x1024 : Shape := ⟨2, ![32, 1024]⟩
abbrev S_ : Shape := ⟨0, ![]⟩

class Facts : Prop where
  bcast_S_S364 : S_.BroadcastsInDim S364 (![] : Fin 0 → Fin S364.rank)
  reducesTo_S364_S_d0 : S364.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S364 32) (main_arg1 : IVec S1 32) (main_arg2 : FVec F S372736x512 .bf16) (main_arg3 : FVec F S4x32x1024x2048 .f32) (main_arg4 : FVec F S4x32x1024x1024 .f32) (main_arg5 : FVec F S32x2048 .f32) (main_arg6 : FVec F S32x1024 .f32) : IVec S_ 1 :=
  let main_c : IVec S_ 32 := constantI S_ 32 0#32
  let main_v0 : IVec S364 32 := broadcastInDim S364 ![] bcast_S_S364 main_c
  let main_v1 : IVec S364 1 := cmpi .sge main_arg0 main_v0
  let main_c_0 : IVec S_ 32 := constantI S_ 32 32#32
  let main_v2 : IVec S364 32 := broadcastInDim S364 ![] bcast_S_S364 main_c_0
  let main_v3 : IVec S364 1 := cmpi .slt main_arg0 main_v2
  let main_v4 : IVec S364 1 := andi main_v1 main_v3
  let main_c_1 : IVec S_ 1 := constantI S_ 1 1#1
  let main_v5 : IVec S_ 1 := (fun x v => Host.reduce IntOp.andi x v reducesTo_S364_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 364#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Four.lean ====
abbrev S8x4096x256 : Shape := ⟨3, ![8, 4096, 256]⟩
abbrev S256x256 : Shape := ⟨2, ![256, 256]⟩
abbrev S8x1x4096x256 : Shape := ⟨4, ![8, 1, 4096, 256]⟩
abbrev S8x2x4096x256 : Shape := ⟨4, ![8, 2, 4096, 256]⟩
abbrev S8x8192x256 : Shape := ⟨3, ![8, 8192, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x8192 : Shape := ⟨2, ![4096, 8192]⟩
abbrev S512x8192 : Shape := ⟨2, ![512, 8192]⟩
abbrev S1x8192x256 : Shape := ⟨3, ![1, 8192, 256]⟩
abbrev S1x512x256 : Shape := ⟨3, ![1, 512, 256]⟩
abbrev S8192x256 : Shape := ⟨2, ![8192, 256]⟩
abbrev S512x256 : Shape := ⟨2, ![512, 256]⟩

abbrev nBuf : Space → Nat
  | .hbm => 48
  | .vmem => 7
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S256x256, .bf16⟩
  | .hbm, ⟨3, _⟩ => ⟨S8x1x4096x256, .bf16⟩
  | .hbm, ⟨4, _⟩ => ⟨S8x1x4096x256, .bf16⟩
  | .hbm, ⟨5, _⟩ => ⟨S8x2x4096x256, .bf16⟩
  | .hbm, ⟨6, _⟩ => ⟨S8x8192x256, .bf16⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .i32⟩
  | .hbm, ⟨26, _⟩ => ⟨S4096x4096, .i32⟩
  | .hbm, ⟨27, _⟩ => ⟨S4096x4096, .i1⟩
  | .hbm, ⟨28, _⟩ => ⟨S_, .i32⟩
  | .hbm, ⟨29, _⟩ => ⟨S_, .i1⟩
  | .hbm, ⟨30, _⟩ => ⟨S4096x4096, .i1⟩
  | .hbm, ⟨31, _⟩ => ⟨S4096x4096, .i1⟩
  | .hbm, ⟨32, _⟩ => ⟨S4096x4096, .i1⟩
  | .hbm, ⟨33, _⟩ => ⟨S4096x4096, .i32⟩
  | .hbm, ⟨34, _⟩ => ⟨S4096x4096, .i32⟩
  | .hbm, ⟨35, _⟩ => ⟨S4096x4096, .i32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x8192, .f32⟩
  | .hbm, ⟨43, _⟩ => ⟨S_, .f32⟩
  | .hbm, ⟨44, _⟩ => ⟨S4096x8192, .f32⟩
  | .hbm, ⟨45, _⟩ => ⟨S4096x8192, .f32⟩
  | .hbm, ⟨46, _⟩ => ⟨S4096x8192, .bf16⟩
  | .hbm, ⟨47, _⟩ => ⟨S8x4096x256, .f32⟩
  | .local _ .vmem, ⟨0, _⟩ => ⟨S512x8192, .bf16⟩
  | .local _ .vmem, ⟨1, _⟩ => ⟨S512x8192, .bf16⟩
  | .local _ .vmem, ⟨2, _⟩ => ⟨S1x8192x256, .bf16⟩
  | .local _ .vmem, ⟨3, _⟩ => ⟨S1x8192x256, .bf16⟩
  | .local _ .vmem, ⟨4, _⟩ => ⟨S256x256, .bf16⟩
  | .local _ .vmem, ⟨5, _⟩ => ⟨S1x512x256, .f32⟩
  | .local _ .vmem, ⟨6, _⟩ => ⟨S1x512x256, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FourRefIdeal.lean ====
abbrev S8x4096x256 : Shape := ⟨3, ![8, 4096, 256]⟩
abbrev S256x256 : Shape := ⟨2, ![256, 256]⟩
abbrev S4096x4096 : Shape := ⟨2, ![4096, 4096]⟩
abbrev S_ : Shape := ⟨0, ![]⟩
abbrev S8x256x4096 : Shape := ⟨3, ![8, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S256x256, .bf16⟩
  | .hbm, ⟨3, _⟩ => ⟨S4096x4096, .i32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8x256x4096, .f32⟩
  | .hbm, ⟨24, _⟩ => ⟨S8x4096x256, .f32⟩
  | .hbm, ⟨25, _⟩ => ⟨S8x256x4096, .f32⟩
  | .hbm, ⟨26, _⟩ => ⟨S8x4096x256, .f32⟩
  | .hbm, ⟨27, _⟩ => ⟨S8x4096x256, .f32⟩
  | .hbm, ⟨28, _⟩ => ⟨S8x4096x256, .bf16⟩
  | .hbm, ⟨29, _⟩ => ⟨S8x4096x256, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Experts.lean ====
abbrev S364 : Shape := ⟨1, ![364]⟩
abbrev S1 : Shape := ⟨1, ![1]⟩
abbrev S372736x512 : Shape := ⟨2, ![372736, 512]⟩
abbrev S4x32x1024x2048 : Shape := ⟨4, ![4, 32, 1024, 2048]⟩
abbrev S4x32x1024x1024 : Shape := ⟨4, ![4, 32, 1024, 1024]⟩
abbrev S32x2048 : Shape := ⟨2, ![32, 2048]⟩
abbrev S32x1024 : Shape := ⟨2, ![32, 1024]⟩
abbrev S32x1x1024x2 : Shape := ⟨4, ![32, 1, 1024, 2]⟩
abbrev S32x1x1024x1 : Shape := ⟨4, ![32, 1, 1024, 1]⟩
abbrev S32x1x1024 : Shape := ⟨3, ![32, 1, 1024]⟩
abbrev S256x256 : Shape := ⟨2, ![256, 256]⟩
abbrev S_ : Shape := ⟨0, ![]⟩
abbrev S1024x512 : Shape := ⟨2, ![1024, 512]⟩
abbrev S1x1x1024x2048 : Shape := ⟨4, ![1, 1, 1024, 2048]⟩
abbrev S1x1x1024x1024 : Shape := ⟨4, ![1, 1, 1024, 1024]⟩
abbrev S1x1x1024 : Shape := ⟨3, ![1, 1, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 35
  | .vmem => 18
  | .smem => 2
  | _ => 0

abbrev bufTy : (tb : Table) → Fin (tcTables nBuf tb) → BufTy
  | .hbm, ⟨0, _⟩ => ⟨S372736x512, .bf16⟩
  | .hbm, ⟨1, _⟩ => ⟨S4x32x1024x2048, .f32⟩
  | .hbm, ⟨2, _⟩ => ⟨S4x32x1024x1024, .f32⟩
  | .hbm, ⟨3, _⟩ => ⟨S32x2048, .f32⟩
  | .hbm, ⟨4, _⟩ => ⟨S32x1024, .f32⟩
  | .hbm, ⟨5, _⟩ => ⟨S32x1x1024x2, .f32⟩
  | .hbm, ⟨6, _⟩ => ⟨S32x1x1024x1, .f32⟩
  | .hbm, ⟨7, _⟩ => ⟨S32x1x1024, .f32⟩
  | .hbm, ⟨8, _⟩ => ⟨S32x1x1024x1, .f32⟩
  | .hbm, ⟨9, _⟩ => ⟨S32x1x1024, .f32⟩
  | .hbm, ⟨10, _⟩ => ⟨S32x1x1024, .f32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i1⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .i1⟩
  | .hbm, ⟨32, _⟩ => ⟨S256x256, .i1⟩
  | .hbm, ⟨33, _⟩ => ⟨S256x256, .bf16⟩
  | .hbm, ⟨34, _⟩ => ⟨S372736x512, .bf16⟩
  | .local _ .vmem, ⟨0, _⟩ => ⟨S1024x512, .bf16⟩
  | .local _ .vmem, ⟨1, _⟩ => ⟨S1024x512, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S364, .i32⟩
  | .local _ .smem, ⟨1, _⟩ => ⟨S1, .i32⟩
  | _, _ => ⟨S372736x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![364], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S364.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S364) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S364.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S364) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S364.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S364) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S364.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S364) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S364.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S364) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
variable {F : FTy → Type} [FloatOps F]
-- ==== ExpertsRefIdeal.lean ====
abbrev S364 : Shape := ⟨1, ![364]⟩
abbrev S1 : Shape := ⟨1, ![1]⟩
abbrev S372736x512 : Shape := ⟨2, ![372736, 512]⟩
abbrev S4x32x1024x2048 : Shape := ⟨4, ![4, 32, 1024, 2048]⟩
abbrev S4x32x1024x1024 : Shape := ⟨4, ![4, 32, 1024, 1024]⟩
abbrev S32x2048 : Shape := ⟨2, ![32, 2048]⟩
abbrev S32x1024 : Shape := ⟨2, ![32, 1024]⟩
abbrev S364x512x2x512 : Shape := ⟨4, ![364, 512, 2, 512]⟩
abbrev S364x512x1x512 : Shape := ⟨4, ![364, 512, 1, 512]⟩
abbrev S364x512x512 : Shape := ⟨3, ![364, 512, 512]⟩
abbrev S364x512x1024 : Shape := ⟨3, ![364, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S364x1 : Shape := ⟨2, ![364, 1]⟩
abbrev S364x1024x2048 : Shape := ⟨3, ![364, 1024, 2048]⟩
abbrev S364x512x2048 : Shape := ⟨3, ![364, 512, 2048]⟩
abbrev S364x2048 : Shape := ⟨2, ![364, 2048]⟩
abbrev S364x1x2048 : Shape := ⟨3, ![364, 1, 2048]⟩
abbrev S1x32x1024x1024 : Shape := ⟨4, ![1, 32, 1024, 1024]⟩
abbrev S32x1024x1024 : Shape := ⟨3, ![32, 1024, 1024]⟩
abbrev S364x1024x1024 : Shape := ⟨3, ![364, 1024, 1024]⟩
abbrev S364x1024 : Shape := ⟨2, ![364, 1024]⟩
abbrev S364x1x1024 : Shape := ⟨3, ![364, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S364, .i32⟩
  | .hbm, ⟨1, _⟩ => ⟨S1, .i32⟩
  | .hbm, ⟨2, _⟩ => ⟨S372736x512, .bf16⟩
  | .hbm, ⟨3, _⟩ => ⟨S4x32x1024x2048, .f32⟩
  | .hbm, ⟨4, _⟩ => ⟨S4x32x1024x1024, .f32⟩
  | .hbm, ⟨5, _⟩ => ⟨S32x2048, .f32⟩
  | .hbm, ⟨6, _⟩ => ⟨S32x1024, .f32⟩
  | .hbm, ⟨7, _⟩ => ⟨S372736x512, .f32⟩
  | .hbm, ⟨8, _⟩ => ⟨S364x512x2x512, .f32⟩
  | .hbm, ⟨9, _⟩ => ⟨S364x512x1x512, .f32⟩
  | .hbm, ⟨10, _⟩ => ⟨S364x512x512, .f32⟩
  | .hbm, ⟨11, _⟩ => ⟨S364x512x1x512, .f32⟩
  | .hbm, ⟨12, _⟩ => ⟨S364x512x512, .f32⟩
  | .hbm, ⟨13, _⟩ => ⟨S364x512x1024, .f32⟩
  | .hbm, ⟨14, _⟩ => ⟨S1x32x1024x2048, .f32⟩
  | .hbm, ⟨15, _⟩ => ⟨S32x1024x2048, .f32⟩
  | .hbm, ⟨16, _⟩ => ⟨S_, .i32⟩
  | .hbm, ⟨17, _⟩ => ⟨S364, .i32⟩
  | .hbm, ⟨18, _⟩ => ⟨S364, .i1⟩
  | .hbm, ⟨19, _⟩ => ⟨S_, .i32⟩
  | .hbm, ⟨20, _⟩ => ⟨S364, .i32⟩
  | .hbm, ⟨21, _⟩ => ⟨S364, .i32⟩
  | .hbm, ⟨22, _⟩ => ⟨S364, .i32⟩
  | .hbm, ⟨23, _⟩ => ⟨S364x1, .i32⟩
  | .hbm, ⟨24, _⟩ => ⟨S364x1024x2048, .f32⟩
  | .hbm, ⟨25, _⟩ => ⟨S364x512x2048, .f32⟩
  | .hbm, ⟨26, _⟩ => ⟨S_, .i32⟩
  | .hbm, ⟨27, _⟩ => ⟨S364, .i32⟩
  | .hbm, ⟨28, _⟩ => ⟨S364, .i1⟩
  | .hbm, ⟨29, _⟩ => ⟨S_, .i32⟩
  | .hbm, ⟨30, _⟩ => ⟨S364, .i32⟩
  | .hbm, ⟨31, _⟩ => ⟨S364, .i32⟩
  | .hbm, ⟨32, _⟩ => ⟨S364, .i32⟩
  | .hbm, ⟨33, _⟩ => ⟨S364x1, .i32⟩
  | .hbm, ⟨34, _⟩ => ⟨S364x2048, .f32⟩
  | .hbm, ⟨35, _⟩ => ⟨S364x1x2048, .f32⟩
  | .hbm, ⟨36, _⟩ => ⟨S364x512x2048, .f32⟩
  | .hbm, ⟨37, _⟩ => ⟨S364x512x2048, .f32⟩
  | .hbm, ⟨38, _⟩ => ⟨S364x512x1024, .f32⟩
  | .hbm, ⟨39, _⟩ => ⟨S_, .f32⟩
  | .hbm, ⟨40, _⟩ => ⟨S364x512x1024, .f32⟩
  | .hbm, ⟨41, _⟩ => ⟨S364x512x1024, .f32⟩
  | .hbm, ⟨42, _⟩ => ⟨S364x512x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S364x512x1024, .f32⟩
  | .hbm, ⟨47, _⟩ => ⟨S364x512x1024, .f32⟩
  | .hbm, ⟨48, _⟩ => ⟨S_, .f32⟩
  | .hbm, ⟨49, _⟩ => ⟨S364x512x1024, .f32⟩
  | .hbm, ⟨50, _⟩ => ⟨S364x512x1024, .f32⟩
  | .hbm, ⟨51, _⟩ => ⟨S_, .f32⟩
  | .hbm, ⟨52, _⟩ => ⟨S364x512x1024, .f32⟩
  | .hbm, ⟨53, _⟩ => ⟨S364x512x1024, .f32⟩
  | .hbm, ⟨54, _⟩ => ⟨S364x512x1024, .f32⟩
  | .hbm, ⟨55, _⟩ => ⟨S_, .f32⟩
  | .hbm, ⟨56, _⟩ => ⟨S364x512x1024, .f32⟩
  | .hbm, ⟨57, _⟩ => ⟨S364x512x1024, .f32⟩
  | .hbm, ⟨58, _⟩ => ⟨S364x512x1024, .f32⟩
  | .hbm, ⟨59, _⟩ => ⟨S364x512x1024, .f32⟩
  | .hbm, ⟨60, _⟩ => ⟨S_, .f32⟩
  | .hbm, ⟨61, _⟩ => ⟨S364x512x1024, .f32⟩
  | .hbm, ⟨62, _⟩ => ⟨S364x512x1024, .f32⟩
  | .hbm, ⟨63, _⟩ => ⟨S_, .f32⟩
  | .hbm, ⟨64, _⟩ => ⟨S364x512x1024, .f32⟩
  | .hbm, ⟨65, _⟩ => ⟨S364x512x1024, .f32⟩
  | .hbm, ⟨66, _⟩ => ⟨S364x512x1024, .f32⟩
  | .hbm, ⟨67, _⟩ => ⟨S1x32x1024x1024, .f32⟩
  | .hbm, ⟨68, _⟩ => ⟨S32x1024x1024, .f32⟩
  | .hbm, ⟨69, _⟩ => ⟨S_, .i32⟩
  | .hbm, ⟨70, _⟩ => ⟨S364, .i32⟩
  | .hbm, ⟨71, _⟩ => ⟨S364, .i1⟩
  | .hbm, ⟨72, _⟩ => ⟨S_, .i32⟩
  | .hbm, ⟨73, _⟩ => ⟨S364, .i32⟩
  | .hbm, ⟨74, _⟩ => ⟨S364, .i32⟩
  | .hbm, ⟨75, _⟩ => ⟨S364, .i32⟩
  | .hbm, ⟨76, _⟩ => ⟨S364x1, .i32⟩
  | .hbm, ⟨77, _⟩ => ⟨S364x1024x1024, .f32⟩
  | .hbm, ⟨78, _⟩ => ⟨S364x512x1024, .f32⟩
  | .hbm, ⟨79, _⟩ => ⟨S_, .i32⟩
  | .hbm, ⟨80, _⟩ => ⟨S364, .i32⟩
  | .hbm, ⟨81, _⟩ => ⟨S364, .i1⟩
  | .hbm, ⟨82, _⟩ => ⟨S_, .i32⟩
  | .hbm, ⟨83, _⟩ => ⟨S364, .i32⟩
  | .hbm, ⟨84, _⟩ => ⟨S364, .i32⟩
  | .hbm, ⟨85, _⟩ => ⟨S364, .i32⟩
  | .hbm, ⟨86, _⟩ => ⟨S364x1, .i32⟩
  | .hbm, ⟨87, _⟩ => ⟨S364x1024, .f32⟩
  | .hbm, ⟨88, _⟩ => ⟨S364x1x1024, .f32⟩
  | .hbm, ⟨89, _⟩ => ⟨S364x512x1024, .f32⟩
  | .hbm, ⟨90, _⟩ => ⟨S364x512x1024, .f32⟩
  | .hbm, ⟨91, _⟩ => ⟨S364x512x1024, .i32⟩
  | .hbm, ⟨92, _⟩ => ⟨S_, .i32⟩
  | .hbm, ⟨93, _⟩ => ⟨S364x512x1024, .i32⟩
  | .hbm, ⟨94, _⟩ => ⟨S364x512x1024, .i1⟩
  | .hbm, ⟨95, _⟩ => ⟨S_, .f32⟩
  | .hbm, ⟨96, _⟩ => ⟨S_, .f32⟩
  | .hbm, ⟨97, _⟩ => ⟨S364x512x1024, .f32⟩
  | .hbm, ⟨98, _⟩ => ⟨S364x512x1024, .f32⟩
  | .hbm, ⟨99, _⟩ => ⟨S364x512x1024, .bf16⟩
  | .hbm, ⟨100, _⟩ => ⟨S364x512x512, .bf16⟩
  | .hbm, ⟨101, _⟩ => ⟨S364x512x512, .bf16⟩
  | .hbm, ⟨102, _⟩ => ⟨S364x512x1x512, .bf16⟩
  | .hbm, ⟨103, _⟩ => ⟨S364x512x1x512, .bf16⟩
  | .hbm, ⟨104, _⟩ => ⟨S364x512x2x512, .bf16⟩
  | .hbm, ⟨105, _⟩ => ⟨S372736x512, .bf16⟩
  | _, _ => ⟨S364, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Pre.lean ====
abbrev S8x4352x1024 : Shape := ⟨3, ![8, 4352, 1024]⟩
abbrev S8x2x8x1024 : Shape := ⟨4, ![8, 2, 8, 1024]⟩
abbrev S1024 : Shape := ⟨1, ![1024]⟩
abbrev S1024x2088 : Shape := ⟨2, ![1024, 2088]⟩
abbrev S5x512 : Shape := ⟨2, ![5, 512]⟩
abbrev S512 : Shape := ⟨1, ![512]⟩
abbrev S256x512 : Shape := ⟨2, ![256, 512]⟩
abbrev S1x1024 : Shape := ⟨2, ![1, 1024]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x8 : Shape := ⟨2, ![1024, 8]⟩
abbrev S_ : Shape := ⟨0, ![]⟩
abbrev S1024x88 : Shape := ⟨2, ![1024, 88]⟩
abbrev S1024x2176 : Shape := ⟨2, ![1024, 2176]⟩
abbrev S8x512 : Shape := ⟨2, ![8, 512]⟩
abbrev S1x512 : Shape := ⟨2, ![1, 512]⟩
abbrev S8x4352x2176 : Shape := ⟨3, ![8, 4352, 2176]⟩
abbrev S8x2x4096x256 : Shape := ⟨4, ![8, 2, 4096, 256]⟩
abbrev S8x2x256x256 : Shape := ⟨4, ![8, 2, 256, 256]⟩
abbrev S256x34816 : Shape := ⟨2, ![256, 34816]⟩
abbrev S1x256x1024 : Shape := ⟨3, ![1, 256, 1024]⟩
abbrev S1x1x8x1024 : Shape := ⟨4, ![1, 1, 8, 1024]⟩
abbrev S1x256x2176 : Shape := ⟨3, ![1, 256, 2176]⟩
abbrev S1x2x256x256 : Shape := ⟨4, ![1, 2, 256, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x2176 : Shape := ⟨2, ![256, 2176]⟩
abbrev S256x1536 : Shape := ⟨2, ![256, 1536]⟩
abbrev S1x256x1536 : Shape := ⟨3, ![1, 256, 1536]⟩
abbrev S256x128 : Shape := ⟨2, ![256, 128]⟩
abbrev S1x256x128 : Shape := ⟨3, ![1, 256, 128]⟩
abbrev S1x256x512 : Shape := ⟨3, ![1, 256, 512]⟩
abbrev S1x1x256x256 : Shape := ⟨4, ![1, 1, 256, 256]⟩

abbrev nBuf : Space → Nat
  | .hbm => 31
  | .vmem => 17
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S1024, .f32⟩
  | .hbm, ⟨3, _⟩ => ⟨S1024x2088, .f32⟩
  | .hbm, ⟨4, _⟩ => ⟨S5x512, .f32⟩
  | .hbm, ⟨5, _⟩ => ⟨S512, .f32⟩
  | .hbm, ⟨6, _⟩ => ⟨S256x512, .bf16⟩
  | .hbm, ⟨7, _⟩ => ⟨S1x1024, .f32⟩
  | .hbm, ⟨8, _⟩ => ⟨S1024x256, .f32⟩
  | .hbm, ⟨9, _⟩ => ⟨S1024x256, .f32⟩
  | .hbm, ⟨10, _⟩ => ⟨S1024x128, .f32⟩
  | .hbm, ⟨11, _⟩ => ⟨S1024x128, .f32⟩
  | .hbm, ⟨12, _⟩ => ⟨S1024x256, .f32⟩
  | .hbm, ⟨13, _⟩ => ⟨S1024x256, .f32⟩
  | .hbm, ⟨14, _⟩ => ⟨S1024x32, .f32⟩
  | .hbm, ⟨15, _⟩ => ⟨S1024x256, .f32⟩
  | .hbm, ⟨16, _⟩ => ⟨S1024x512, .f32⟩
  | .hbm, ⟨17, _⟩ => ⟨S1024x8, .f32⟩
  | .hbm, ⟨18, _⟩ => ⟨S_, .f32⟩
  | .hbm, ⟨19, _⟩ => ⟨S1024x88, .f32⟩
  | .hbm, ⟨20, _⟩ => ⟨S1024x128, .f32⟩
  | .hbm, ⟨21, _⟩ => ⟨S1024x2176, .f32⟩
  | .hbm, ⟨22, _⟩ => ⟨S1024x2176, .bf16⟩
  | .hbm, ⟨23, _⟩ => ⟨S_, .i32⟩
  | .hbm, ⟨24, _⟩ => ⟨S_, .f32⟩
  | .hbm, ⟨25, _⟩ => ⟨S8x512, .f32⟩
  | .hbm, ⟨26, _⟩ => ⟨S1x512, .f32⟩
  | .hbm, ⟨27, _⟩ => ⟨S8x4352x2176, .f32⟩
  | .hbm, ⟨28, _⟩ => ⟨S8x2x4096x256, .bf16⟩
  | .hbm, ⟨29, _⟩ => ⟨S8x2x256x256, .bf16⟩
  | .hbm, ⟨30, _⟩ => ⟨S256x34816, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1024, .f32⟩
  | .local _ .vmem, ⟨5, _⟩ => ⟨S1024x2176, .bf16⟩
  | .local _ .vmem, ⟨6, _⟩ => ⟨S8x512, .f32⟩
  | .local _ .vmem, ⟨7, _⟩ => ⟨S1x512, .f32⟩
  | .local _ .vmem, ⟨8, _⟩ => ⟨S256x512, .bf16⟩
  | .local _ .vmem, ⟨9, _⟩ => ⟨S1x256x2176, .f32⟩
  | .local _ .vmem, ⟨10, _⟩ => ⟨S1x256x2176, .f32⟩
  | .local _ .vmem, ⟨11, _⟩ => ⟨S1x2x256x256, .bf16⟩
  | .local _ .vmem, ⟨12, _⟩ => ⟨S1x2x256x256, .bf16⟩
  | .local _ .vmem, ⟨13, _⟩ => ⟨S1x2x256x256, .bf16⟩
  | .local _ .vmem, ⟨14, _⟩ => ⟨S1x2x256x256, .bf16⟩
  | .local _ .vmem, ⟨15, _⟩ => ⟨S256x256, .bf16⟩
  | .local _ .vmem, ⟨16, _⟩ => ⟨S256x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c0_i32_60 : BitVec 32 := 0#32
  let v160 : BitVec 1 := Scalar.cmpi .sgt arg1 c0_i32_60
  let v161 : BitVec 32 := Scalar.extui v160
  let c0_i32_61 : BitVec 32 := 0#32
  let v162 : BitVec 1 := Scalar.cmpi .ne v161 c0_i32_61
  v162

def k0_cond1 (i : grid0.Coords) : BitVec 1 :=
  let arg1 : BitVec 32 := BitVec.ofNat 32 (i 1).val
  let c0_i32_58 : BitVec 32 := 0#32
  let v157 : BitVec 1 := Scalar.cmpi .eq arg1 c0_i32_58
  let v158 : BitVec 32 := Scalar.extui v157
  let c0_i32_59 : BitVec 32 := 0#32
  let v159 : BitVec 1 := Scalar.cmpi .ne v158 c0_i32_59
  v159

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PreRefIdeal.lean ====
abbrev S8x4352x1024 : Shape := ⟨3, ![8, 4352, 1024]⟩
abbrev S8x2x8x1024 : Shape := ⟨4, ![8, 2, 8, 1024]⟩
abbrev S1024 : Shape := ⟨1, ![1024]⟩
abbrev S1024x2088 : Shape := ⟨2, ![1024, 2088]⟩
abbrev S5x512 : Shape := ⟨2, ![5, 512]⟩
abbrev S512 : Shape := ⟨1, ![512]⟩
abbrev S256x512 : Shape := ⟨2, ![256, 512]⟩
abbrev S8x256x1024 : Shape := ⟨3, ![8, 256, 1024]⟩
abbrev S8x1x8x1024 : Shape := ⟨4, ![8, 1, 8, 1024]⟩
abbrev S8x8x1024 : Shape := ⟨3, ![8, 8, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x256x2088 : Shape := ⟨3, ![8, 256, 2088]⟩
abbrev S8x4096x1024 : Shape := ⟨3, ![8, 4096, 1024]⟩
abbrev S8x4096 : Shape := ⟨2, ![8, 4096]⟩
abbrev S8x4096x1 : Shape := ⟨3, ![8, 4096, 1]⟩
abbrev S8x4096x2088 : Shape := ⟨3, ![8, 4096, 2088]⟩
abbrev S8x256x512 : Shape := ⟨3, ![8, 256, 512]⟩
abbrev S8x260x512 : Shape := ⟨3, ![8, 260, 512]⟩
abbrev S1x512 : Shape := ⟨2, ![1, 512]⟩
abbrev S1x1x512 : Shape := ⟨3, ![1, 1, 512]⟩
abbrev S8x4096x512 : Shape := ⟨3, ![8, 4096, 512]⟩
abbrev S512x64x512 : Shape := ⟨3, ![512, 64, 512]⟩
abbrev S512x68x512 : Shape := ⟨3, ![512, 68, 512]⟩
abbrev S8x4352x2088 : Shape := ⟨3, ![8, 4352, 2088]⟩
abbrev S8x4352x512 : Shape := ⟨3, ![8, 4352, 512]⟩
abbrev S8x4352x1280 : Shape := ⟨3, ![8, 4352, 1280]⟩
abbrev S8x4352x256 : Shape := ⟨3, ![8, 4352, 256]⟩
abbrev S8x4352x32 : Shape := ⟨3, ![8, 4352, 32]⟩
abbrev S8x4352x8 : Shape := ⟨3, ![8, 4352, 8]⟩
abbrev S8x4352x88 : Shape := ⟨3, ![8, 4352, 88]⟩
abbrev S8x4352x2176 : Shape := ⟨3, ![8, 4352, 2176]⟩
abbrev S8x4096x256 : Shape := ⟨3, ![8, 4096, 256]⟩
abbrev S8x1x4096x256 : Shape := ⟨4, ![8, 1, 4096, 256]⟩
abbrev S8x2x4096x256 : Shape := ⟨4, ![8, 2, 4096, 256]⟩
abbrev S8x256x256 : Shape := ⟨3, ![8, 256, 256]⟩
abbrev S8x1x256x256 : Shape := ⟨4, ![8, 1, 256, 256]⟩
abbrev S8x2x256x256 : Shape := ⟨4, ![8, 2, 256, 256]⟩
abbrev S34816x256 : Shape := ⟨2, ![34816, 256]⟩
abbrev S256x34816 : Shape := ⟨2, ![256, 34816]⟩

abbrev nBuf : Space → Nat
  | .hbm => 195
  | .vmem => 0
  | .smem => 0
  | _ => 0

abbrev hbmTy0_0 (i : Nat) : BufTy := match i % 128 with
  | 0 => ⟨S8x4352x1024, .f32⟩
  | 1 => ⟨S8x2x8x1024, .f32⟩
  | 2 => ⟨S1024, .f32⟩
  | 3 => ⟨S1024x2088, .f32⟩
  | 4 => ⟨S5x512, .f32⟩
  | 5 => ⟨S512, .f32⟩
  | 6 => ⟨S256x512, .bf16⟩
  | 7 => ⟨S8x256x1024, .f32⟩
  | 8 => ⟨S8x1x8x1024, .f32⟩
  | 9 => ⟨S8x8x1024, .f32⟩
  | 10 => ⟨S8x256x1024, .f32⟩
  | 11 => ⟨S_, .f32⟩
  | 12 => ⟨S8x256, .f32⟩
  | 13 => ⟨S8x256x1, .f32⟩
  | 14 => ⟨S_, .f32⟩
  | 15 => ⟨S8x256x1, .f32⟩
  | 16 => ⟨S8x256x1, .f32⟩
  | 17 => ⟨S_, .f32⟩
  | 18 => ⟨S8x256x1, .f32⟩
  | 19 => ⟨S8x256x1, .f32⟩
  | 20 => ⟨S8x256x1, .f32⟩
  | 21 => ⟨S8x256x1024, .f32⟩
  | 22 => ⟨S8x256x1024, .f32⟩
  | 23 => ⟨S1x1x1024, .f32⟩
  | 24 => ⟨S8x256x1024, .f32⟩
  | 25 => ⟨S8x256x1024, .f32⟩
  | 26 => ⟨S8x1x1024, .f32⟩
  | 27 => ⟨S_, .f32⟩
  | 28 => ⟨S8x1x1024, .f32⟩
  | 29 => ⟨S8x1x1024, .f32⟩
  | 30 => ⟨S8x256x1024, .f32⟩
  | 31 => ⟨S8x256x1024, .f32⟩
  | 32 => ⟨S8x1x1024, .f32⟩
  | 33 => ⟨S8x256x1024, .f32⟩
  | 34 => ⟨S8x256x1024, .f32⟩
  | 35 => ⟨S8x256x2088, .f32⟩
  | 36 => ⟨S8x4096x1024, .f32⟩
  | 37 => ⟨S8x1x8x1024, .f32⟩
  | 38 => ⟨S8x8x1024, .f32⟩
  | 39 => ⟨S8x4096x1024, .f32⟩
  | 40 => ⟨S_, .f32⟩
  | 41 => ⟨S8x4096, .f32⟩
  | 42 => ⟨S8x4096x1, .f32⟩
  | 43 => ⟨S_, .f32⟩
  | 44 => ⟨S8x4096x1, .f32⟩
  | 45 => ⟨S8x4096x1, .f32⟩
  | 46 => ⟨S_, .f32⟩
  | 47 => ⟨S8x4096x1, .f32⟩
  | 48 => ⟨S8x4096x1, .f32⟩
  | 49 => ⟨S8x4096x1, .f32⟩
  | 50 => ⟨S8x4096x1024, .f32⟩
  | 51 => ⟨S8x4096x1024, .f32⟩
  | 52 => ⟨S1x1x1024, .f32⟩
  | 53 => ⟨S8x4096x1024, .f32⟩
  | 54 => ⟨S8x4096x1024, .f32⟩
  | 55 => ⟨S8x1x1024, .f32⟩
  | 56 => ⟨S_, .f32⟩
  | 57 => ⟨S8x1x1024, .f32⟩
  | 58 => ⟨S8x1x1024, .f32⟩
  | 59 => ⟨S8x4096x1024, .f32⟩
  | 60 => ⟨S8x4096x1024, .f32⟩
  | 61 => ⟨S8x1x1024, .f32⟩
  | 62 => ⟨S8x4096x1024, .f32⟩
  | 63 => ⟨S8x4096x1024, .f32⟩
  | 64 => ⟨S8x4096x2088, .f32⟩
  | 65 => ⟨S8x256x512, .f32⟩
  | 66 => ⟨S_, .i32⟩
  | 67 => ⟨S_, .f32⟩
  | 68 => ⟨S8x260x512, .f32⟩
  | 69 => ⟨S8x256x512, .f32⟩
  | 70 => ⟨S1x512, .f32⟩
  | 71 => ⟨S512, .f32⟩
  | 72 => ⟨S1x1x512, .f32⟩
  | 73 => ⟨S8x256x512, .f32⟩
  | 74 => ⟨S8x256x512, .f32⟩
  | 75 => ⟨S_, .f32⟩
  | 76 => ⟨S8x256x512, .f32⟩
  | 77 => ⟨S8x256x512, .f32⟩
  | 78 => ⟨S8x256x512, .f32⟩
  | 79 => ⟨S1x512, .f32⟩
  | 80 => ⟨S512, .f32⟩
  | 81 => ⟨S1x1x512, .f32⟩
  | 82 => ⟨S8x256x512, .f32⟩
  | 83 => ⟨S8x256x512, .f32⟩
  | 84 => ⟨S8x256x512, .f32⟩
  | 85 => ⟨S8x256x512, .f32⟩
  | 86 => ⟨S1x512, .f32⟩
  | 87 => ⟨S512, .f32⟩
  | 88 => ⟨S1x1x512, .f32⟩
  | 89 => ⟨S8x256x512, .f32⟩
  | 90 => ⟨S8x256x512, .f32⟩
  | 91 => ⟨S8x256x512, .f32⟩
  | 92 => ⟨S8x256x512, .f32⟩
  | 93 => ⟨S1x512, .f32⟩
  | 94 => ⟨S512, .f32⟩
  | 95 => ⟨S1x1x512, .f32⟩
  | 96 => ⟨S8x256x512, .f32⟩
  | 97 => ⟨S8x256x512, .f32⟩
  | 98 => ⟨S8x256x512, .f32⟩
  | 99 => ⟨S8x256x512, .f32⟩
  | 100 => ⟨S1x512, .f32⟩
  | 101 => ⟨S512, .f32⟩
  | 102 => ⟨S1x1x512, .f32⟩
  | 103 => ⟨S8x256x512, .f32⟩
  | 104 => ⟨S8x256x512, .f32⟩
  | 105 => ⟨S8x256x512, .f32⟩
  | 106 => ⟨S1x1x512, .f32⟩
  | 107 => ⟨S8x256x512, .f32⟩
  | 108 => ⟨S8x256x512, .f32⟩
  | 109 => ⟨S8x4096x512, .f32⟩
  | 110 => ⟨S512x64x512, .f32⟩
  | 111 => ⟨S_, .i32⟩
  | 112 => ⟨S_, .f32⟩
  | 113 => ⟨S512x68x512, .f32⟩
  | 114 => ⟨S512x64x512, .f32⟩
  | 115 => ⟨S1x512, .f32⟩
  | 116 => ⟨S512, .f32⟩
  | 117 => ⟨S1x1x512, .f32⟩
  | 118 => ⟨S512x64x512, .f32⟩
  | 119 => ⟨S512x64x512, .f32⟩
  | 120 => ⟨S_, .f32⟩
  | 121 => ⟨S512x64x512, .f32⟩
  | 122 => ⟨S512x64x512, .f32⟩
  | 123 => ⟨S512x64x512, .f32⟩
  | 124 => ⟨S1x512, .f32⟩
  | 125 => ⟨S512, .f32⟩
  | 126 => ⟨S1x1x512, .f32⟩
  | 127 => ⟨S512x64x512, .f32⟩
  | _ => ⟨S8x4352x1024, .f32⟩

abbrev hbmTy0_1 (i : Nat) : BufTy := match i % 128 with
  | 0 => ⟨S512x64x512, .f32⟩
  | 1 => ⟨S512x64x512, .f32⟩
  | 2 => ⟨S512x64x512, .f32⟩
  | 3 => ⟨S1x512, .f32⟩
  | 4 => ⟨S512, .f32⟩
  | 5 => ⟨S1x1x512, .f32⟩
  | 6 => ⟨S512x64x512, .f32⟩
  | 7 => ⟨S512x64x512, .f32⟩
  | 8 => ⟨S512x64x512, .f32⟩
  | 9 => ⟨S512x64x512, .f32⟩
  | 10 => ⟨S1x512, .f32⟩
  | 11 => ⟨S512, .f32⟩
  | 12 => ⟨S1x1x512, .f32⟩
  | 13 => ⟨S512x64x512, .f32⟩
  | 14 => ⟨S512x64x512, .f32⟩
  | 15 => ⟨S512x64x512, .f32⟩
  | 16 => ⟨S512x64x512, .f32⟩
  | 17 => ⟨S1x512, .f32⟩
  | 18 => ⟨S512, .f32⟩
  | 19 => ⟨S1x1x512, .f32⟩
  | 20 => ⟨S512x64x512, .f32⟩
  | 21 => ⟨S512x64x512, .f32⟩
  | 22 => ⟨S512x64x512, .f32⟩
  | 23 => ⟨S1x1x512, .f32⟩
  | 24 => ⟨S512x64x512, .f32⟩
  | 25 => ⟨S512x64x512, .f32⟩
  | 26 => ⟨S8x4096x512, .f32⟩
  | 27 => ⟨S8x4352x2088, .f32⟩
  | 28 => ⟨S8x4352x512, .f32⟩
  | 29 => ⟨S8x4352x512, .f32⟩
  | 30 => ⟨S8x4352x512, .f32⟩
  | 31 => ⟨S_, .f32⟩
  | 32 => ⟨S8x4352x512, .f32⟩
  | 33 => ⟨S8x4352x512, .f32⟩
  | 34 => ⟨S_, .f32⟩
  | 35 => ⟨S8x4352x512, .f32⟩
  | 36 => ⟨S8x4352x512, .f32⟩
  | 37 => ⟨S8x4352x512, .f32⟩
  | 38 => ⟨S8x4352x1280, .f32⟩
  | 39 => ⟨S8x4352x256, .f32⟩
  | 40 => ⟨S8x4352x32, .f32⟩
  | 41 => ⟨S8x4352x8, .f32⟩
  | 42 => ⟨S_, .f32⟩
  | 43 => ⟨S8x4352x88, .f32⟩
  | 44 => ⟨S8x4352x2176, .f32⟩
  | 45 => ⟨S8x4096x256, .f32⟩
  | 46 => ⟨S256x512, .f32⟩
  | 47 => ⟨S8x4096x512, .f32⟩
  | 48 => ⟨S8x4096x256, .f32⟩
  | 49 => ⟨S8x4096x256, .f32⟩
  | 50 => ⟨S8x1x4096x256, .f32⟩
  | 51 => ⟨S8x1x4096x256, .f32⟩
  | 52 => ⟨S8x2x4096x256, .f32⟩
  | 53 => ⟨S8x2x4096x256, .bf16⟩
  | 54 => ⟨S8x256x256, .f32⟩
  | 55 => ⟨S256x512, .f32⟩
  | 56 => ⟨S8x256x512, .f32⟩
  | 57 => ⟨S8x256x256, .f32⟩
  | 58 => ⟨S8x256x256, .f32⟩
  | 59 => ⟨S8x1x256x256, .f32⟩
  | 60 => ⟨S8x1x256x256, .f32⟩
  | 61 => ⟨S8x2x256x256, .f32⟩
  | 62 => ⟨S8x2x256x256, .bf16⟩
  | 63 => ⟨S8x4352x256, .f32⟩
  | 64 => ⟨S34816x256, .f32⟩
  | 65 => ⟨S256x34816, .f32⟩
  | 66 => ⟨S256x34816, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_call0_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_c_8 : Ref sig .tc := ⟨.hbm, 111, rfl⟩
abbrev main_call1_v0 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_9 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_10 : Ref sig .tc := ⟨.hbm, 159, rfl⟩
abbrev main_v138 : Ref sig .tc := ⟨.hbm, 160, rfl⟩
abbrev main_v139 : Ref sig .tc := ⟨.hbm, 161, rfl⟩
abbrev main_cst_11 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_12 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩

abbrev nD : Nat := 1
abbrev τ : Topo := Topo.v7x

variable {F : FTy → Type} [FloatOps F]
-- ==== FourCtx.lean ====
abbrev S8x256x256 : Shape := ⟨3, ![8, 256, 256]⟩
abbrev S256x256 : Shape := ⟨2, ![256, 256]⟩
abbrev S8x1x256x256 : Shape := ⟨4, ![8, 1, 256, 256]⟩
abbrev S8x2x256x256 : Shape := ⟨4, ![8, 2, 256, 256]⟩
abbrev S8x512x256 : Shape := ⟨3, ![8, 512, 256]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x512 : Shape := ⟨2, ![256, 512]⟩
abbrev S1x512x256 : Shape := ⟨3, ![1, 512, 256]⟩
abbrev S1x256x256 : Shape := ⟨3, ![1, 256, 256]⟩
abbrev S512x256 : Shape := ⟨2, ![512, 256]⟩

abbrev nBuf : Space → Nat
  | .hbm => 48
  | .vmem => 6
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S256x256, .bf16⟩
  | .hbm, ⟨3, _⟩ => ⟨S8x1x256x256, .bf16⟩
  | .hbm, ⟨4, _⟩ => ⟨S8x1x256x256, .bf16⟩
  | .hbm, ⟨5, _⟩ => ⟨S8x2x256x256, .bf16⟩
  | .hbm, ⟨6, _⟩ => ⟨S8x512x256, .bf16⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S256x256, .i32⟩
  | .hbm, ⟨27, _⟩ => ⟨S256x256, .i1⟩
  | .hbm, ⟨28, _⟩ => ⟨S_, .i32⟩
  | .hbm, ⟨29, _⟩ => ⟨S_, .i1⟩
  | .hbm, ⟨30, _⟩ => ⟨S256x256, .i1⟩
  | .hbm, ⟨31, _⟩ => ⟨S256x256, .i1⟩
  | .hbm, ⟨32, _⟩ => ⟨S256x256, .i1⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x512, .f32⟩
  | .hbm, ⟨43, _⟩ => ⟨S_, .f32⟩
  | .hbm, ⟨44, _⟩ => ⟨S256x512, .f32⟩
  | .hbm, ⟨45, _⟩ => ⟨S256x512, .f32⟩
  | .hbm, ⟨46, _⟩ => ⟨S256x512, .bf16⟩
  | .hbm, ⟨47, _⟩ => ⟨S8x256x256, .f32⟩
  | .local _ .vmem, ⟨0, _⟩ => ⟨S256x512, .bf16⟩
  | .local _ .vmem, ⟨1, _⟩ => ⟨S1x512x256, .bf16⟩
  | .local _ .vmem, ⟨2, _⟩ => ⟨S1x512x256, .bf16⟩
  | .local _ .vmem, ⟨3, _⟩ => ⟨S256x256, .bf16⟩
  | .local _ .vmem, ⟨4, _⟩ => ⟨S1x256x256, .f32⟩
  | .local _ .vmem, ⟨5, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FourCtxRefIdeal.lean ====
abbrev S8x256x256 : Shape := ⟨3, ![8, 256, 256]⟩
abbrev S256x256 : Shape := ⟨2, ![256, 256]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S256x256, .bf16⟩
  | .hbm, ⟨3, _⟩ => ⟨S256x256, .i32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .bf16⟩
  | .hbm, ⟨23, _⟩ => ⟨S8x256x256, .f32⟩
  | .hbm, ⟨24, _⟩ => ⟨S8x256x256, .f32⟩
  | .hbm, ⟨25, _⟩ => ⟨S8x256x256, .f32⟩
  | .hbm, ⟨26, _⟩ => ⟨S8x256x256, .f32⟩
  | .hbm, ⟨27, _⟩ => ⟨S8x256x256, .f32⟩
  | .hbm, ⟨28, _⟩ => ⟨S8x256x256, .bf16⟩
  | .hbm, ⟨29, _⟩ => ⟨S8x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Ada.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S4x6144x16, .f32⟩
  | .hbm, ⟨18, _⟩ => ⟨S4x16x6144, .f32⟩
  | .hbm, ⟨19, _⟩ => ⟨S4x1x6144, .f32⟩
  | .hbm, ⟨20, _⟩ => ⟨S4x16x6144, .f32⟩
  | .hbm, ⟨21, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.FourValue.lean ====
module

public import proofs.«01_k».proof.Proof.Gen.FourIdeal.Value
public import proofs.«01_k».proof.Proof.Gen.FourRefIdeal.Run
public import proofs.«01_k».proof.Proof.Gen.FourRefIdeal.Read
public import Idealize.ShloMosaic.Lib.Pipeline.ValueKit
public import Idealize.ShloMosaic.Lib.Claim
public import Idealize.ShloMosaic.Lib.StableHlo.ReadAt

@[expose] public section

set_option maxRecDepth 16384

noncomputable section
open Idealize.ShloMosaic Idealize.ShloMosaic.TcCoe Idealize.SL.Sem
open Idealize.ShloMosaic.Pipeline (Dat)

namespace Cert.FourIdeal.FValue

open Cert.FourIdeal Cert.FourIdeal.Gen
variable (m : (ℓ : Loc nD τ sig) → Buf (Elt Ideal) ℓ)

theorem idx : ∀ t : Fin cfg0.N, win0_0.index t = ![(grid0.coords t 0).val, 0] ∧ win0_1.index t = ![(grid0.coords t 1).val, 0, 0]
    ∧ win0_2.index t = ![0, 0] ∧ win0_3.index t = ![(grid0.coords t 1).val, (grid0.coords t 0).val, 0] :=
  (by decide +kernel : ∀ t : Fin grid0.N, _)

abbrev REF (X Y : FVec Ideal S8x4096x256 .bf16) (W : FVec Ideal S256x256 .bf16) : FVec Ideal S8x4096x256 .f32 :=
  Cert.FourRefIdeal.Read.val_main_v22 (F := Ideal) X Y W

/-- A number's remainder as the host forms it (the signed remainder, corrected when the signs differ), for a number whose top
    bit is clear and the divisor 4096: its low twelve bits. -/
theorem low_bits (v : BitVec 32) (hv : 2 * v.toNat < 2 ^ 32) :
    Scalar.select (IntOp.andi (IntOp.cmpi .ne (IntOp.cmpi .slt (IntOp.remsi .host v 4096#32) 0#32) (IntOp.cmpi .slt 4096#32 0#32))
        (IntOp.cmpi .ne (IntOp.remsi .host v 4096#32) 0#32))
      (IntOp.addi (IntOp.remsi .host v 4096#32) 4096#32) (IntOp.remsi .host v 4096#32) = IntOp.andi v 4095#32 := by
  have hr : (IntOp.remsi .host v 4096#32).toNat = v.toNat % 4096 := IntOp.toNat_remsi .host hv 4096 (by decide) (by decide)
  generalize IntOp.remsi .host v 4096#32 = r at hr
  have h1 : r.toNat < 4096 := by omega
  have e1 : IntOp.cmpi .slt r 0#32 = 0#1 := by
    have : r.toInt = r.toNat := BitVec.toInt_eq_toNat_of_lt (by omega)
    have h2 : r.slt 0#32 = false := by
      rw [BitVec.slt_eq_decide, this]; simp
    simp [IntOp.cmpi, h2]
  rw [e1]
  have e2 : IntOp.cmpi .ne (0#1) (IntOp.cmpi .slt 4096#32 0#32) = 0#1 := by decide
  rw [e2]
  have e3 : IntOp.andi 0#1 (IntOp.cmpi .ne r 0#32) = 0#1 := by simp [IntOp.andi]
  rw [e3]
  show r = v &&& 4095#32
  apply BitVec.eq_of_toNat_eq
  rw [hr, BitVec.toNat_and]
  exact (Nat.and_two_pow_sub_one_eq_mod v.toNat 12).symm

theorem prod_bound (f k : Fin 4096) : 2 * (IntOp.muli (BitVec.ofNat 32 f.val) (BitVec.ofNat 32 k.val)).toNat < 2 ^ 32 := by
  show 2 * (BitVec.ofNat 32 f.val * BitVec.ofNat 32 k.val).toNat < _
  have hf := f.isLt
  have hk := k.isLt
  rw [BitVec.toNat_mul, BitVec.toNat_ofNat, BitVec.toNat_ofNat, Nat.mod_eq_of_lt (show f.val < 2^32 by omega), Nat.mod_eq_of_lt (show k.val < 2^32 by omega)]
  have := Nat.mul_le_mul (Nat.le_of_lt_succ hf) (Nat.le_of_lt_succ hk)
  rw [Nat.mod_eq_of_lt (by omega)]
  omega

/-- The left half of the host's matrix at the region's entry: the reference's cosines. -/
theorem V_cos (c : Dev nD) (f : Fin 4096) (k : Fin 4096) : V m c main_v20 (ix2 f (Fin.castAdd 4096 k : Fin 8192)) = Cert.FourRefIdeal.Read.val_main_v11 (F := Ideal) (ix2 f k) := by
  have h : (Fin.castAdd 4096 k : Fin 8192).val < 4096 := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_pos h]
  after_reads_at
  pointwise [Cert.FourRefIdeal.Read.val_main_v11, Cert.FourRefIdeal.Read.val_main_v10, Cert.FourRefIdeal.Read.val_main_v8, Cert.FourRefIdeal.Read.val_main_v7, Cert.FourRefIdeal.Read.val_main_v5, Cert.FourRefIdeal.Read.val_main_v4, Cert.FourRefIdeal.Read.val_main_v2, Cert.FourRefIdeal.Read.val_main_v0, Cert.FourRefIdeal.Read.val_main_v1, Cert.FourRefIdeal.Read.val_main_v3, Cert.FourRefIdeal.Read.val_main_v6, Cert.FourRefIdeal.Read.val_main_v9, Cert.FourRefIdeal.Read.val_main_c, Cert.FourRefIdeal.Read.val_main_cst, Cert.FourRefIdeal.Read.val_main_cst_0]
  rw [show Scalar.select (IntOp.cmpi .eq (id (constantI S_ 32 4096#32) ix0) 0#32) 1#32 (id (constantI S_ 32 4096#32) ix0) = 4096#32 from by decide, show ((Fin.castAdd 4096 k : Fin 8192).val) = k.val from rfl, low_bits _ (prod_bound f k)]

/-- The right half: the sines. -/
theorem V_sin (c : Dev nD) (f : Fin 4096) (k : Fin 4096) : V m c main_v20 (ix2 f (Fin.natAdd 4096 k : Fin 8192)) = Cert.FourRefIdeal.Read.val_main_v15 (F := Ideal) (ix2 f k) := by
  have h : ¬ (Fin.natAdd 4096 k : Fin 8192).val < 4096 := by simp
  have h' : (Fin.natAdd 4096 k : Fin 8192).val - 4096 = k.val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_neg h]
  after_reads_at
  simp only [h']
  pointwise [Cert.FourRefIdeal.Read.val_main_v15, Cert.FourRefIdeal.Read.val_main_v14, Cert.FourRefIdeal.Read.val_main_v12, Cert.FourRefIdeal.Read.val_main_v7, Cert.FourRefIdeal.Read.val_main_v5, Cert.FourRefIdeal.Read.val_main_v4, Cert.FourRefIdeal.Read.val_main_v2, Cert.FourRefIdeal.Read.val_main_v0, Cert.FourRefIdeal.Read.val_main_v1, Cert.FourRefIdeal.Read.val_main_v3, Cert.FourRefIdeal.Read.val_main_v6, Cert.FourRefIdeal.Read.val_main_v13, Cert.FourRefIdeal.Read.val_main_c, Cert.FourRefIdeal.Read.val_main_cst, Cert.FourRefIdeal.Read.val_main_cst_1]
  rw [show Scalar.select (IntOp.cmpi .eq (id (constantI S_ 32 4096#32) ix0) 0#32) 1#32 (id (constantI S_ 32 4096#32) ix0) = 4096#32 from by decide, low_bits _ (prod_bound f k)]

/-- The stacked operand's first half. -/
theorem V_xc (c : Dev nD) (b : Fin 8) (k : Fin 4096) (d : Fin 256) : V m c main_v3 (ix3 b (Fin.castAdd 4096 k : Fin 8192) d) = m ((c : Thread nD τ).loc main_arg0) (ix3 b k d) := by
  have h : (Fin.castAdd 4096 k : Fin 8192).val < 4096 := by simp
  have h' : (Fin.castAdd 4096 k : Fin 8192).val % 4096 = k.val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_pos (by omega)]
  after_reads_at
  exact congrArg (fun k => m ((c : Thread nD τ).loc main_arg0) (ix3 b k d)) (Fin.ext h')

/-- Its second half. -/
theorem V_xs (c : Dev nD) (b : Fin 8) (k : Fin 4096) (d : Fin 256) : V m c main_v3 (ix3 b (Fin.natAdd 4096 k : Fin 8192) d) = m ((c : Thread nD τ).loc main_arg1) (ix3 b k d) := by
  have h' : (Fin.natAdd 4096 k : Fin 8192).val % 4096 = k.val := by simp [Nat.mod_eq_of_lt k.isLt]
  have h : 4096 ≤ (Fin.natAdd 4096 k : Fin 8192).val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_neg (by omega)]
  after_reads_at
  exact congrArg (fun k => m ((c : Thread nD τ).loc main_arg1) (ix3 b k d)) (Fin.ext h')

/-- A sum of 8192 products as the sums of its two halves, the factors exchanged. -/
theorem halves (A X : Fin 8192 → EReal) (a b x z : Fin 4096 → EReal)
    (ha : ∀ k, A (Fin.castAdd 4096 k) = a k) (hb : ∀ k, A (Fin.natAdd 4096 k) = b k)
    (hx : ∀ k, X (Fin.castAdd 4096 k) = x k) (hz : ∀ k, X (Fin.natAdd 4096 k) = z k) :
    ∑ k, A k * X k = ∑ k, x k * a k + ∑ k, z k * b k := by
  refine (Fin.sum_univ_add (a := 4096) (b := 4096) fun k : Fin 8192 => A k * X k).trans ?_
  refine congrArg₂ (fun a b : EReal => a + b) (Finset.sum_congr rfl fun k _ => ?_) (Finset.sum_congr rfl fun k _ => ?_)
  · exact (congrArg₂ (fun a b : EReal => a * b) (ha k) (hx k)).trans (mul_comm _ _)
  · exact (congrArg₂ (fun a b : EReal => a * b) (hb k) (hz k)).trans (mul_comm _ _)

/-- What the point's blocks read of the whole arrays, at the row of the result the point writes. -/
theorem read0 (c : Dev nD) (t : Fin cfg0.N) (y : S1x512x256.Idx) (k : Fin 8192) :
    iblk m c 0 t (ix2 (y 1) k) = V m c main_v20 (ix2 (((cfg0.win 3).blk t).view.emb y 1) k) := by
  blk_point [iblk, idx t]

theorem read1 (c : Dev nD) (t : Fin cfg0.N) (y : S1x512x256.Idx) (k : Fin 8192) (d : Fin 256) :
    iblk m c 1 t (ix3 0 k d) = V m c main_v3 (ix3 (((cfg0.win 3).blk t).view.emb y 0) k d) := by
  blk_point [iblk, idx t]

theorem read2 (c : Dev nD) (t : Fin cfg0.N) (y : S1x512x256.Idx) (d : Fin 256) :
    iblk m c 2 t (ix2 d (y 2)) = m ((c : Thread nD τ).loc main_arg2) (ix2 d (((cfg0.win 3).blk t).view.emb y 2)) := by
  have h : V m c main_arg2 = m ((c : Thread nD τ).loc main_arg2) := V_main_arg2 m c
  rw [← h]
  blk_point [iblk, idx t]

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Cert.FourRefIdeal.Read.val_main_v22, Cert.FourRefIdeal.Read.val_main_v21, Cert.FourRefIdeal.Read.val_main_v20, Cert.FourRefIdeal.Read.val_main_v19, Cert.FourRefIdeal.Read.val_main_v18, Cert.FourRefIdeal.Read.val_main_v17, Cert.FourRefIdeal.Read.val_main_v16]
  refine Finset.sum_congr rfl fun d _ => ?_
  exact congrArg₂ (fun a b : EReal => a * b)
    (halves _ _ _ _ _ _ (fun k => (read0 m c t y _).trans (V_cos m c _ k)) (fun k => (read0 m c t y _).trans (V_sin m c _ k))
      (fun k => (read1 m c t y _ d).trans (V_xc m c _ k d)) (fun k => (read1 m c t y _ d).trans (V_xs m c _ k d)))
    (read2 m c t y d)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FourIdeal.FValue
end
-- ==== Proof.FourCtxValue.lean ====
module

public import proofs.«01_k».proof.Proof.Gen.FourCtxIdeal.Value
public import proofs.«01_k».proof.Proof.Gen.FourCtxRefIdeal.Run
public import proofs.«01_k».proof.Proof.Gen.FourCtxRefIdeal.Read
public import Idealize.ShloMosaic.Lib.Pipeline.ValueKit
public import Idealize.ShloMosaic.Lib.Claim
public import Idealize.ShloMosaic.Lib.StableHlo.ReadAt

@[expose] public section

set_option maxRecDepth 16384

noncomputable section
open Idealize.ShloMosaic Idealize.ShloMosaic.TcCoe Idealize.SL.Sem
open Idealize.ShloMosaic.Pipeline (Dat)

namespace Cert.FourCtxIdeal.FValue

open Cert.FourCtxIdeal Cert.FourCtxIdeal.Gen
variable (m : (ℓ : Loc nD τ sig) → Buf (Elt Ideal) ℓ)

theorem idx : ∀ t : Fin cfg0.N, win0_0.index t = ![(grid0.coords t 0).val, 0] ∧ win0_1.index t = ![(grid0.coords t 1).val, 0, 0]
    ∧ win0_2.index t = ![0, 0] ∧ win0_3.index t = ![(grid0.coords t 1).val, (grid0.coords t 0).val, 0] :=
  (by decide +kernel : ∀ t : Fin grid0.N, _)

abbrev REF (X Y : FVec Ideal S8x256x256 .bf16) (W : FVec Ideal S256x256 .bf16) : FVec Ideal S8x256x256 .f32 :=
  Cert.FourCtxRefIdeal.Read.val_main_v22 (F := Ideal) X Y W

/-- A number's remainder as the host forms it (the signed remainder, corrected when the signs differ), for a number whose top
    bit is clear and the divisor 256: its low eight bits. -/
theorem low_bits (v : BitVec 32) (hv : 2 * v.toNat < 2 ^ 32) :
    Scalar.select (IntOp.andi (IntOp.cmpi .ne (IntOp.cmpi .slt (IntOp.remsi .host v 256#32) 0#32) (IntOp.cmpi .slt 256#32 0#32))
        (IntOp.cmpi .ne (IntOp.remsi .host v 256#32) 0#32))
      (IntOp.addi (IntOp.remsi .host v 256#32) 256#32) (IntOp.remsi .host v 256#32) = IntOp.andi v 255#32 := by
  have hr : (IntOp.remsi .host v 256#32).toNat = v.toNat % 256 := IntOp.toNat_remsi .host hv 256 (by decide) (by decide)
  generalize IntOp.remsi .host v 256#32 = r at hr
  have h1 : r.toNat < 256 := by omega
  have e1 : IntOp.cmpi .slt r 0#32 = 0#1 := by
    have : r.toInt = r.toNat := BitVec.toInt_eq_toNat_of_lt (by omega)
    have h2 : r.slt 0#32 = false := by
      rw [BitVec.slt_eq_decide, this]; simp
    simp [IntOp.cmpi, h2]
  rw [e1]
  have e2 : IntOp.cmpi .ne (0#1) (IntOp.cmpi .slt 256#32 0#32) = 0#1 := by decide
  rw [e2]
  have e3 : IntOp.andi 0#1 (IntOp.cmpi .ne r 0#32) = 0#1 := by simp [IntOp.andi]
  rw [e3]
  show r = v &&& 255#32
  apply BitVec.eq_of_toNat_eq
  rw [hr, BitVec.toNat_and]
  exact (Nat.and_two_pow_sub_one_eq_mod v.toNat 8).symm

theorem prod_bound (f k : Fin 256) : 2 * (IntOp.muli (BitVec.ofNat 32 f.val) (BitVec.ofNat 32 k.val)).toNat < 2 ^ 32 := by
  show 2 * (BitVec.ofNat 32 f.val * BitVec.ofNat 32 k.val).toNat < _
  have hf := f.isLt
  have hk := k.isLt
  rw [BitVec.toNat_mul, BitVec.toNat_ofNat, BitVec.toNat_ofNat, Nat.mod_eq_of_lt (show f.val < 2^32 by omega), Nat.mod_eq_of_lt (show k.val < 2^32 by omega)]
  have := Nat.mul_le_mul (Nat.le_of_lt_succ hf) (Nat.le_of_lt_succ hk)
  rw [Nat.mod_eq_of_lt (by omega)]
  omega

/-- The left half of the host's matrix at the region's entry: the reference's cosines. -/
theorem V_cos (c : Dev nD) (f : Fin 256) (k : Fin 256) : V m c main_v20 (ix2 f (Fin.castAdd 256 k : Fin 512)) = Cert.FourCtxRefIdeal.Read.val_main_v11 (F := Ideal) (ix2 f k) := by
  have h : (Fin.castAdd 256 k : Fin 512).val < 256 := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_pos h]
  after_reads_at
  pointwise [Cert.FourCtxRefIdeal.Read.val_main_v11, Cert.FourCtxRefIdeal.Read.val_main_v10, Cert.FourCtxRefIdeal.Read.val_main_v8, Cert.FourCtxRefIdeal.Read.val_main_v7, Cert.FourCtxRefIdeal.Read.val_main_v5, Cert.FourCtxRefIdeal.Read.val_main_v4, Cert.FourCtxRefIdeal.Read.val_main_v2, Cert.FourCtxRefIdeal.Read.val_main_v0, Cert.FourCtxRefIdeal.Read.val_main_v1, Cert.FourCtxRefIdeal.Read.val_main_v3, Cert.FourCtxRefIdeal.Read.val_main_v6, Cert.FourCtxRefIdeal.Read.val_main_v9, Cert.FourCtxRefIdeal.Read.val_main_c, Cert.FourCtxRefIdeal.Read.val_main_cst, Cert.FourCtxRefIdeal.Read.val_main_cst_0]
  rw [show Scalar.select (IntOp.cmpi .eq (id (constantI S_ 32 256#32) ix0) 0#32) 1#32 (id (constantI S_ 32 256#32) ix0) = 256#32 from by decide, show ((Fin.castAdd 256 k : Fin 512).val) = k.val from rfl, low_bits _ (prod_bound f k)]

/-- The right half: the sines. -/
theorem V_sin (c : Dev nD) (f : Fin 256) (k : Fin 256) : V m c main_v20 (ix2 f (Fin.natAdd 256 k : Fin 512)) = Cert.FourCtxRefIdeal.Read.val_main_v15 (F := Ideal) (ix2 f k) := by
  have h : ¬ (Fin.natAdd 256 k : Fin 512).val < 256 := by simp
  have h' : (Fin.natAdd 256 k : Fin 512).val - 256 = k.val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_neg h]
  after_reads_at
  simp only [h']
  pointwise [Cert.FourCtxRefIdeal.Read.val_main_v15, Cert.FourCtxRefIdeal.Read.val_main_v14, Cert.FourCtxRefIdeal.Read.val_main_v12, Cert.FourCtxRefIdeal.Read.val_main_v7, Cert.FourCtxRefIdeal.Read.val_main_v5, Cert.FourCtxRefIdeal.Read.val_main_v4, Cert.FourCtxRefIdeal.Read.val_main_v2, Cert.FourCtxRefIdeal.Read.val_main_v0, Cert.FourCtxRefIdeal.Read.val_main_v1, Cert.FourCtxRefIdeal.Read.val_main_v3, Cert.FourCtxRefIdeal.Read.val_main_v6, Cert.FourCtxRefIdeal.Read.val_main_v13, Cert.FourCtxRefIdeal.Read.val_main_c, Cert.FourCtxRefIdeal.Read.val_main_cst, Cert.FourCtxRefIdeal.Read.val_main_cst_1]
  rw [show Scalar.select (IntOp.cmpi .eq (id (constantI S_ 32 256#32) ix0) 0#32) 1#32 (id (constantI S_ 32 256#32) ix0) = 256#32 from by decide, low_bits _ (prod_bound f k)]

/-- The stacked operand's first half. -/
theorem V_xc (c : Dev nD) (b : Fin 8) (k : Fin 256) (d : Fin 256) : V m c main_v3 (ix3 b (Fin.castAdd 256 k : Fin 512) d) = m ((c : Thread nD τ).loc main_arg0) (ix3 b k d) := by
  have h : (Fin.castAdd 256 k : Fin 512).val < 256 := by simp
  have h' : (Fin.castAdd 256 k : Fin 512).val % 256 = k.val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_pos (by omega)]
  after_reads_at
  exact congrArg (fun k => m ((c : Thread nD τ).loc main_arg0) (ix3 b k d)) (Fin.ext h')

/-- Its second half. -/
theorem V_xs (c : Dev nD) (b : Fin 8) (k : Fin 256) (d : Fin 256) : V m c main_v3 (ix3 b (Fin.natAdd 256 k : Fin 512) d) = m ((c : Thread nD τ).loc main_arg1) (ix3 b k d) := by
  have h' : (Fin.natAdd 256 k : Fin 512).val % 256 = k.val := by simp [Nat.mod_eq_of_lt k.isLt]
  have h : 256 ≤ (Fin.natAdd 256 k : Fin 512).val := by simp
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_reads_at
  rw [dif_neg (by omega)]
  after_reads_at
  exact congrArg (fun k => m ((c : Thread nD τ).loc main_arg1) (ix3 b k d)) (Fin.ext h')

/-- A sum of 512 products as the sums of its two halves, the factors exchanged. -/
theorem halves (A X : Fin 512 → EReal) (a b x z : Fin 256 → EReal)
    (ha : ∀ k, A (Fin.castAdd 256 k) = a k) (hb : ∀ k, A (Fin.natAdd 256 k) = b k)
    (hx : ∀ k, X (Fin.castAdd 256 k) = x k) (hz : ∀ k, X (Fin.natAdd 256 k) = z k) :
    ∑ k, A k * X k = ∑ k, x k * a k + ∑ k, z k * b k := by
  refine (Fin.sum_univ_add (a := 256) (b := 256) fun k : Fin 512 => A k * X k).trans ?_
  refine congrArg₂ (fun a b : EReal => a + b) (Finset.sum_congr rfl fun k _ => ?_) (Finset.sum_congr rfl fun k _ => ?_)
  · exact (congrArg₂ (fun a b : EReal => a * b) (ha k) (hx k)).trans (mul_comm _ _)
  · exact (congrArg₂ (fun a b : EReal => a * b) (hb k) (hz k)).trans (mul_comm _ _)

/-- What the point's blocks read of the whole arrays, at the row of the result the point writes. -/
theorem read0 (c : Dev nD) (t : Fin cfg0.N) (y : S1x256x256.Idx) (k : Fin 512) :
    iblk m c 0 t (ix2 (y 1) k) = V m c main_v20 (ix2 (((cfg0.win 3).blk t).view.emb y 1) k) := by
  blk_point [iblk, idx t]

theorem read1 (c : Dev nD) (t : Fin cfg0.N) (y : S1x256x256.Idx) (k : Fin 512) (d : Fin 256) :
    iblk m c 1 t (ix3 0 k d) = V m c main_v3 (ix3 (((cfg0.win 3).blk t).view.emb y 0) k d) := by
  blk_point [iblk, idx t]

theorem read2 (c : Dev nD) (t : Fin cfg0.N) (y : S1x256x256.Idx) (d : Fin 256) :
    iblk m c 2 t (ix2 d (y 2)) = m ((c : Thread nD τ).loc main_arg2) (ix2 d (((cfg0.win 3).blk t).view.emb y 2)) := by
  have h : V m c main_arg2 = m ((c : Thread nD τ).loc main_arg2) := V_main_arg2 m c
  rw [← h]
  blk_point [iblk, idx t]

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Cert.FourCtxRefIdeal.Read.val_main_v22, Cert.FourCtxRefIdeal.Read.val_main_v21, Cert.FourCtxRefIdeal.Read.val_main_v20, Cert.FourCtxRefIdeal.Read.val_main_v19, Cert.FourCtxRefIdeal.Read.val_main_v18, Cert.FourCtxRefIdeal.Read.val_main_v17, Cert.FourCtxRefIdeal.Read.val_main_v16]
  refine Finset.sum_congr rfl fun d _ => ?_
  exact congrArg₂ (fun a b : EReal => a * b)
    (halves _ _ _ _ _ _ (fun k => (read0 m c t y _).trans (V_cos m c _ k)) (fun k => (read0 m c t y _).trans (V_sin m c _ k))
      (fun k => (read1 m c t y _ d).trans (V_xc m c _ k d)) (fun k => (read1 m c t y _ d).trans (V_xs m c _ k d)))
    (read2 m c t y d)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FourCtxIdeal.FValue
end
-- ==== Proof.AdaValue.lean ====
/- The modulation kernel's result over the extended reals is the reference's. -/
module

public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit
public import Idealize.ShloMosaic.Lib.Claim
public import Idealize.ShloMosaic.Lib.StableHlo.ReadAt

@[expose] public section

set_option maxRecDepth 16384

noncomputable section
open Idealize.ShloMosaic Idealize.ShloMosaic.TcCoe Idealize.SL.Sem
open Idealize.ShloMosaic.Pipeline (Dat)

namespace Cert.AdaIdeal.AValue

open Cert.AdaIdeal Cert.AdaIdeal.Gen
variable (m : (ℓ : Loc nD τ sig) → Buf (Elt Ideal) ℓ)

theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, _)

abbrev REF (X : FVec Ideal S8x1024 .f32) (Y : FVec Ideal S1024 .f32) (W : FVec Ideal S4x1024x6144 .f32) (B : FVec Ideal S4x6144 .f32) : FVec Ideal S4x16x6144 .f32 :=
  Cert.AdaRefIdeal.Read.val_main_v14 (F := Ideal) X Y W B

/-- The conditioning rows at the region's entry: the reference's. -/
theorem V_cond (c : Dev nD) (r : Fin 16) (d : Fin 1024) :
    V m c main_v2 (ix2 r d) = Cert.AdaRefIdeal.Read.val_main_v2 (F := Ideal) (m ((c : Thread nD τ).loc main_arg0)) (m ((c : Thread nD τ).loc main_arg1)) (ix2 r d) := by
  show StableHlo.after [hostOps0].flatten (fun b => m (c, b)) _ _ = _
  simp only [hostOps0, List.flatten_cons, List.flatten_nil, List.append_nil, List.cons_append, List.nil_append]
  after_reads_simp
  rfl

/-- The biases, one row for each layer. -/
theorem V_bias (c : Dev nD) (l : Fin 4) (n : Fin 6144) : V m c main_v3 (ix3 l 0 n) = m ((c : Thread nD τ).loc main_arg3) (ix2 l n) := by
  show StableHlo.after [hostOps0].flatten (fun b => m (c, b)) _ _ = _
  simp only [hostOps0, List.flatten_cons, List.flatten_nil, List.append_nil, List.cons_append, List.nil_append]
  after_reads_at

/-- What the point's blocks read of the whole arrays, at the row of the result the point writes. -/
theorem read0 (c : Dev nD) (t : Fin cfg0.N) (y : S1x16x1536.Idx) (k : Fin 1024) :
    iblk m c 0 t (ix2 (y 1) k) = V m c main_v2 (ix2 (((cfg0.win 3).blk t).view.emb y 1) k) := by
  blk_point [iblk, idx t]

theorem read1 (c : Dev nD) (t : Fin cfg0.N) (y : S1x16x1536.Idx) (k : Fin 1024) :
    iblk m c 1 t (ix3 0 k (y 2)) = m ((c : Thread nD τ).loc main_arg2) (ix3 (((cfg0.win 3).blk t).view.emb y 0) k (((cfg0.win 3).blk t).view.emb y 2)) := by
  have h : V m c main_arg2 = m ((c : Thread nD τ).loc main_arg2) := V_main_arg2 m c
  rw [← h]
  blk_point [iblk, idx t]

theorem read2 (c : Dev nD) (t : Fin cfg0.N) (y : S1x16x1536.Idx) :
    iblk m c 2 t (ix3 0 0 (y 2)) = V m c main_v3 (ix3 (((cfg0.win 3).blk t).view.emb y 0) 0 (((cfg0.win 3).blk t).view.emb y 2)) := by
  blk_point [iblk, idx t]

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (m ((c : Thread nD τ).loc main_arg3)) (((cfg0.win 3).blk t).view.emb y) := by
  pointwise [k0_pay1, REF, Cert.AdaRefIdeal.Read.val_main_v14, Cert.AdaRefIdeal.Read.val_main_v13, Cert.AdaRefIdeal.Read.val_main_v12, Cert.AdaRefIdeal.Read.val_main_v11, Cert.AdaRefIdeal.Read.val_main_v10, Cert.AdaRefIdeal.Read.val_main_v9, Cert.AdaRefIdeal.Read.val_main_v8, Cert.AdaRefIdeal.Read.val_main_v7, Cert.AdaRefIdeal.Read.val_main_v6, Cert.AdaRefIdeal.Read.val_main_v5, Cert.AdaRefIdeal.Read.val_main_v4, Cert.AdaRefIdeal.Read.val_main_v3, Cert.AdaRefIdeal.Read.val_main_cst_0, Cert.AdaRefIdeal.Read.val_main_cst_1]
  refine congrArg₂ (fun a b : EReal => a + b) (Finset.sum_congr rfl fun k _ => ?_) ((read2 m c t y).trans (V_bias m c _ _))
  have h0 := (read0 m c t y k).trans (V_cond m c _ k)
  have h1 := read1 m c t y k
  refine (congrArg₂ (fun a b : EReal => a * Ideal.logistic a * b) h0 h1).trans ?_
  unfold Ideal.logistic
  exact mul_comm _ _

theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end Cert.AdaIdeal.AValue
end
-- ==== Proof.Tables.lean ====
/- What the claims' precondition says of the two tables: every expert is among the 32, and the number of used blocks
   lies between 1 and 364. -/
module

public import proofs.«01_k».proof.Pre_tables
public import Idealize.ShloMosaic.Lib.ReduceAll
public import Idealize.ShloMosaic.Lib.WordCmp

@[expose] public section

noncomputable section

namespace Cert.Tables

open Idealize.ShloMosaic Cert.Pre_tables

/-- A word between 1 and 364 as a signed number is between 1 and 364 as a natural number. -/
theorem count_word (w : BitVec 32) (h1 : IntOp.cmpi .sge w 1#32 = 1#1) (h2 : IntOp.cmpi .sle w 364#32 = 1#1) : 1 ≤ w.toNat ∧ w.toNat ≤ 364 := by
  simp only [IntOp.cmpi, BitVec.sle] at h1 h2
  have e1 : (1#32).toInt = 1 := by decide
  have e2 : (364#32).toInt = 364 := by decide
  rw [e1] at h1; rw [e2] at h2
  have p1 : (1 : Int) ≤ w.toInt := by by_contra h; simp [h] at h1
  have p2 : w.toInt ≤ 364 := by by_contra h; simp [h] at h2
  have p3 := BitVec.toInt_eq_toNat_cond w
  split at p3 <;> omega

/-- The precondition, element by element. -/
theorem words {F : FTy → Type} [FloatOps F] [Facts] (be : IVec S364 32) (nu : IVec S1 32) (x : FVec F S372736x512 .bf16)
    (wgu : FVec F S4x32x1024x2048 .f32) (wd : FVec F S4x32x1024x1024 .f32) (bgu : FVec F S32x2048 .f32) (bd : FVec F S32x1024 .f32)
    (h : fn (F := F) be nu x wgu wd bgu bd = fun _ => 1#1) :
    (∀ i, (be i).toNat < 32) ∧ ∀ i, 1 ≤ (nu i).toNat ∧ (nu i).toNat ≤ 364 := by
  haveI : Subsingleton S_.Idx := ⟨fun a b => funext fun k => k.elim0⟩
  have h0 := congrFun h (fun k => k.elim0)
  have h1 : IntOp.andi _ _ = 1#1 := h0
  rw [IntOp.andi_eq_one] at h1
  constructor
  · intro i
    have p : IntOp.andi (IntOp.cmpi .sge (be i) 0#32) (IntOp.cmpi .slt (be i) (BitVec.ofNat 32 32)) = 1#1 :=
      Host.reduce_andi_all _ _ _ _ _ h1.1 i
    rw [WordCmp.andi_sge_zero_slt_ofNat (by decide)] at p
    by_contra hn
    simp [hn] at p
  · intro i
    have p : IntOp.andi (IntOp.cmpi .sge (nu i) 1#32) (IntOp.cmpi .sle (nu i) 364#32) = 1#1 :=
      Host.reduce_andi_all _ _ _ _ _ h1.2 i
    rw [IntOp.andi_eq_one] at p
    exact count_word _ p.1 p.2

end Cert.Tables

end
-- ==== Proof.ExpertsIdealKit.lean ====
/- The set-up of the experts kernel: what its region finds, its tables, its windows' blocks, the branches of its body. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S364 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branches, from the tables' words -/

/-- The word of the one-word table: how many row blocks are used. -/
abbrev nuW (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))
/-- The word of the expert table at the point, and at the point before it. -/
abbrev beW (c : Dev nD) (xt0 : TbBuf0 (F := F) c tbM0_0) (i : grid0.Coords) : BitVec 32 :=
  View.readAt (Elt F) tbM0_0.view (Rect.unit (s := S364) (k0_off1 i) S1.size (k0_off1_inb i)).toLoadRect xt0 (Shape.Idx.first (numel1_S1.symm ▸ Nat.one_pos))
abbrev beP (c : Dev nD) (xt0 : TbBuf0 (F := F) c tbM0_0) (i : grid0.Coords) : BitVec 32 :=
  View.readAt (Elt F) tbM0_0.view (Rect.unit (s := S364) (k0_off2 i) S1.size (k0_off2_inb i)).toLoadRect xt0 (Shape.Idx.first (numel1_S1.symm ▸ Nat.one_pos))
/-- The condition under which the body prepares the expert's weights. -/
abbrev newC (c : Dev nD) (xt0 : TbBuf0 (F := F) c tbM0_0) (xt1 : TbBuf0 (F := F) c tbM0_1) (i : grid0.Coords) : Prop :=
  (Scalar.cmpi .ne (Scalar.extui (Scalar.andi (Scalar.cmpi .slt (BitVec.ofNat 32 (i 0).val) (nuW c xt1)) (Scalar.ori (Scalar.cmpi .eq (BitVec.ofNat 32 (i 0).val) 0#32) (Scalar.cmpi .ne (beW c xt0 i) (beP c xt0 i))))) 0#32) = 1#1
/-- The condition under which the body computes its block, and the one under which it leaves zeros. -/
abbrev usedC (c : Dev nD) (xt1 : TbBuf0 (F := F) c tbM0_1) (i : grid0.Coords) : Prop := k0_cond2 i (nuW c xt1) = 1#1
abbrev restC (c : Dev nD) (xt1 : TbBuf0 (F := F) c tbM0_1) (i : grid0.Coords) : Prop := k0_cond3 i (nuW c xt1) = 1#1

/-! ## Where the windows are idle -/

theorem liveAt0_0 (hO : Ok m) : ∀ t : Fin (cfgM m hO).N, (cfgM m hO).idle 0 (grid0.coords t) = false := fun _ => rfl
theorem liveAt0_1 (hO : Ok m) : ∀ t : Fin (cfgM m hO).N, (cfgM m hO).idle 1 (grid0.coords t) = false := fun _ => rfl
theorem liveAt0_2 (hO : Ok m) : ∀ t : Fin (cfgM m hO).N, (cfgM m hO).idle 2 (grid0.coords t) = false := fun _ => rfl
theorem liveAt0_3 (hO : Ok m) : ∀ t : Fin (cfgM m hO).N, (cfgM m hO).idle 3 (grid0.coords t) = false := fun _ => rfl
theorem liveAt0_4 (hO : Ok m) : ∀ t : Fin (cfgM m hO).N, (cfgM m hO).idle 4 (grid0.coords t) = false := fun _ => rfl
theorem liveAt0_5 (hO : Ok m) : ∀ t : Fin (cfgM m hO).N, (cfgM m hO).idle 5 (grid0.coords t) = false := fun _ => rfl
theorem liveAt0_6 (hO : Ok m) : ∀ t : Fin (cfgM m hO).N, (cfgM m hO).idle 6 (grid0.coords t) = false := fun _ => rfl

/-! ## The kernel body on any staging memrefs: a subtype the run finds -/

/-- One staging buffer of output window 7, through which its contents are stated (`View.read_writes_of_cover`: the
    choice does not matter). -/
abbrev VO0_7 : View sig .tc .vmem S1024x512 .bf16 := (Memref.whole cc0_stg7_0 : Memref sig .tc .vmem S1024x512 .bf16).view
/-- Each window's current staging memref at point `t`, spelled as the pipeline passes it (`bodyAt0`), and its wholeness. -/
abbrev ms0_0 (hO : Ok m) (t : Fin (cfgM m hO).N) : Memref sig .tc .vmem S1024x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x256 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x512 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
/-- The scratch `arg11` the kernel carries between points, as a view: what it holds is stated through it. -/
abbrev VS0_0 : View sig .tc .vmem S1024x1024 .bf16 := scM0_0.view
/-- The scratch `arg12` the kernel carries between points, as a view: what it holds is stated through it. -/
abbrev VS0_1 : View sig .tc .vmem S1024x1024 .bf16 := scM0_1.view
/-- The scratch `arg13` the kernel carries between points, as a view: what it holds is stated through it. -/
abbrev VS0_2 : View sig .tc .vmem S1024x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ExpertsIdeal.Hand

end
-- ==== Proof.ExpertsIdealRunA.lean ====
/- The body at a used block whose expert is new: it prepares the expert's weights in its scratch, then computes the block. -/
module

public import proofs.«01_k».proof.Proof.ExpertsIdealKit

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- The body at a used block whose expert is new: it prepares the expert's weights in its scratch, then computes the block. -/
noncomputable def kernelRun0_A (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1) (hc0 : newC c xt0 xt1 i) (hc1 : usedC c xt1 i) (hc2 : ¬restC c xt1 i) :
    Σ' (L7 : List (View.Piece (Elt F) S1024x512 .bf16)), Σ' (LS0 : List (View.Piece (Elt F) S1024x1024 .bf16)), Σ' (LS1 : List (View.Piece (Elt F) S1024x1024 .bf16)), { LS2 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HT0]; · iexact HT0
    iexact HT1

end Cert.ExpertsIdeal.Hand

end
-- ==== Proof.ExpertsIdealRunB.lean ====
/- The body at a used block of the expert before it: the scratch still holds the weights. -/
module

public import proofs.«01_k».proof.Proof.ExpertsIdealRunA

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- The body at a used block of the expert before it: the scratch still holds the weights. -/
noncomputable def kernelRun0_B (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1) (hc0 : ¬newC c xt0 xt1 i) (hc1 : usedC c xt1 i) (hc2 : ¬restC c xt1 i) (xs0 : Vec F S1024x1024 .bf16) (xs1 : Vec F S1024x1024 .bf16) (xs2 : Vec F S1024x1024 .bf16) :
    Σ' (L7 : List (View.Piece (Elt F) S1024x512 .bf16)), Σ' (LS0 : List (View.Piece (Elt F) S1024x1024 .bf16)), Σ' (LS1 : List (View.Piece (Elt F) S1024x1024 .bf16)), { LS2 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, [], [], [], fun E K => ?run⟩
  case run =>
    simp only [cc0_moe_experts_eq_skeleton]; unfold cc0_moe_experts_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HT0]; · iexact HT0
    iexact HT1

end Cert.ExpertsIdeal.Hand

end
-- ==== Proof.ExpertsIdealRunC.lean ====
/- The body past the used blocks: it leaves zeros. -/
module

public import proofs.«01_k».proof.Proof.ExpertsIdealRunB

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- The body past the used blocks: it leaves zeros. -/
noncomputable def kernelRun0_C (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1) (hc0 : ¬newC c xt0 xt1 i) (hc1 : ¬usedC c xt1 i) (hc2 : restC c xt1 i) (xs0 : Vec F S1024x1024 .bf16) (xs1 : Vec F S1024x1024 .bf16) (xs2 : Vec F S1024x1024 .bf16) :
    Σ' (L7 : List (View.Piece (Elt F) S1024x512 .bf16)), Σ' (LS0 : List (View.Piece (Elt F) S1024x1024 .bf16)), Σ' (LS1 : List (View.Piece (Elt F) S1024x1024 .bf16)), { LS2 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, [], [], [], fun E K => ?run⟩
  case run =>
    simp only [cc0_moe_experts_eq_skeleton]; unfold cc0_moe_experts_skel
    skip
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HT0]; · iexact HT0
    iexact HT1

end Cert.ExpertsIdeal.Hand

end
-- ==== Proof.ExpertsIdealVals.lean ====
/- What the body leaves, as values: the prepared weights and the block, free of the memrefs it ran on. -/
module

public import proofs.«01_k».proof.Proof.ExpertsIdealRunC
public import Idealize.ShloMosaic.Lib.WholeRead
public import Idealize.ShloMosaic.Lib.VecWindow
public import Idealize.ShloMosaic.Lib.Pipeline.ValueKit

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The columns 256·k … 256·k + 255 of an expert's gate/up matrix. -/
def strip (k : Fin 8) (x1 : Vec F S1x1x1024x2048 .f32) : Vec F S1x1x1024x256 .f32 := fun y =>
  x1 (ix4 0 0 (y 2) (⟨256 * k.val + (y 3).val, by have := (y 3).isLt; have : (y 3).val < 256 := this; omega⟩ : Fin 2048))

/-- The gate columns, brought together: column j from the strip j / 128, its first half. -/
def wgV (x1 : Vec F S1x1x1024x2048 .f32) (x6 : Vec F S256x256 .bf16) : Vec F S1024x1024 .bf16 := fun y =>
  k0_pay5 (strip ⟨(y 1).val / 128, by have : (y 1).val < 1024 := (y 1).isLt; omega⟩ x1) x6 (ix2 (y 0) (⟨(y 1).val % 128, by omega⟩ : Fin 128))

/-- The up columns: the second half of the strip. -/
def wuV (x1 : Vec F S1x1x1024x2048 .f32) (x6 : Vec F S256x256 .bf16) : Vec F S1024x1024 .bf16 := fun y =>
  k0_pay6 (strip ⟨(y 1).val / 128, by have : (y 1).val < 1024 := (y 1).isLt; omega⟩ x1) x6 (ix2 (y 0) (⟨(y 1).val % 128, by omega⟩ : Fin 128))

/-- The down weights. -/
def wdV (x2 : Vec F S1x1x1024x1024 .f32) : Vec F S1024x1024 .bf16 := k0_pay1 (k0_pay29 x2)

/-- The block the body computes from the rows and the prepared weights. -/
def outV (x0 : Vec F S1024x512 .bf16) (s0 s1 s2 : Vec F S1024x1024 .bf16) (x3 x4 x5 : Vec F S1x1x1024 .f32) : Vec F S1024x512 .bf16 :=
  k0_pay2 (k0_pay30 x0 s0 x3 s1 x4) s2 (constant S512x1024 FTy.f32 0#32) x5

theorem outV_congr {x0 x0' : Vec F S1024x512 .bf16} {s0 s0' s1 s1' s2 s2' : Vec F S1024x1024 .bf16} {x3 x3' x4 x4' x5 x5' : Vec F S1x1x1024 .f32}
    (h0 : x0 = x0') (k0 : s0 = s0') (k1 : s1 = s1') (k2 : s2 = s2') (h3 : x3 = x3') (h4 : x4 = x4') (h5 : x5 = x5') :
    outV x0 s0 s1 s2 x3 x4 x5 = outV x0' s0' s1' s2' x3' x4' x5' := by
  subst h0 k0 k1 k2 h3 h4 h5; rfl

/-- A load of a whole memref reads what it holds. -/
theorem rd_whole {s : Shape} {e : EltTy} {M : Memref sig .tc .vmem s e} (h : M.IsWhole) (X : s.Idx → Elt F e) {off : Fin s.rank → ℕ}
    (ho : ∀ a, off a = 0) (inb : ∀ a, off a + s.size a ≤ s.size a) :
    View.readAt (Elt F) M.view (Rect.unit (s := s) off s.size inb).toLoadRect (h.unread X) = X := by
  funext x
  rw [h.readAt_unread]
  refine congrArg X (funext fun a => Fin.ext ?_)
  show off a + 1 * (x a).val = (x a).val
  rw [ho a]; omega

/-- A load of a strip of the gate/up matrix. -/
theorem rd_strip {M : Memref sig .tc .vmem S1x1x1024x2048 .f32} (h : M.IsWhole) (X : Vec F S1x1x1024x2048 .f32) (k : Fin 8) {off : Fin 4 → ℕ}
    (h0 : off 0 = 0) (h1 : off 1 = 0) (h2 : off 2 = 0) (h3 : off 3 = 256 * k.val) (inb : ∀ a, off a + S1x1x1024x256.size a ≤ S1x1x1024x2048.size a) :
    View.readAt (Elt F) M.view (Rect.unit (s := S1x1x1024x2048) off S1x1x1024x256.size inb).toLoadRect (h.unread X) = strip k X := by
  funext x
  rw [h.readAt_unread]
  unfold strip
  refine congrArg X (funext fun a => Fin.ext ?_)
  show off a + 1 * (x a).val = _
  have e0 : (x 0).val < 1 := (x 0).isLt
  have e1 : (x 1).val < 1 := (x 1).isLt
  match a with
  | 0 => show off 0 + 1 * (x 0).val = 0; omega
  | 1 => show off 1 + 1 * (x 1).val = 0; omega
  | 2 => show off 2 + 1 * (x 2).val = (x 2).val; omega
  | 3 => show off 3 + 1 * (x 3).val = 256 * k.val + (x 3).val; omega

theorem wgV_at (x1 : Vec F S1x1x1024x2048 .f32) (x6 : Vec F S256x256 .bf16) (k : Fin 8) (x : S1024x128.Idx) (e : S1024x1024.Idx)
    (h0 : (e 0).val = (x 0).val) (h1 : (e 1).val = 128 * k.val + (x 1).val) : wgV x1 x6 e = k0_pay5 (strip k x1) x6 x := by
  have hx : (x 1).val < 128 := (x 1).isLt
  unfold wgV
  have hk : (⟨(e 1).val / 128, by omega⟩ : Fin 8) = k := Fin.ext (by show (e 1).val / 128 = k.val; omega)
  rw [hk]
  refine congrArg (k0_pay5 (strip k x1) x6) (funext fun a => Fin.ext ?_)
  match a with
  | 0 => exact h0
  | 1 => show (e 1).val % 128 = (x 1).val; omega

theorem wuV_at (x1 : Vec F S1x1x1024x2048 .f32) (x6 : Vec F S256x256 .bf16) (k : Fin 8) (x : S1024x128.Idx) (e : S1024x1024.Idx)
    (h0 : (e 0).val = (x 0).val) (h1 : (e 1).val = 128 * k.val + (x 1).val) : wuV x1 x6 e = k0_pay6 (strip k x1) x6 x := by
  have hx : (x 1).val < 128 := (x 1).isLt
  unfold wuV
  have hk : (⟨(e 1).val / 128, by omega⟩ : Fin 8) = k := Fin.ext (by show (e 1).val / 128 = k.val; omega)
  rw [hk]
  refine congrArg (k0_pay6 (strip k x1) x6) (funext fun a => Fin.ext ?_)
  match a with
  | 0 => exact h0
  | 1 => show (e 1).val % 128 = (x 1).val; omega

theorem pieces0 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) :
    ∀ p ∈ (kernelRun0_A.sl.HS0_8 c arg4 harg4 arg9 harg9 x1 x6 : List (View.Piece (Elt F) S1024x1024 .bf16)), ∀ x : p.1.shape.Idx, p.2 x = wgV x1 x6 (p.1.emb x) := by
  simp only [kernelRun0_A.sl.HS0_8, kernelRun0_A.sl.r, kernelRun0_A.sl.r_1, kernelRun0_A.sl.r_2, kernelRun0_A.sl.r_3, List.forall_mem_cons, List.not_mem_nil, false_implies, implies_true, and_true]
  refine ⟨?_, ?_, ?_, ?_, ?_, ?_, ?_, ?_⟩
  · intro x
    refine Eq.trans ?_ (wgV_at x1 x6 7 x _ (by show 0 + 1 * (x 0).val = _; omega) (by show 896 + 1 * (x 1).val = 128 * 7 + (x 1).val; omega)).symm
    exact congrFun (congrArg₂ k0_pay5 (rd_strip harg4 x1 7 rfl rfl rfl rfl _) (rd_whole harg9 x6 (by decide) _)) x
  · intro x
    refine Eq.trans ?_ (wgV_at x1 x6 6 x _ (by show 0 + 1 * (x 0).val = _; omega) (by show 768 + 1 * (x 1).val = 128 * 6 + (x 1).val; omega)).symm
    exact congrFun (congrArg₂ k0_pay5 (rd_strip harg4 x1 6 rfl rfl rfl rfl _) (rd_whole harg9 x6 (by decide) _)) x
  · intro x
    refine Eq.trans ?_ (wgV_at x1 x6 5 x _ (by show 0 + 1 * (x 0).val = _; omega) (by show 640 + 1 * (x 1).val = 128 * 5 + (x 1).val; omega)).symm
    exact congrFun (congrArg₂ k0_pay5 (rd_strip harg4 x1 5 rfl rfl rfl rfl _) (rd_whole harg9 x6 (by decide) _)) x
  · intro x
    refine Eq.trans ?_ (wgV_at x1 x6 4 x _ (by show 0 + 1 * (x 0).val = _; omega) (by show 512 + 1 * (x 1).val = 128 * 4 + (x 1).val; omega)).symm
    exact congrFun (congrArg₂ k0_pay5 (rd_strip harg4 x1 4 rfl rfl rfl rfl _) (rd_whole harg9 x6 (by decide) _)) x
  · intro x
    refine Eq.trans ?_ (wgV_at x1 x6 3 x _ (by show 0 + 1 * (x 0).val = _; omega) (by show 384 + 1 * (x 1).val = 128 * 3 + (x 1).val; omega)).symm
    exact congrFun (congrArg₂ k0_pay5 (rd_strip harg4 x1 3 rfl rfl rfl rfl _) (rd_whole harg9 x6 (by decide) _)) x
  · intro x
    refine Eq.trans ?_ (wgV_at x1 x6 2 x _ (by show 0 + 1 * (x 0).val = _; omega) (by show 256 + 1 * (x 1).val = 128 * 2 + (x 1).val; omega)).symm
    exact congrFun (congrArg₂ k0_pay5 (rd_strip harg4 x1 2 rfl rfl rfl rfl _) (rd_whole harg9 x6 (by decide) _)) x
  · intro x
    refine Eq.trans ?_ (wgV_at x1 x6 1 x _ (by show 0 + 1 * (x 0).val = _; omega) (by show 128 + 1 * (x 1).val = 128 * 1 + (x 1).val; omega)).symm
    exact congrFun (congrArg₂ k0_pay5 (rd_strip harg4 x1 1 rfl rfl rfl rfl _) (rd_whole harg9 x6 (by decide) _)) x
  · intro x
    refine Eq.trans ?_ (wgV_at x1 x6 0 x _ (by show 0 + 1 * (x 0).val = _; omega) (by show 0 + 1 * (x 1).val = 128 * 0 + (x 1).val; omega)).symm
    exact congrFun (congrArg₂ k0_pay5 (rd_strip harg4 x1 0 rfl rfl rfl rfl _) (rd_whole harg9 x6 (by decide) _)) x

theorem cov0 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) (y : S1024x1024.Idx) :
    ∃ p ∈ (kernelRun0_A.sl.HS0_8 c arg4 harg4 arg9 harg9 x1 x6 : List (View.Piece (Elt F) S1024x1024 .bf16)), y ∈ p.1.set :=
  View.cover_of_tiledL (kernelRun0_A.sl.HS0_8 c arg4 harg4 arg9 harg9 x1 x6 : List (View.Piece (Elt F) S1024x1024 .bf16)) S1024x128.size (by sl_kernel_rfl) y

theorem left0 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) (v : View sig .tc .vmem S1024x1024 .bf16) (f : v.ty.Contents (Elt F)) :
    v.read (Elt F) (v.writes (Elt F) f (kernelRun0_A.sl.HS0_8 c arg4 harg4 arg9 harg9 x1 x6)) = wgV x1 x6 :=
  funext fun y => View.read_writes_apply_of_pieces v f _ _ (pieces0 c arg4 harg4 arg9 harg9 x1 x6) y (cov0 c arg4 harg4 arg9 harg9 x1 x6 y)

theorem pieces1 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) :
    ∀ p ∈ (kernelRun0_A.sl.HS1_8 c arg4 harg4 arg9 harg9 x1 x6 : List (View.Piece (Elt F) S1024x1024 .bf16)), ∀ x : p.1.shape.Idx, p.2 x = wuV x1 x6 (p.1.emb x) := by
  simp only [kernelRun0_A.sl.HS1_8, kernelRun0_A.sl.r, kernelRun0_A.sl.r_1, kernelRun0_A.sl.r_2, kernelRun0_A.sl.r_3, List.forall_mem_cons, List.not_mem_nil, false_implies, implies_true, and_true]
  refine ⟨?_, ?_, ?_, ?_, ?_, ?_, ?_, ?_⟩
  · intro x
    refine Eq.trans ?_ (wuV_at x1 x6 7 x _ (by show 0 + 1 * (x 0).val = _; omega) (by show 896 + 1 * (x 1).val = 128 * 7 + (x 1).val; omega)).symm
    exact congrFun (congrArg₂ k0_pay6 (rd_strip harg4 x1 7 rfl rfl rfl rfl _) (rd_whole harg9 x6 (by decide) _)) x
  · intro x
    refine Eq.trans ?_ (wuV_at x1 x6 6 x _ (by show 0 + 1 * (x 0).val = _; omega) (by show 768 + 1 * (x 1).val = 128 * 6 + (x 1).val; omega)).symm
    exact congrFun (congrArg₂ k0_pay6 (rd_strip harg4 x1 6 rfl rfl rfl rfl _) (rd_whole harg9 x6 (by decide) _)) x
  · intro x
    refine Eq.trans ?_ (wuV_at x1 x6 5 x _ (by show 0 + 1 * (x 0).val = _; omega) (by show 640 + 1 * (x 1).val = 128 * 5 + (x 1).val; omega)).symm
    exact congrFun (congrArg₂ k0_pay6 (rd_strip harg4 x1 5 rfl rfl rfl rfl _) (rd_whole harg9 x6 (by decide) _)) x
  · intro x
    refine Eq.trans ?_ (wuV_at x1 x6 4 x _ (by show 0 + 1 * (x 0).val = _; omega) (by show 512 + 1 * (x 1).val = 128 * 4 + (x 1).val; omega)).symm
    exact congrFun (congrArg₂ k0_pay6 (rd_strip harg4 x1 4 rfl rfl rfl rfl _) (rd_whole harg9 x6 (by decide) _)) x
  · intro x
    refine Eq.trans ?_ (wuV_at x1 x6 3 x _ (by show 0 + 1 * (x 0).val = _; omega) (by show 384 + 1 * (x 1).val = 128 * 3 + (x 1).val; omega)).symm
    exact congrFun (congrArg₂ k0_pay6 (rd_strip harg4 x1 3 rfl rfl rfl rfl _) (rd_whole harg9 x6 (by decide) _)) x
  · intro x
    refine Eq.trans ?_ (wuV_at x1 x6 2 x _ (by show 0 + 1 * (x 0).val = _; omega) (by show 256 + 1 * (x 1).val = 128 * 2 + (x 1).val; omega)).symm
    exact congrFun (congrArg₂ k0_pay6 (rd_strip harg4 x1 2 rfl rfl rfl rfl _) (rd_whole harg9 x6 (by decide) _)) x
  · intro x
    refine Eq.trans ?_ (wuV_at x1 x6 1 x _ (by show 0 + 1 * (x 0).val = _; omega) (by show 128 + 1 * (x 1).val = 128 * 1 + (x 1).val; omega)).symm
    exact congrFun (congrArg₂ k0_pay6 (rd_strip harg4 x1 1 rfl rfl rfl rfl _) (rd_whole harg9 x6 (by decide) _)) x
  · intro x
    refine Eq.trans ?_ (wuV_at x1 x6 0 x _ (by show 0 + 1 * (x 0).val = _; omega) (by show 0 + 1 * (x 1).val = 128 * 0 + (x 1).val; omega)).symm
    exact congrFun (congrArg₂ k0_pay6 (rd_strip harg4 x1 0 rfl rfl rfl rfl _) (rd_whole harg9 x6 (by decide) _)) x

theorem cov1 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) (y : S1024x1024.Idx) :
    ∃ p ∈ (kernelRun0_A.sl.HS1_8 c arg4 harg4 arg9 harg9 x1 x6 : List (View.Piece (Elt F) S1024x1024 .bf16)), y ∈ p.1.set :=
  View.cover_of_tiledL (kernelRun0_A.sl.HS1_8 c arg4 harg4 arg9 harg9 x1 x6 : List (View.Piece (Elt F) S1024x1024 .bf16)) S1024x128.size (by sl_kernel_rfl) y

theorem left1 (c : Dev nD) (arg4 : Memref sig .tc .vmem S1x1x1024x2048 .f32) (harg4 : arg4.IsWhole) (arg9 : Memref sig .tc .vmem S256x256 .bf16) (harg9 : arg9.IsWhole) (x1 : Vec F S1x1x1024x2048 .f32) (x6 : Vec F S256x256 .bf16) (v : View sig .tc .vmem S1024x1024 .bf16) (f : v.ty.Contents (Elt F)) :
    v.read (Elt F) (v.writes (Elt F) f (kernelRun0_A.sl.HS1_8 c arg4 harg4 arg9 harg9 x1 x6)) = wuV x1 x6 :=
  funext fun y => View.read_writes_apply_of_pieces v f _ _ (pieces1 c arg4 harg4 arg9 harg9 x1 x6) y (cov1 c arg4 harg4 arg9 harg9 x1 x6 y)

theorem left2 (c : Dev nD) (arg5 : Memref sig .tc .vmem S1x1x1024x1024 .f32) (harg5 : arg5.IsWhole) (x2 : Vec F S1x1x1024x1024 .f32)
    (v : View sig .tc .vmem S1024x1024 .bf16) (f : v.ty.Contents (Elt F)) :
    v.read (Elt F) (v.writes (Elt F) f (kernelRun0_A.sl.HS2_1 c arg5 harg5 x2)) = wdV x2 := by
  simp only [kernelRun0_A.sl.HS2_1, kernelRun0_A.sl.r_2, kernelRun0_A.sl.r_3, kernelRun0_A.sl.r_4]
  refine (View.read_writes_full v f _ _ _).trans ?_
  exact congrArg (fun x => k0_pay1 (k0_pay29 x)) (rd_whole harg5 x2 (by decide) _)

/-- A load of the whole of a buffer written over reads what a read of it does. -/
theorem rd_cov (v : View sig .tc .vmem S1024x1024 .bf16) (L : List (View.Piece (Elt F) S1024x1024 .bf16)) (inb) :
    v.readCov L (Rect.unit (s := S1024x1024) ![0, 0] ![1024, 1024] inb).toLoadRect = v.read (Elt F) (v.writes (Elt F) v.junk L) := by
  funext x
  refine congrArg (v.read (Elt F) (v.writes (Elt F) v.junk L)) (funext fun a => Fin.ext ?_)
  match a with
  | 0 => show 0 + 1 * (x 0).val = (x 0).val; omega
  | 1 => show 0 + 1 * (x 1).val = (x 1).val; omega

theorem lvA_7 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : newC c xt0 xt1 i) (hc1 : usedC c xt1 i) (hc2 : ¬restC c xt1 i) (f) :
    arg10.view.read (Elt F) (arg10.view.writes (Elt F) f (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2).1) = outV x0 (wgV x1 x6) (wuV x1 x6) (wdV x2) x3 x4 x5 := by
  unfold kernelRun0_A
  dsimp only
  simp only [kernelRun0_A.sl.r_3, kernelRun0_A.sl.r_5, kernelRun0_A.sl.v29, kernelRun0_A.sl.v35, kernelRun0_A.sl.v55, kernelRun0_A.sl.cst_24]
  refine (View.read_writes_full _ f _ _ _).trans ?_
  exact outV_congr (rd_whole harg3 x0 (by decide) _) ((rd_cov _ _ _).trans (left0 c arg4 harg4 arg9 harg9 x1 x6 _ _)) ((rd_cov _ _ _).trans (left1 c arg4 harg4 arg9 harg9 x1 x6 _ _)) ((rd_cov _ _ _).trans (left2 c arg5 harg5 x2 _ _)) (rd_whole harg6 x3 (by decide) _) (rd_whole harg7 x4 (by decide) _) (rd_whole harg8 x5 (by decide) _)

theorem lvA_s0 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : newC c xt0 xt1 i) (hc1 : usedC c xt1 i) (hc2 : ¬restC c xt1 i) (f) :
    arg11.view.read (Elt F) (arg11.view.writes (Elt F) f (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2).2.1) = wgV x1 x6 := by
  exact left0 c arg4 harg4 arg9 harg9 x1 x6 _ _

theorem lvA_s1 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : newC c xt0 xt1 i) (hc1 : usedC c xt1 i) (hc2 : ¬restC c xt1 i) (f) :
    arg12.view.read (Elt F) (arg12.view.writes (Elt F) f (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2).2.2.1) = wuV x1 x6 := by
  exact left1 c arg4 harg4 arg9 harg9 x1 x6 _ _

theorem lvA_s2 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : newC c xt0 xt1 i) (hc1 : usedC c xt1 i) (hc2 : ¬restC c xt1 i) (f) :
    arg13.view.read (Elt F) (arg13.view.writes (Elt F) f (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2).2.2.2.1) = wdV x2 := by
  exact left2 c arg5 harg5 x2 _ _

theorem lvB_7 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : ¬newC c xt0 xt1 i) (hc1 : usedC c xt1 i) (hc2 : ¬restC c xt1 i) (xs0 : Vec F S1024x1024 .bf16) (xs1 : Vec F S1024x1024 .bf16) (xs2 : Vec F S1024x1024 .bf16) (f) :
    arg10.view.read (Elt F) (arg10.view.writes (Elt F) f (kernelRun0_B c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2 xs0 xs1 xs2).1) = outV x0 xs0 xs1 xs2 x3 x4 x5 := by
  unfold kernelRun0_B
  dsimp only
  simp only [kernelRun0_B.sl.r_3, kernelRun0_B.sl.r_4, kernelRun0_B.sl.cst_24]
  refine (View.read_writes_full _ f _ _ _).trans ?_
  exact outV_congr (rd_whole harg3 x0 (by decide) _) (rd_whole harg11 xs0 (by decide) _) (rd_whole harg12 xs1 (by decide) _) (rd_whole harg13 xs2 (by decide) _) (rd_whole harg6 x3 (by decide) _) (rd_whole harg7 x4 (by decide) _) (rd_whole harg8 x5 (by decide) _)

theorem lvC_7 (c : Dev nD) (i : grid0.Coords) (arg3 : Memref sig .tc .vmem S1024x512 .bf16) (harg3 : arg3.IsWhole) (arg4 : Memref sig .tc .vmem S1x1x1024x2048 .f32) (harg4 : arg4.IsWhole) (arg5 : Memref sig .tc .vmem S1x1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x512 .bf16) (x1 : Vec F S1x1x1024x2048 .f32) (x2 : Vec F S1x1x1024x1024 .f32) (x3 : Vec F S1x1x1024 .f32) (x4 : Vec F S1x1x1024 .f32) (x5 : Vec F S1x1x1024 .f32) (x6 : Vec F S256x256 .bf16) (xt0 : TbBuf0 (F := F) c tbM0_0) (xt1 : TbBuf0 (F := F) c tbM0_1)
    (hc0 : ¬newC c xt0 xt1 i) (hc1 : ¬usedC c xt1 i) (hc2 : restC c xt1 i) (xs0 : Vec F S1024x1024 .bf16) (xs1 : Vec F S1024x1024 .bf16) (xs2 : Vec F S1024x1024 .bf16) (f) :
    arg10.view.read (Elt F) (arg10.view.writes (Elt F) f (kernelRun0_C c i arg3 harg3 arg4 harg4 arg5 harg5 arg6 harg6 arg7 harg7 arg8 harg8 arg9 harg9 arg10 harg10 arg11 harg11 arg12 harg12 arg13 harg13 x0 x1 x2 x3 x4 x5 x6 xt0 xt1 hc0 hc1 hc2 xs0 xs1 xs2).1) = k0_pay3 := by
  unfold kernelRun0_C
  dsimp only
  exact View.read_writes_full _ f _ _ _

end Cert.ExpertsIdeal.Hand

end
-- ==== Proof.ExpertsIdealFrame.lean ====
/- The scratch carried from point to point, and the body's triple at a generic point. -/
module

public import proofs.«01_k».proof.Proof.ExpertsIdealVals
public import Idealize.ShloMosaic.Lib.Claim

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem bit_cases (a : BitVec 1) : a = 0#1 ∨ a = 1#1 := by
  have := a.isLt
  rcases Nat.lt_or_ge a.toNat 1 with h | h
  · exact Or.inl (BitVec.eq_of_toNat_eq (by simp; omega))
  · exact Or.inr (BitVec.eq_of_toNat_eq (by simp; omega))

theorem bit_and (a b : BitVec 1) (h : Scalar.cmpi .ne (Scalar.extui (Scalar.andi a b) : BitVec 32) 0#32 = 1#1) :
    Scalar.cmpi .ne (Scalar.extui a : BitVec 32) 0#32 = 1#1 := by
  revert h
  rcases bit_cases a with rfl | rfl <;> rcases bit_cases b with rfl | rfl <;> decide

theorem bit_not (a : BitVec 1) :
    (Scalar.cmpi .ne (Scalar.extui (Scalar.xori a 1#1) : BitVec 32) 0#32 = 1#1) ↔ ¬ (Scalar.cmpi .ne (Scalar.extui a : BitVec 32) 0#32 = 1#1) := by
  rcases bit_cases a with rfl | rfl <;> decide

/-- A block whose expert is newly seen is a block in use. -/
theorem used_of_new (c : Dev nD) (xt0 : TbBuf0 (F := F) c tbM0_0) (xt1 : TbBuf0 (F := F) c tbM0_1) (i : grid0.Coords)
    (h : newC c xt0 xt1 i) : usedC c xt1 i := bit_and _ _ h

/-- The last branch is the complement of the one before. -/
theorem cond3_iff (i : grid0.Coords) (w : BitVec 32) : k0_cond3 i w = 1#1 ↔ ¬ k0_cond2 i w = 1#1 := bit_not _

theorem live_words (i : grid0.Coords) (w : BitVec 32) : (!(k0_cond2 i w == 1#1) && !(k0_cond3 i w == 1#1)) = false := by
  have h := cond3_iff i w
  by_cases h2 : k0_cond2 i w = 1#1
  · simp [h2]
  · simp [h.mpr h2]

theorem idle7_eq (pf : pre0.Contents (Elt F)) (i : grid0.Coords) :
    idle0 pf 7 i = (!(k0_cond2 i (pf.atD 1 ![0]) == 1#1) && !(k0_cond3 i (pf.atD 1 ![0]) == 1#1)) := rfl

theorem idle_eq (a : (pcfg0 (F := F)).Adm) : (cfg0 a).idle = idle0 a.1 := rfl

theorem live7 (a : (pcfg0 (F := F)).Adm) (i : grid0.Coords) : (cfg0 a).idle 7 i = false :=
  (congrFun (congrFun (idle_eq a) 7) i).trans ((idle7_eq a.1 i).trans (live_words _ _))

/-- The output's block is written at every point. -/
theorem liveAt0_7 (hO : Ok m) (t : Fin (cfgM m hO).N) : (cfgM m hO).idle 7 (grid0.coords t) = false := by
  exact live7 (adm m hO) (grid0.coords t)

/-! ## What the scratch and the output hold, point by point -/

/-- The weights as point `t` prepares them. -/
def prepS (hO : Ok m) (c : Dev nD) (t : Fin (cfgM m hO).N) : Vec F S1024x1024 .bf16 × Vec F S1024x1024 .bf16 × Vec F S1024x1024 .bf16 :=
  (wgV (iblk m hO c 1 t) (iblk m hO c 6 t), wuV (iblk m hO c 1 t) (iblk m hO c 6 t), wdV (iblk m hO c 2 t))

/-- The scratch after position `n`: prepared there when the expert is newly seen, else as the position before left it. -/
def scr (hO : Ok m) (c : Dev nD) : (n : ℕ) → n < (cfgM m hO).N → Vec F S1024x1024 .bf16 × Vec F S1024x1024 .bf16 × Vec F S1024x1024 .bf16
  | 0, h => prepS m hO c ⟨0, h⟩
  | n + 1, h => if newC (F := F) c (tbl m 0) (tbl m 1) (grid0.coords ⟨n + 1, h⟩) then prepS m hO c ⟨n + 1, h⟩ else scr hO c n (Nat.lt_of_succ_lt h)

theorem scr_new (hO : Ok m) (c : Dev nD) (t : Fin (cfgM m hO).N) (h : newC (F := F) c (tbl m 0) (tbl m 1) (grid0.coords t)) :
    scr m hO c t.val t.isLt = prepS m hO c t := by
  obtain ⟨n, hn⟩ := t
  cases n with
  | zero => rfl
  | succ n => exact if_pos h

theorem scr_old (hO : Ok m) (c : Dev nD) (t : Fin (cfgM m hO).N) (hz : t.val ≠ 0) (h : ¬ newC (F := F) c (tbl m 0) (tbl m 1) (grid0.coords t)) :
    scr m hO c t.val t.isLt = scr m hO c (t.val - 1) (Nat.lt_of_le_of_lt (Nat.sub_le _ _) t.isLt) := by
  obtain ⟨n, hn⟩ := t
  cases n with
  | zero => exact absurd rfl hz
  | succ n => exact if_neg h

/-- What point `t` leaves in the output's buffer. -/
def outAt (hO : Ok m) (c : Dev nD) (t : Fin (cfgM m hO).N) : Vec F S1024x512 .bf16 :=
  if usedC (F := F) c (tbl m 1) (grid0.coords t) then
    outV (iblk m hO c 0 t) (scr m hO c t.val t.isLt).1 (scr m hO c t.val t.isLt).2.1 (scr m hO c t.val t.isLt).2.2 (iblk m hO c 3 t) (iblk m hO c 4 t) (iblk m hO c 5 t)
  else k0_pay3

/-- The first block's expert is newly seen: so the scratch is never read before it is written. -/
def First : Prop := ∀ (c : Dev nD) (t : Fin grid0.N), t.val = 0 → newC (F := F) c (tbl m 0) (tbl m 1) (grid0.coords t)

/-- The invariant before position `n`: the scratch at what the positions before left, the generator, the tables. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((scr m hO c n hn).1) ∗ owns (c : Thread nD τ) scM0_1 fullShare ((scr m hO c n hn).2.1) ∗ owns (c : Thread nD τ) scM0_2 fullShare ((scr m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((scr m hO c n hn).1) ∗ owns (c : Thread nD τ) scM0_1 fullShare ((scr m hO c n hn).2.1) ∗ owns (c : Thread nD τ) scM0_2 fullShare ((scr m hO c n hn).2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((scr m hO c (n - 1) (by omega)).1) ∗ owns (c : Thread nD τ) scM0_1 fullShare ((scr m hO c (n - 1) (by omega)).2.1) ∗ owns (c : Thread nD τ) scM0_2 fullShare ((scr m hO c (n - 1) (by omega)).2.2)) ∗ (∃ r, prngReg c r)) ∗ Pipeline.ΦT pre0 (tbl m) c) := by
  cases n with
  | zero => exact absurd rfl hz
  | succ n => rfl

/-! ## The pipeline's proof data -/

/-- The proof data: inputs at their blocks, the output at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 9600000 in
/-- The body at one point leaves what the data says. -/
theorem sound_body (hO : Ok m) (hF : First m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [after0_0, after0_1, after0_2, after0_3, after0_4, after0_5, after0_6, after0_7]
  by_cases hn : newC (F := F) c (tbl m 0) (tbl m 1) (grid0.coords t)
  · have hu := used_of_new c (tbl m 0) (tbl m 1) _ hn
    have hr : ¬restC (F := F) c (tbl m 1) (grid0.coords t) := fun h => (cond3_iff _ _).mp h hu
    by_cases hz : t.val = 0
    · rw [PhiS_castSucc m hO c t, PhiS_zero m hO c _ _ hz, PhiT0_eq, PhiA0_eq]
      have ho : outAt m hO c t = outV (iblk m hO c 0 t) (wgV (iblk m hO c 1 t) (iblk m hO c 6 t)) (wuV (iblk m hO c 1 t) (iblk m hO c 6 t)) (wdV (iblk m hO c 2 t)) (iblk m hO c 3 t) (iblk m hO c 4 t) (iblk m hO c 5 t) := by
        unfold outAt; rw [if_pos hu, scr_new m hO c t hn]; rfl
      rw [ho, scr_new m hO c t hn]; unfold prepS; dsimp only
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hn hu hr).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, ⟨%e7, H7⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact lvA_s0 c (grid0.coords t) _ _ _ _ _ _ _ _ _ _ _ _ _ _ _ _ _ _ _ _ _ _ _ _ _ _ _ _ _ _ _ _ _ _ _
            isplitl [HS1]
            · unfold owns; iexists _; isplitr
              swap; · iexact HS1
              ipureintro; exact lvA_s1 c (grid0.coords t) _ _ _ _ _ _ _ _ _ _ _ _ _ _ _ _ _ _ _ _ _ _ _ _ _ _ _ _ _ _ _ _ _ _ _
            unfold owns; iexists _; isplitr
            swap; · iexact HS2
            ipureintro; exact lvA_s2 c (grid0.coords t) _ _ _ _ _ _ _ _ _ _ _ _ _ _ _ _ _ _ _ _ _ _ _ _ _ _ _ _ _ _ _ _ _ _ _
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact lvA_7 c (grid0.coords t) _ _ _ _ _ _ _ _ _ _ _ _ _ _ _ _ _ _ _ _ _ _ _ _ _ _ _ _ _ _ _ _ _ _ _
    · rw [PhiS_castSucc m hO c t, PhiS_pos m hO c _ _ hz, PhiT0_eq]
      have ho : outAt m hO c t = outV (iblk m hO c 0 t) (wgV (iblk m hO c 1 t) (iblk m hO c 6 t)) (wuV (iblk m hO c 1 t) (iblk m hO c 6 t)) (wdV (iblk m hO c 2 t)) (iblk m hO c 3 t) (iblk m hO c 4 t) (iblk m hO c 5 t) := by
        unfold outAt; rw [if_pos hu, scr_new m hO c t hn]; rfl
      rw [ho, scr_new m hO c t hn]; unfold prepS; dsimp only
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hn hu hr).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, H4, H5, H6, ⟨%e7, H7⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact lvA_s0 c (grid0.coords t) _ _ _ _ _ _ _ _ _ _ _ _ _ _ _ _ _ _ _ _ _ _ _ _ _ _ _ _ _ _ _ _ _ _ _
            isplitl [HS1]
            · unfold owns; iexists _; isplitr
              swap; · iexact HS1
              ipureintro; exact lvA_s1 c (grid0.coords t) _ _ _ _ _ _ _ _ _ _ _ _ _ _ _ _ _ _ _ _ _ _ _ _ _ _ _ _ _ _ _ _ _ _ _
            unfold owns; iexists _; isplitr
            swap; · iexact HS2
            ipureintro; exact lvA_s2 c (grid0.coords t) _ _ _ _ _ _ _ _ _ _ _ _ _ _ _ _ _ _ _ _ _ _ _ _ _ _ _ _ _ _ _ _ _ _ _
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact lvA_7 c (grid0.coords t) _ _ _ _ _ _ _ _ _ _ _ _ _ _ _ _ _ _ _ _ _ _ _ _ _ _ _ _ _ _ _ _ _ _ _
  · have hz : t.val ≠ 0 := fun h => hn (hF c t h)
    by_cases hu : usedC (F := F) c (tbl m 1) (grid0.coords t)
    · have hr : ¬restC (F := F) c (tbl m 1) (grid0.coords t) := fun h => (cond3_iff _ _).mp h hu
      rw [PhiS_castSucc m hO c t, PhiS_pos m hO c _ _ hz, PhiT0_eq]
      have ho : outAt m hO c t = outV (iblk m hO c 0 t) (scr m hO c (t.val - 1) (Nat.lt_of_le_of_lt (Nat.sub_le _ _) t.isLt)).1 (scr m hO c (t.val - 1) (Nat.lt_of_le_of_lt (Nat.sub_le _ _) t.isLt)).2.1 (scr m hO c (t.val - 1) (Nat.lt_of_le_of_lt (Nat.sub_le _ _) t.isLt)).2.2 (iblk m hO c 3 t) (iblk m hO c 4 t) (iblk m hO c 5 t) := by
        unfold outAt; rw [if_pos hu, scr_old m hO c t hz hn]
      rw [ho, scr_old m hO c t hz hn]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hn hu hr _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, ⟨%e7, H7⟩, HS0, HS1, HS2, HT0, HT1⟩
      isplitl [HS0 HS1 HS2 Hg HT0 HT1]
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact lvB_7 c (grid0.coords t) _ _ _ _ _ _ _ _ _ _ _ _ _ _ _ _ _ _ _ _ _ _ _ _ _ _ _ _ _ _ _ _ _ _ _ _ _ _
    · have hr : restC (F := F) c (tbl m 1) (grid0.coords t) := (cond3_iff _ _).mpr hu
      rw [PhiS_castSucc m hO c t, PhiS_pos m hO c _ _ hz, PhiT0_eq]
      have ho : outAt m hO c t = k0_pay3 := by
        unfold outAt; rw [if_neg hu]
      rw [ho, scr_old m hO c t hz hn]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hn hu hr _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, ⟨%e7, H7⟩, HS0, HS1, HS2, HT0, HT1⟩
      isplitl [HS0 HS1 HS2 Hg HT0 HT1]
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact lvC_7 c (grid0.coords t) _ _ _ _ _ _ _ _ _ _ _ _ _ _ _ _ _ _ _ _ _ _ _ _ _ _ _ _ _ _ _ _ _ _ _ _ _ _

end Cert.ExpertsIdeal.Hand

end
-- ==== Proof.ExpertsIdealMain.lean ====
/- The run of the whole program, and its frame claim. -/
module

public import proofs.«01_k».proof.Proof.ExpertsIdealFrame

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No window is idle anywhere. -/
theorem live_all (hO : Ok m) (t : Fin (cfgM m hO).N) : ∀ w : Fin 8, (cfgM m hO).idle w (grid0.coords t) = false
  | 0 => liveAt0_0 m hO t | 1 => liveAt0_1 m hO t | 2 => liveAt0_2 m hO t | 3 => liveAt0_3 m hO t
  | 4 => liveAt0_4 m hO t | 5 => liveAt0_5 m hO t | 6 => liveAt0_6 m hO t | 7 => liveAt0_7 m hO t

theorem leaves_all (hO : Ok m) (c : Dev nD) (t : Fin (cfgM m hO).N) (w : Fin (cfgM m hO).W) :
    (dats m hO 0 c).leavesExact w t = owns (c : Thread nD τ) (((cfgM m hO).win w).stage ((cfgM m hO).slots t w)) fullShare ((dats m hO 0 c).after w t) := by
  unfold Dat.leavesExact
  rw [show (cfgM m hO).idle w ((cfgM m hO).grid.coords t) = false from live_all m hO t w]

theorem body_obligation (hO : Ok m) (hF : First m) (c : Dev nD) : BodyObligation (dats (F := F) m hO 0 c) (defs₀ (F := F)) Variants.none () Set.univ := fun t => by
  change iprop((dats m hO 0 c).Φ t.castSucc ∗ (dats m hO 0 c).owesAt () t.castSucc
      ∗ bigSep Finset.univ fun w : Fin (cfgM m hO).W => iprop(∃ d, owns (c : Thread nD τ) (((cfgM m hO).win w).stage ((cfgM m hO).slots t w)) fullShare ((dats m hO 0 c).before w t d)))
    ⊢ wp frame (wpE (defs₀ (F := F)) Variants.none c none) Set.univ _ fun _ =>
      iprop((dats m hO 0 c).Φ t.succ ∗ (dats m hO 0 c).owesAt () t.succ ∗ bigSep Finset.univ fun w : Fin (cfgM m hO).W => (dats m hO 0 c).leavesExact w t)
  rw [funext (leaves_all m hO c t)]
  rw [bigSep_W0, bigSep_W0, defs₀_row m hO]
  exact triple_restated (sound_body m hO hF c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 364 := N_0; omega)

/-! ## The run and the frame -/

-- `θ_run_frameP_track`'s implicit arguments are found by unifying its conclusion with this one, which takes unfolding plain
-- definitions in a metavariable's type
set_option backward.isDefEq.respectTransparency.types false in
theorem run_main_quiescent (hO : Ok m) (hF : First m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) (hF : First m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

theorem unchanged (hO : Ok m) (hF : First m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO hF)

theorem frame (hO : Ok m) (hF : First m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hF) ((θ_run defs _ _).mono (fun _ h => h.2) (run_main_quiescent m ρ hO hF))

end Cert.ExpertsIdeal.Hand

end
-- ==== Proof.ExpertsIdealPre.lean ====
/- The tables are as the pipeline needs them under the precondition: the side condition of its blocks, the first position prepares. -/
module

public import proofs.«01_k».proof.Proof.ExpertsIdealMain
public import proofs.«01_k».proof.Proof.Tables
public import proofs.«01_k».proof.Defs
public import Idealize.ShloMosaic.Lib.WordArith

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables as launched. -/
abbrev BE : IVec S364 32 := m (((0 : Dev nD) : Thread nD τ).loc main_arg0)
abbrev NU : IVec S1 32 := m (((0 : Dev nD) : Thread nD τ).loc main_arg1)

/-- What the precondition says of the tables. -/
def Good : Prop := (∀ i, (BE m i).toNat < 32) ∧ ∀ i, 1 ≤ (NU m i).toNat ∧ (NU m i).toNat ≤ 364

theorem tbl_0 : tbl m 0 = BE m := V_main_arg0 m 0
theorem tbl_1 : tbl m 1 = NU m := V_main_arg1 m 0

/-- The number of used blocks. -/
def nUsed : ℕ := (NU m (ix1 (0 : Fin 1))).toNat

theorem S1_one (i : S1.Idx) : i = ix1 (0 : Fin 1) := funext fun a => by
  obtain rfl : a = 0 := Subsingleton.elim _ _
  exact Subsingleton.elim (α := Fin 1) _ _

theorem nuW_eq (c : Dev nD) : nuW (F := F) c (tbl m 1) = NU m (ix1 (0 : Fin 1)) := by
  rw [tbl_1]; exact congrArg (NU m) (S1_one _)

theorem coord_lt (i : grid0.Coords) : (i 0).val < 364 := (i 0).isLt
theorem coord_at (t : Fin grid0.N) : (grid0.coords t 0).val = t.val := (by decide +kernel : ∀ t : Fin grid0.N, (grid0.coords t 0).val = t.val) t

/-- The element of the expert table at a position below 364. -/
theorem pick (f : IVec S364 32) (off : Fin 1 → ℕ) (inb : ∀ a, off a + S1.size a ≤ S364.size a) (k : ℕ) (hk : off 0 = k) (hl : k < 364) (h1 : 0 < S1.numel) :
    f ((Rect.unit (s := S364) off S1.size inb).emb (Shape.Idx.first h1)) = f (ix1 ⟨k, hl⟩) := by
  subst hk
  refine congrArg f (funext fun a => ?_)
  obtain rfl : a = 0 := Subsingleton.elim _ _
  refine Fin.ext ?_
  show off 0 + 1 * ((Shape.Idx.first h1 : S1.Idx) 0).val = off 0
  have : ((Shape.Idx.first h1 : S1.Idx) 0).val < 1 := ((Shape.Idx.first h1 : S1.Idx) 0).isLt
  omega

theorem beW_eq (c : Dev nD) (i : grid0.Coords) : beW (F := F) c (tbl m 0) i = BE m (ix1 ⟨(i 0).val, coord_lt i⟩) := by
  rw [tbl_0]
  exact pick (BE m) _ _ _ ((by decide +kernel : ∀ i : Fin 364, (Scalar.indexCast (BitVec.ofNat 32 i.val)).toNat = i.val) (i 0)) (coord_lt i) _

theorem beP_eq (c : Dev nD) (i : grid0.Coords) : beP (F := F) c (tbl m 0) i = BE m (ix1 ⟨(i 0).val - 1, by have := coord_lt i; omega⟩) := by
  rw [tbl_0]
  exact pick (BE m) _ _ _ ((by decide +kernel : ∀ i : Fin 364, (Scalar.indexCast (Scalar.maxsi (Scalar.subi (BitVec.ofNat 32 i.val) 1#32) 0#32)).toNat = i.val - 1) (i 0)) (by have := coord_lt i; omega) _

/-- The row block a position reads: its own while used, the last used one after. -/
theorem t0_eq (hG : Good m) (i : grid0.Coords) : cc0_transform_0 inb_S1_S1_0 numel1_S1 (tbl m) i = ![min (i 0).val (nUsed m - 1), 0] := by
  have hn := hG.2 (ix1 (0 : Fin 1))
  have hi := coord_lt i
  have e : cc0_transform_0 inb_S1_S1_0 numel1_S1 (tbl m) i
      = ![(IntOp.minsi (BitVec.ofNat 32 (i 0).val) (IntOp.subi (tbl m 1 ((Rect.unit (s := S1) ![0] S1.size inb_S1_S1_0).emb (Shape.Idx.first (numel1_S1.symm ▸ Nat.one_pos)))) 1#32)).toNat, 0] := rfl
  rw [e, tbl_1, congrArg (NU m) (S1_one _)]
  have hs : (IntOp.subi (NU m (ix1 (0 : Fin 1))) 1#32).toNat = nUsed m - 1 := by
    unfold IntOp.subi nUsed; bv_omega
  rw [WordArith.toNat_minsi_of_lt _ _ (by rw [BitVec.toNat_ofNat]; omega) (by rw [hs]; unfold nUsed; omega), hs, BitVec.toNat_ofNat, Nat.mod_eq_of_lt (by omega)]

/-- The expert a position reads. -/
theorem word_at (i : grid0.Coords) : ((tbl m).at 0 (Rect.unit (s := S364) ![(Scalar.indexCast (BitVec.ofNat 32 (i 0).val)).toNat] S1.size (k0_off1_inb i)) numel1_S1)
    = BE m (ix1 ⟨(i 0).val, coord_lt i⟩) := by
  refine Eq.trans ?_ (beW_eq (F := F) m 0 i); rfl

theorem t1_eq (i : grid0.Coords) : cc0_transform_1 k0_off1_inb numel1_S1 (tbl m) i = ![0, (BE m (ix1 ⟨(i 0).val, coord_lt i⟩)).toNat, 0, 0] := by
  rw [← word_at]; rfl
theorem t2_eq (i : grid0.Coords) : cc0_transform_2 k0_off1_inb numel1_S1 (tbl m) i = ![0, (BE m (ix1 ⟨(i 0).val, coord_lt i⟩)).toNat, 0, 0] := by
  rw [← word_at]; rfl
theorem t3_eq (i : grid0.Coords) : cc0_transform_3 k0_off1_inb numel1_S1 (tbl m) i = ![(BE m (ix1 ⟨(i 0).val, coord_lt i⟩)).toNat, 0, 0] := by
  rw [← word_at]; rfl
theorem t4_eq (i : grid0.Coords) : cc0_transform_4 k0_off1_inb numel1_S1 (tbl m) i = ![(BE m (ix1 ⟨(i 0).val, coord_lt i⟩)).toNat, 0, 0] := by
  rw [← word_at]; rfl
theorem t5_eq (i : grid0.Coords) : cc0_transform_5 k0_off1_inb numel1_S1 (tbl m) i = ![(BE m (ix1 ⟨(i 0).val, coord_lt i⟩)).toNat, 0, 0] := by
  rw [← word_at]; rfl

/-- Every block the tables name is inside its array. -/
theorem ok_of (hG : Good m) : Ok m := by
  refine ⟨fun i => ?_, fun i => ⟨?_, .inl rfl⟩, fun i => ⟨?_, .inl rfl⟩, fun i => ⟨?_, .inl rfl⟩, fun i => ⟨?_, .inl rfl⟩, fun i => ⟨?_, .inl rfl⟩⟩
  · have h : ∀ a, (cc0_transform_0 inb_S1_S1_0 numel1_S1 (tbl m) i a + 1) * S1024x512.size a ≤ S372736x512.size a := by
      rw [t0_eq m hG]
      have hi := coord_lt i
      intro a; fin_cases a
      · show (min (i 0).val (nUsed m - 1) + 1) * 1024 ≤ 372736; omega
      · show (0 + 1) * 512 ≤ 512; omega
    exact ⟨h, .inr (Affine.block_words_dvd (of_decide_eq_true rfl) (by decide))⟩
  all_goals
    have hb := hG.1 (ix1 ⟨(i 0).val, coord_lt i⟩)
    first | rw [t1_eq] | rw [t2_eq] | rw [t3_eq] | rw [t4_eq] | rw [t5_eq]
    intro a; fin_cases a
  · show (0 + 1) * 1 ≤ 4; omega
  · show ((BE m (ix1 ⟨(i 0).val, coord_lt i⟩)).toNat + 1) * 1 ≤ 32; omega
  · show (0 + 1) * 1024 ≤ 1024; omega
  · show (0 + 1) * 2048 ≤ 2048; omega
  · show (0 + 1) * 1 ≤ 4; omega
  · show ((BE m (ix1 ⟨(i 0).val, coord_lt i⟩)).toNat + 1) * 1 ≤ 32; omega
  · show (0 + 1) * 1024 ≤ 1024; omega
  · show (0 + 1) * 1024 ≤ 1024; omega
  all_goals first | (show ((BE m (ix1 ⟨(i 0).val, coord_lt i⟩)).toNat + 1) * 1 ≤ 32; omega) | (show (0 + 1) * 1 ≤ 1; omega) | (show (0 + 1) * 1024 ≤ 1024; omega)

theorem bit_ne (a : BitVec 1) : (Scalar.cmpi .ne (Scalar.extui a : BitVec 32) 0#32 = 1#1) ↔ a = 1#1 := by
  rcases bit_cases a with rfl | rfl <;> decide

/-- A signed comparison of a small number with a small word. -/
theorem slt_iff (k : ℕ) (w : BitVec 32) (hk : k < 2 ^ 31) (hw : w.toNat < 2 ^ 31) : Scalar.cmpi .slt (BitVec.ofNat 32 k) w = 1#1 ↔ k < w.toNat := by
  have e : Scalar.cmpi .slt (BitVec.ofNat 32 k) w = BitVec.ofBool (decide ((BitVec.ofNat 32 k).toInt < w.toInt)) := rfl
  have h1 := BitVec.toInt_eq_toNat_cond w
  have h2 := BitVec.toInt_eq_toNat_cond (BitVec.ofNat 32 k)
  rw [BitVec.toNat_ofNat, Nat.mod_eq_of_lt (by omega)] at h2
  rw [if_pos (by omega)] at h1 h2
  rw [e, h1, h2]
  by_cases h : k < w.toNat
  · simp [h]
  · simp [h]

/-- A position computes its block exactly when it is used. -/
theorem used_iff (hG : Good m) (c : Dev nD) (i : grid0.Coords) : usedC (F := F) c (tbl m 1) i ↔ (i 0).val < nUsed m := by
  have hn := hG.2 (ix1 (0 : Fin 1))
  have hi := coord_lt i
  have e : usedC (F := F) c (tbl m 1) i ↔ Scalar.cmpi .ne (Scalar.extui (Scalar.cmpi .slt (BitVec.ofNat 32 (i 0).val) (nuW (F := F) c (tbl m 1))) : BitVec 32) 0#32 = 1#1 := Iff.rfl
  rw [e, nuW_eq, bit_ne]
  exact slt_iff _ _ (by omega) (by omega)

/-- The first position prepares. -/
theorem first_of (hG : Good m) : First (F := F) m := by
  intro c t ht
  have hz : (grid0.coords t 0).val = 0 := (coord_at t).trans ht
  have hn := hG.2 (ix1 (0 : Fin 1))
  have e : newC (F := F) c (tbl m 0) (tbl m 1) (grid0.coords t) ↔ Scalar.cmpi .ne (Scalar.extui (Scalar.andi (Scalar.cmpi .slt (BitVec.ofNat 32 (grid0.coords t 0).val) (nuW (F := F) c (tbl m 1))) (Scalar.ori (Scalar.cmpi .eq (BitVec.ofNat 32 (grid0.coords t 0).val) 0#32) (Scalar.cmpi .ne (beW (F := F) c (tbl m 0) (grid0.coords t)) (beP (F := F) c (tbl m 0) (grid0.coords t))))) : BitVec 32) 0#32 = 1#1 := Iff.rfl
  rw [e, bit_ne, nuW_eq, hz, show Scalar.andi _ _ = IntOp.andi _ _ from rfl, IntOp.andi_eq_one]
  refine ⟨(slt_iff _ _ (by omega) (by omega)).mpr (by omega), ?_⟩
  generalize Scalar.cmpi .ne _ _ = q
  rcases bit_cases q with rfl | rfl <;> decide

/-- A used position that does not prepare has the expert of the position before it. -/
theorem same_of_not_new (hG : Good m) (c : Dev nD) (t : Fin grid0.N) (hu : t.val < nUsed m) (h : ¬newC (F := F) c (tbl m 0) (tbl m 1) (grid0.coords t)) :
    t.val ≠ 0 ∧ BE m (ix1 ⟨t.val, by have := (coord_at t) ▸ coord_lt (grid0.coords t); omega⟩) = BE m (ix1 ⟨t.val - 1, by have := (coord_at t) ▸ coord_lt (grid0.coords t); omega⟩) := by
  have hc := coord_at t
  have e : newC (F := F) c (tbl m 0) (tbl m 1) (grid0.coords t) ↔ Scalar.cmpi .ne (Scalar.extui (Scalar.andi (Scalar.cmpi .slt (BitVec.ofNat 32 (grid0.coords t 0).val) (nuW (F := F) c (tbl m 1))) (Scalar.ori (Scalar.cmpi .eq (BitVec.ofNat 32 (grid0.coords t 0).val) 0#32) (Scalar.cmpi .ne (beW (F := F) c (tbl m 0) (grid0.coords t)) (beP (F := F) c (tbl m 0) (grid0.coords t))))) : BitVec 32) 0#32 = 1#1 := Iff.rfl
  refine ⟨fun hz => h (first_of m hG c t hz), ?_⟩
  by_contra hne
  refine h (e.mpr ((bit_ne _).mpr (IntOp.andi_eq_one.mpr ⟨?_, ?_⟩)))
  · have hn := hG.2 (ix1 (0 : Fin 1))
    rw [nuW_eq, hc]
    have : t.val < (NU m (ix1 (0 : Fin 1))).toNat := hu
    exact (slt_iff _ _ (by omega) (by omega)).mpr this
  · rw [beW_eq, beP_eq]
    have : Scalar.cmpi .ne (BE m (ix1 ⟨(grid0.coords t 0).val, coord_lt _⟩)) (BE m (ix1 ⟨(grid0.coords t 0).val - 1, by have := coord_lt (grid0.coords t); omega⟩)) = 1#1 := by
      refine (congrArg BitVec.ofBool (?_ : _ = true) : BitVec.ofBool _ = BitVec.ofBool true)
      rw [bne_iff_ne]
      simpa only [hc] using hne
    rw [this]
    generalize Scalar.cmpi .eq _ _ = q
    rcases bit_cases q with rfl | rfl <;> decide

end Cert.ExpertsIdeal.Hand

end
-- ==== Proof.ExpertsSpec.lean ====
/- What one row of the experts layer is, element by element, over the extended reals. -/
module

public import Idealize.ShloMosaic.Lib.Pipeline.ValueKit
public import Idealize.ShloMosaic.Lib.Claim
public import Idealize.ShloMosaic.PureOps

@[expose] public section

noncomputable section
open Idealize.ShloMosaic

namespace Cert.ExpertsSpec

/-- The gated activation of a gate and an up value. -/
def act (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

abbrev XB := FVec Ideal ⟨2, ![372736, 512]⟩ .bf16
abbrev WGU := FVec Ideal ⟨4, ![4, 32, 1024, 2048]⟩ .f32
abbrev WD := FVec Ideal ⟨4, ![4, 32, 1024, 1024]⟩ .f32
abbrev BGU := FVec Ideal ⟨2, ![32, 2048]⟩ .f32
abbrev BD := FVec Ideal ⟨2, ![32, 1024]⟩ .f32

/-- Row `2r + p` of block `t`. -/
abbrev row (t : Fin 364) (r : Fin 512) (p : Fin 2) : Fin 372736 := ⟨1024 * t.val + 2 * r.val + p.val, by omega⟩

/-- One element of the gate and up projection: the second buffer row's half first. -/
def gu (x : XB) (w : WGU) (b : BGU) (e : Fin 32) (t : Fin 364) (r : Fin 512) (j : Fin 2048) : EReal :=
  (∑ k : Fin 512, x (ix2 (row t r 1) k) * w (ix4 0 e (⟨k.val, by omega⟩ : Fin 1024) j))
    + (∑ k : Fin 512, x (ix2 (row t r 0) k) * w (ix4 0 e (⟨512 + k.val, by omega⟩ : Fin 1024) j)) + b (ix2 e j)

/-- One element of the layer's output. -/
def out (x : XB) (w : WGU) (wd : WD) (b : BGU) (bd : BD) (e : Fin 32) (t : Fin 364) (r : Fin 512) (d : Fin 1024) : EReal :=
  (∑ j : Fin 1024, act (gu x w b e t r ⟨2 * j.val, by omega⟩) (gu x w b e t r ⟨2 * j.val + 1, by omega⟩) * wd (ix4 0 e j d)) + bd (ix2 e d)

/-- The column of the layer's output that buffer row `p`, column `c`, holds. -/
abbrev col (p : Fin 2) (c : Fin 512) : Fin 1024 := ⟨if p.val = 0 then 512 + c.val else c.val, by split <;> omega⟩

end Cert.ExpertsSpec
end
-- ==== Proof.ExpertsIdealValue.lean ====
/- The experts kernel's payloads over the extended reals, element by element, and what the host hands it. -/
module

public import proofs.«01_k».proof.Proof.ExpertsIdealPre
public import proofs.«01_k».proof.Proof.ExpertsSpec
public import Idealize.ShloMosaic.Lib.Pipeline.ValueKit
public import Idealize.ShloMosaic.Lib.Claim
public import Idealize.ShloMosaic.Lib.StableHlo.ReadAt
public import Idealize.ShloMosaic.Lib.WordArith

@[expose] public section

set_option maxRecDepth 16384

noncomputable section
open Idealize.ShloMosaic Idealize.ShloMosaic.TcCoe Idealize.SL.Sem
open Idealize.ShloMosaic.Pipeline (Dat)

namespace Cert.ExpertsIdeal.Hand

open Cert.ExpertsIdeal Cert.ExpertsIdeal.Gen Cert.ExpertsSpec
variable (m : (ℓ : Loc nD τ sig) → Buf (Elt Ideal) ℓ)

/-! ## The column selection -/

theorem pay4_at (v : Vec Ideal S1x1x1024x256 .f32) (p : Vec Ideal S256x256 .bf16) (d : Fin 1024) (k : Fin 256) :
    k0_pay4 v p (ix2 d k) = ∑ r : Fin 256, v (ix4 0 0 d r) * p (ix2 r k) := by
  pointwise [k0_pay4]
theorem pay5_at (v : Vec Ideal S1x1x1024x256 .f32) (p : Vec Ideal S256x256 .bf16) (d : Fin 1024) (k : Fin 128) :
    k0_pay5 v p (ix2 d k) = ∑ r : Fin 256, v (ix4 0 0 d r) * p (ix2 r (⟨k.val, by omega⟩ : Fin 256)) := by
  pointwise [k0_pay5, pay4_at]
theorem pay6_at (v : Vec Ideal S1x1x1024x256 .f32) (p : Vec Ideal S256x256 .bf16) (d : Fin 1024) (k : Fin 128) :
    k0_pay6 v p (ix2 d k) = ∑ r : Fin 256, v (ix4 0 0 d r) * p (ix2 r (⟨128 + k.val, by omega⟩ : Fin 256)) := by
  pointwise [k0_pay6, pay4_at]

/-- The selection: output column `k < 128` is column `2k`, output column `128 + k` is column `2k + 1`. -/
def Sel (p : Vec Ideal S256x256 .bf16) : Prop := ∀ r k : Fin 256, p (ix2 r k) = if (k.val < 128 ∧ r.val = 2 * k.val) ∨ (128 ≤ k.val ∧ r.val + 255 = 2 * k.val) then (1 : EReal) else 0

/-- A sum against a column of zeros and a single one. -/
theorem pick_col (v : Fin 256 → EReal) (p : Fin 256 → EReal) (q : Fin 256) (h1 : p q = 1) (h0 : ∀ r, r ≠ q → p r = 0) : ∑ r, v r * p r = v q := by
  rw [Finset.sum_eq_single q (fun r _ hr => by rw [h0 r hr, mul_zero]) (fun h => absurd (Finset.mem_univ q) h), h1, mul_one]

theorem wgV_sel (x1 : Vec Ideal S1x1x1024x2048 .f32) (p : Vec Ideal S256x256 .bf16) (hp : Sel p) (d j : Fin 1024) :
    wgV x1 p (ix2 d j) = x1 (ix4 0 0 d (⟨2 * j.val, by omega⟩ : Fin 2048)) := by
  have hj := j.isLt
  unfold wgV
  show k0_pay5 (strip ⟨j.val / 128, by omega⟩ x1) p (ix2 d (⟨j.val % 128, by omega⟩ : Fin 128)) = _
  rw [pay5_at, pick_col _ _ (⟨2 * (j.val % 128), by omega⟩ : Fin 256)]
  · refine congrArg (fun k => x1 (ix4 0 0 d k)) (Fin.ext ?_)
    show 256 * (j.val / 128) + 2 * (j.val % 128) = 2 * j.val; omega
  · rw [hp]; exact if_pos (Or.inl ⟨by show j.val % 128 < 128; omega, rfl⟩)
  · intro r hr
    rw [hp]
    refine if_neg ?_
    have : r.val ≠ 2 * (j.val % 128) := fun h => hr (Fin.ext h)
    show ¬ ((j.val % 128 < 128 ∧ r.val = 2 * (j.val % 128)) ∨ (128 ≤ j.val % 128 ∧ r.val + 255 = 2 * (j.val % 128)))
    omega

theorem wuV_sel (x1 : Vec Ideal S1x1x1024x2048 .f32) (p : Vec Ideal S256x256 .bf16) (hp : Sel p) (d j : Fin 1024) :
    wuV x1 p (ix2 d j) = x1 (ix4 0 0 d (⟨2 * j.val + 1, by omega⟩ : Fin 2048)) := by
  have hj := j.isLt
  unfold wuV
  show k0_pay6 (strip ⟨j.val / 128, by omega⟩ x1) p (ix2 d (⟨j.val % 128, by omega⟩ : Fin 128)) = _
  rw [pay6_at, pick_col _ _ (⟨2 * (j.val % 128) + 1, by omega⟩ : Fin 256)]
  · refine congrArg (fun k => x1 (ix4 0 0 d k)) (Fin.ext ?_)
    show 256 * (j.val / 128) + (2 * (j.val % 128) + 1) = 2 * j.val + 1; omega
  · rw [hp]; exact if_pos (Or.inr ⟨by show 128 ≤ 128 + j.val % 128; omega, by show 2 * (j.val % 128) + 1 + 255 = 2 * (128 + j.val % 128); omega⟩)
  · intro r hr
    rw [hp]
    refine if_neg ?_
    have : r.val ≠ 2 * (j.val % 128) + 1 := fun h => hr (Fin.ext h)
    show ¬ ((128 + j.val % 128 < 128 ∧ r.val = 2 * (128 + j.val % 128)) ∨ (128 ≤ 128 + j.val % 128 ∧ r.val + 255 = 2 * (128 + j.val % 128)))
    omega

theorem wdV_at (x2 : Vec Ideal S1x1x1024x1024 .f32) (j d : Fin 1024) : wdV x2 (ix2 j d) = x2 (ix4 0 0 j d) := by
  unfold wdV
  pointwise [k0_pay1, k0_pay29]

/-! ## The block -/

/-- The gated activation, read through the prepared weights. -/
theorem pay30_at (x0 : Vec Ideal S1024x512 .bf16) (s0 s1 : Vec Ideal S1024x1024 .bf16) (x3 x4 : Vec Ideal S1x1x1024 .f32) (r : Fin 512) (j : Fin 1024) :
    k0_pay30 x0 s0 x3 s1 x4 (ix2 r j)
      = act ((∑ k : Fin 512, x0 (ix2 (⟨2 * r.val + 1, by omega⟩ : Fin 1024) k) * s0 (ix2 (⟨k.val, by omega⟩ : Fin 1024) j))
            + (∑ k : Fin 512, x0 (ix2 (⟨2 * r.val, by omega⟩ : Fin 1024) k) * s0 (ix2 (⟨512 + k.val, by omega⟩ : Fin 1024) j)) + x3 (ix3 0 0 j))
          ((∑ k : Fin 512, x0 (ix2 (⟨2 * r.val + 1, by omega⟩ : Fin 1024) k) * s1 (ix2 (⟨k.val, by omega⟩ : Fin 1024) j))
            + (∑ k : Fin 512, x0 (ix2 (⟨2 * r.val, by omega⟩ : Fin 1024) k) * s1 (ix2 (⟨512 + k.val, by omega⟩ : Fin 1024) j)) + x4 (ix3 0 0 j)) := by
  unfold act
  pointwise [k0_pay30]

theorem pay2_at (a : FVec Ideal S512x1024 .bf16) (s2 : Vec Ideal S1024x1024 .bf16) (x5 : Vec Ideal S1x1x1024 .f32) (r : Fin 512) (p : Fin 2) (c : Fin 512) :
    k0_pay2 a s2 (constant S512x1024 FTy.f32 0#32) x5 (ix2 (⟨2 * r.val + p.val, by omega⟩ : Fin 1024) c)
      = (∑ j : Fin 1024, a (ix2 r j) * s2 (ix2 j (col p c))) + x5 (ix3 0 0 (col p c)) := by
  have hp := p.isLt
  have hr : (2 * r.val + p.val) / 2 = r.val := by omega
  pointwise [k0_pay2]
  simp only [hr]
  by_cases h : p.val = 0
  · have hc : col p c = ⟨512 + c.val, by omega⟩ := Fin.ext (if_pos h)
    rw [if_pos (by omega), hc]
  · have hc : col p c = ⟨c.val, by omega⟩ := Fin.ext (if_neg h)
    rw [if_neg (by omega), hc]

/-! ## What the host hands over -/

theorem toInt_small (k : ℕ) (hk : k < 2 ^ 31) : (BitVec.ofNat 32 k).toInt = k := by
  have h := BitVec.toInt_eq_toNat_cond (BitVec.ofNat 32 k)
  rw [BitVec.toNat_ofNat, Nat.mod_eq_of_lt (by omega), if_pos (by omega)] at h
  exact h
theorem uitofp_0 : FloatOps.uitofp (F := Ideal) .bf16 (0#1) = (0 : EReal) := by
  show (((0#1 : BitVec 1).toNat : ℝ) : EReal) = 0
  simp
theorem uitofp_1 : FloatOps.uitofp (F := Ideal) .bf16 (1#1) = (1 : EReal) := by
  show (((1#1 : BitVec 1).toNat : ℝ) : EReal) = 1
  simp

theorem V_perm (c : Dev nD) : Sel (V m c main_v23) := by
  intro r k
  show StableHlo.after hostOps0 (fun b => m (c, b)) _ _ = _
  simp only [hostOps0, List.flatten_cons, List.flatten_nil, List.append_nil, List.cons_append, List.nil_append]
  after_reads_at
  have hr := r.isLt
  have hk := k.isLt
  have tk := toInt_small k.val (by omega)
  have e : IntOp.ori
      (IntOp.andi (IntOp.cmpi CmpIPredicate.slt (BitVec.ofNat 32 k.val) 128#32)
        (IntOp.cmpi CmpIPredicate.eq (BitVec.ofNat 32 r.val) (IntOp.muli (2#32) (BitVec.ofNat 32 k.val))))
      (IntOp.andi (IntOp.cmpi CmpIPredicate.sge (BitVec.ofNat 32 k.val) 128#32)
        (IntOp.cmpi CmpIPredicate.eq (BitVec.ofNat 32 r.val) (IntOp.subi (IntOp.muli (2#32) (BitVec.ofNat 32 k.val)) 255#32))) = 1#1
      ↔ ((k.val < 128 ∧ r.val = 2 * k.val) ∨ (128 ≤ k.val ∧ r.val + 255 = 2 * k.val)) := by
    rw [IntOp.ori_eq_one, IntOp.andi_eq_one, IntOp.andi_eq_one, IntOp.cmpi_slt, IntOp.cmpi_sge, IntOp.cmpi_eq, IntOp.cmpi_eq, tk]
    rw [show (128#32 : BitVec 32).toInt = 128 from by decide, ← BitVec.toNat_inj, ← BitVec.toNat_inj]
    unfold IntOp.subi IntOp.muli
    rw [BitVec.toNat_sub, BitVec.toNat_mul, BitVec.toNat_ofNat, BitVec.toNat_ofNat, BitVec.toNat_ofNat, BitVec.toNat_ofNat]
    constructor
    · rintro (⟨h1, h2⟩ | ⟨h1, h2⟩)
      · left; omega
      · right; omega
    · rintro (⟨h1, h2⟩ | ⟨h1, h2⟩)
      · left; omega
      · right; omega
  revert e
  generalize IntOp.ori _ _ = q
  intro e
  rcases bit_cases q with rfl | rfl
  · rw [if_neg (fun h => absurd (e.mpr h) (by decide))]; exact uitofp_0
  · rw [if_pos (e.mp rfl)]; exact uitofp_1

theorem V_bg (c : Dev nD) (e : Fin 32) (j : Fin 1024) : V m c main_v2 (ix3 e 0 j) = m ((c : Thread nD τ).loc main_arg5) (ix2 e (⟨2 * j.val, by omega⟩ : Fin 2048)) := by
  show StableHlo.after hostOps0 (fun b => m (c, b)) _ _ = _
  simp only [hostOps0, List.flatten_cons, List.flatten_nil, List.append_nil, List.cons_append, List.nil_append]
  after_reads_at
  exact congrArg (fun k => m ((c : Thread nD τ).loc main_arg5) (ix2 e k)) (Fin.ext (Nat.mul_comm _ _))
theorem V_bu (c : Dev nD) (e : Fin 32) (j : Fin 1024) : V m c main_v4 (ix3 e 0 j) = m ((c : Thread nD τ).loc main_arg5) (ix2 e (⟨2 * j.val + 1, by omega⟩ : Fin 2048)) := by
  show StableHlo.after hostOps0 (fun b => m (c, b)) _ _ = _
  simp only [hostOps0, List.flatten_cons, List.flatten_nil, List.append_nil, List.cons_append, List.nil_append]
  after_reads_at
  exact congrArg (fun k => m ((c : Thread nD τ).loc main_arg5) (ix2 e k)) (Fin.ext (by show j.val * 2 + 1 = 2 * j.val + 1; omega))
theorem V_bd (c : Dev nD) (e : Fin 32) (j : Fin 1024) : V m c main_v5 (ix3 e 0 j) = m ((c : Thread nD τ).loc main_arg6) (ix2 e j) := by
  show StableHlo.after hostOps0 (fun b => m (c, b)) _ _ = _
  simp only [hostOps0, List.flatten_cons, List.flatten_nil, List.append_nil, List.cons_append, List.nil_append]
  after_reads_at

/-! ## What each block is of its array -/

/-- Where an element of window 0's block sits in its array. -/
def at0 (a : (pcfg0 (F := Ideal)).Adm) (t : Fin (cfg0 a).N) (y : S1024x512.Idx) : S372736x512.Idx := (((cfg0 a).win 0).blk t).view.emb y
theorem emb0 (a : (pcfg0 (F := Ideal)).Adm) (t : Fin (cfg0 a).N) (y : S1024x512.Idx) (ax : Fin 2) :
    (at0 a t y ax : ℕ) = cc0_transform_0 inb_S1_S1_0 numel1_S1 a.1 (grid0.coords t) ax * S1024x512.size ax + (y ax : ℕ) :=
  ((cfg0 a).win 0).rect_emb_val t y ax rfl
theorem read0 (a : (pcfg0 (F := Ideal)).Adm) (t : Fin (cfg0 a).N) (A : Vec Ideal S372736x512 .bf16) (y : S1024x512.Idx) :
    ((((cfg0 a).win 0).blk t).view.read (Elt Ideal) A : Vec Ideal S1024x512 .bf16) y = A (at0 a t y) := rfl
/-- Where an element of window 1's block sits in its array. -/
def at1 (a : (pcfg0 (F := Ideal)).Adm) (t : Fin (cfg0 a).N) (y : S1x1x1024x2048.Idx) : S4x32x1024x2048.Idx := (((cfg0 a).win 1).blk t).view.emb y
theorem emb1 (a : (pcfg0 (F := Ideal)).Adm) (t : Fin (cfg0 a).N) (y : S1x1x1024x2048.Idx) (ax : Fin 4) :
    (at1 a t y ax : ℕ) = cc0_transform_1 k0_off1_inb numel1_S1 a.1 (grid0.coords t) ax * S1x1x1024x2048.size ax + (y ax : ℕ) :=
  ((cfg0 a).win 1).rect_emb_val t y ax rfl
theorem read1 (a : (pcfg0 (F := Ideal)).Adm) (t : Fin (cfg0 a).N) (A : Vec Ideal S4x32x1024x2048 .f32) (y : S1x1x1024x2048.Idx) :
    ((((cfg0 a).win 1).blk t).view.read (Elt Ideal) A : Vec Ideal S1x1x1024x2048 .f32) y = A (at1 a t y) := rfl
/-- Where an element of window 2's block sits in its array. -/
def at2 (a : (pcfg0 (F := Ideal)).Adm) (t : Fin (cfg0 a).N) (y : S1x1x1024x1024.Idx) : S4x32x1024x1024.Idx := (((cfg0 a).win 2).blk t).view.emb y
theorem emb2 (a : (pcfg0 (F := Ideal)).Adm) (t : Fin (cfg0 a).N) (y : S1x1x1024x1024.Idx) (ax : Fin 4) :
    (at2 a t y ax : ℕ) = cc0_transform_2 k0_off1_inb numel1_S1 a.1 (grid0.coords t) ax * S1x1x1024x1024.size ax + (y ax : ℕ) :=
  ((cfg0 a).win 2).rect_emb_val t y ax rfl
theorem read2 (a : (pcfg0 (F := Ideal)).Adm) (t : Fin (cfg0 a).N) (A : Vec Ideal S4x32x1024x1024 .f32) (y : S1x1x1024x1024.Idx) :
    ((((cfg0 a).win 2).blk t).view.read (Elt Ideal) A : Vec Ideal S1x1x1024x1024 .f32) y = A (at2 a t y) := rfl
/-- Where an element of window 3's block sits in its array. -/
def at3 (a : (pcfg0 (F := Ideal)).Adm) (t : Fin (cfg0 a).N) (y : S1x1x1024.Idx) : S32x1x1024.Idx := (((cfg0 a).win 3).blk t).view.emb y
theorem emb3 (a : (pcfg0 (F := Ideal)).Adm) (t : Fin (cfg0 a).N) (y : S1x1x1024.Idx) (ax : Fin 3) :
    (at3 a t y ax : ℕ) = cc0_transform_3 k0_off1_inb numel1_S1 a.1 (grid0.coords t) ax * S1x1x1024.size ax + (y ax : ℕ) :=
  ((cfg0 a).win 3).rect_emb_val t y ax rfl
theorem read3 (a : (pcfg0 (F := Ideal)).Adm) (t : Fin (cfg0 a).N) (A : Vec Ideal S32x1x1024 .f32) (y : S1x1x1024.Idx) :
    ((((cfg0 a).win 3).blk t).view.read (Elt Ideal) A : Vec Ideal S1x1x1024 .f32) y = A (at3 a t y) := rfl
/-- Where an element of window 4's block sits in its array. -/
def at4 (a : (pcfg0 (F := Ideal)).Adm) (t : Fin (cfg0 a).N) (y : S1x1x1024.Idx) : S32x1x1024.Idx := (((cfg0 a).win 4).blk t).view.emb y
theorem emb4 (a : (pcfg0 (F := Ideal)).Adm) (t : Fin (cfg0 a).N) (y : S1x1x1024.Idx) (ax : Fin 3) :
    (at4 a t y ax : ℕ) = cc0_transform_4 k0_off1_inb numel1_S1 a.1 (grid0.coords t) ax * S1x1x1024.size ax + (y ax : ℕ) :=
  ((cfg0 a).win 4).rect_emb_val t y ax rfl
theorem read4 (a : (pcfg0 (F := Ideal)).Adm) (t : Fin (cfg0 a).N) (A : Vec Ideal S32x1x1024 .f32) (y : S1x1x1024.Idx) :
    ((((cfg0 a).win 4).blk t).view.read (Elt Ideal) A : Vec Ideal S1x1x1024 .f32) y = A (at4 a t y) := rfl
/-- Where an element of window 5's block sits in its array. -/
def at5 (a : (pcfg0 (F := Ideal)).Adm) (t : Fin (cfg0 a).N) (y : S1x1x1024.Idx) : S32x1x1024.Idx := (((cfg0 a).win 5).blk t).view.emb y
theorem emb5 (a : (pcfg0 (F := Ideal)).Adm) (t : Fin (cfg0 a).N) (y : S1x1x1024.Idx) (ax : Fin 3) :
    (at5 a t y ax : ℕ) = cc0_transform_5 k0_off1_inb numel1_S1 a.1 (grid0.coords t) ax * S1x1x1024.size ax + (y ax : ℕ) :=
  ((cfg0 a).win 5).rect_emb_val t y ax rfl
theorem read5 (a : (pcfg0 (F := Ideal)).Adm) (t : Fin (cfg0 a).N) (A : Vec Ideal S32x1x1024 .f32) (y : S1x1x1024.Idx) :
    ((((cfg0 a).win 5).blk t).view.read (Elt Ideal) A : Vec Ideal S1x1x1024 .f32) y = A (at5 a t y) := rfl
/-- Where an element of window 6's block sits in its array. -/
def at6 (a : (pcfg0 (F := Ideal)).Adm) (t : Fin (cfg0 a).N) (y : S256x256.Idx) : S256x256.Idx := (((cfg0 a).win 6).blk t).view.emb y
theorem emb6 (a : (pcfg0 (F := Ideal)).Adm) (t : Fin (cfg0 a).N) (y : S256x256.Idx) (ax : Fin 2) :
    (at6 a t y ax : ℕ) = (![0, 0] : Fin 2 → ℕ) ax * S256x256.size ax + (y ax : ℕ) :=
  ((cfg0 a).win 6).rect_emb_val t y ax rfl
theorem read6 (a : (pcfg0 (F := Ideal)).Adm) (t : Fin (cfg0 a).N) (A : Vec Ideal S256x256 .bf16) (y : S256x256.Idx) :
    ((((cfg0 a).win 6).blk t).view.read (Elt Ideal) A : Vec Ideal S256x256 .bf16) y = A (at6 a t y) := rfl
/-- Where an element of window 7's block sits in its array. -/
def at7 (a : (pcfg0 (F := Ideal)).Adm) (t : Fin (cfg0 a).N) (y : S1024x512.Idx) : S372736x512.Idx := (((cfg0 a).win 7).blk t).view.emb y
theorem emb7 (a : (pcfg0 (F := Ideal)).Adm) (t : Fin (cfg0 a).N) (y : S1024x512.Idx) (ax : Fin 2) :
    (at7 a t y ax : ℕ) = (![(BitVec.ofNat 32 (grid0.coords t 0).val).toNat, 0] : Fin 2 → ℕ) ax * S1024x512.size ax + (y ax : ℕ) :=
  ((cfg0 a).win 7).rect_emb_val t y ax rfl
theorem read7 (a : (pcfg0 (F := Ideal)).Adm) (t : Fin (cfg0 a).N) (A : Vec Ideal S372736x512 .bf16) (y : S1024x512.Idx) :
    ((((cfg0 a).win 7).blk t).view.read (Elt Ideal) A : Vec Ideal S1024x512 .bf16) y = A (at7 a t y) := rfl

end Cert.ExpertsIdeal.Hand
end
-- ==== Proof.ExpertsRefValue.lean ====
/- The reference, element by element. -/
module

public import proofs.«01_k».proof.Proof.ExpertsSpec
public import proofs.«01_k».proof.Proof.Gen.ExpertsRefIdeal.Read
public import Idealize.ShloMosaic.Lib.Pipeline.ValueKit
public import Idealize.ShloMosaic.Lib.Claim
public import Idealize.ShloMosaic.Lib.StableHlo.ReadAt
public import Idealize.ShloMosaic.Lib.WordArith

@[expose] public section

set_option maxRecDepth 16384

noncomputable section
open Idealize.ShloMosaic Idealize.ShloMosaic.TcCoe Idealize.SL.Sem

namespace Cert.ExpertsRefIdeal.RValue

open Cert.ExpertsRefIdeal Cert.ExpertsRefIdeal.Gen Cert.ExpertsRefIdeal.Read Cert.ExpertsSpec

/-! ## A table of slabs read by a list of numbers -/

section Slab
variable {α : Type}

/-- The dimension numbers of `table[idx]` over the leading axis of a rank-3 table. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The slab read at an element: the table at the number the list holds, a number of a slab. -/
theorem slab_apply {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t (0 : Fin 1))).toInt.toNat = e.val) :
    Host.gather (slabDims N A B n wf) x idx (ix3 t a b) = x (ix3 e a b) := by
  unfold Host.gather
  refine congrArg x (funext fun k => Fin.ext ?_)
  show (slabDims N A B n wf).start (ix3 t a b) idx k + (slabDims N A B n wf).batchCoord (ix3 t a b) k
      + (slabDims N A B n wf).offCoord (ix3 t a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    have hsi : (slabDims N A B n wf).siIdx (ix3 t a b) ⟨List.idxOf (0 : Fin 3) (slabDims N A B n wf).startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    rw [hsi, he]
    show min e.val (N - 1) = e.val
    omega
  · have h0 : (slabDims N A B n wf).start (ix3 t a b) idx 1 = 0 := by
      unfold GatherDims.start
      rw [dif_neg (show ¬ (1 : Fin 3) ∈ (slabDims N A B n wf).startIndexMap from fun h => (by decide : (1 : Fin 3) ≠ 0) (List.mem_singleton.mp h))]
    rw [h0]
    show 0 + 0 + _ = a.val
    rw [Nat.zero_add]
    rfl
  · have h0 : (slabDims N A B n wf).start (ix3 t a b) idx 2 = 0 := by
      unfold GatherDims.start
      rw [dif_neg (show ¬ (2 : Fin 3) ∈ (slabDims N A B n wf).startIndexMap from fun h => (by decide : (2 : Fin 3) ≠ 0) (List.mem_singleton.mp h))]
    rw [h0]
    show 0 + 0 + _ = b.val
    rw [Nat.zero_add]
    rfl

/-- The same over the rows of a rank-2 table. -/
abbrev rowDims (N B n : Nat)
    (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

theorem row_apply {N B n : Nat}
    (wf : GatherDims.WF ⟨2, ![N, B]⟩ ⟨2, ![n, 1]⟩ ⟨2, ![n, B]⟩ [1] [0] [] [0] [] 1 ![1, B])
    (x : (⟨2, ![N, B]⟩ : Shape).Idx → α) (idx : IVec ⟨2, ![n, 1]⟩ 32) (t : Fin n) (b : Fin B) (e : Fin N)
    (he : (idx (ix2 t (0 : Fin 1))).toInt.toNat = e.val) :
    Host.gather (rowDims N B n wf) x idx (ix2 t b) = x (ix2 e b) := by
  unfold Host.gather
  refine congrArg x (funext fun k => Fin.ext ?_)
  show (rowDims N B n wf).start (ix2 t b) idx k + (rowDims N B n wf).batchCoord (ix2 t b) k
      + (rowDims N B n wf).offCoord (ix2 t b) k = _
  rw [GatherDims.batchCoord_eq_zero _ _ _ List.not_mem_nil]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N B n wf).startIndexMap from List.mem_singleton.mpr rfl)]
    have hsi : (rowDims N B n wf).siIdx (ix2 t b) ⟨List.idxOf (0 : Fin 2) (rowDims N B n wf).startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    rw [hsi, he]
    show min e.val (N - 1) = e.val
    omega
  · have h0 : (rowDims N B n wf).start (ix2 t b) idx 1 = 0 := by
      unfold GatherDims.start
      rw [dif_neg (show ¬ (1 : Fin 2) ∈ (rowDims N B n wf).startIndexMap from fun h => (by decide : (1 : Fin 2) ≠ 0) (List.mem_singleton.mp h))]
    rw [h0]
    show 0 + 0 + _ = b.val
    rw [Nat.zero_add]
    rfl

end Slab

/-- A number below 32 is not negative: the wrap of a negative index leaves it. -/
theorem wrap_word (w : BitVec 32) (h : w.toNat < 32) : (Scalar.select (IntOp.cmpi .slt w 0#32) (IntOp.addi w 32#32) w).toInt.toNat = w.toNat := by
  have h1 : w.toInt = w.toNat := BitVec.toInt_eq_toNat_of_lt (by omega)
  have e1 : IntOp.cmpi .slt w 0#32 = 0#1 := by
    have h2 : w.slt 0#32 = false := by rw [BitVec.slt_eq_decide, h1]; simp
    simp [IntOp.cmpi, h2]
  rw [e1]
  show w.toInt.toNat = _
  rw [h1]; rfl

variable (x0 : (⟨S364, .i32⟩ : BufTy).Contents (Elt Ideal)) (x1 : (⟨S1, .i32⟩ : BufTy).Contents (Elt Ideal)) (x2 : (⟨S372736x512, .bf16⟩ : BufTy).Contents (Elt Ideal)) (x3 : (⟨S4x32x1024x2048, .f32⟩ : BufTy).Contents (Elt Ideal))
 (x4 : (⟨S4x32x1024x1024, .f32⟩ : BufTy).Contents (Elt Ideal)) (x5 : (⟨S32x2048, .f32⟩ : BufTy).Contents (Elt Ideal)) (x6 : (⟨S32x1024, .f32⟩ : BufTy).Contents (Elt Ideal))
variable (t : Fin 364) (hbe : (x0 (ix1 t)).toNat < 32)

/-- The block's expert. -/
abbrev ex : Fin 32 := ⟨(x0 (ix1 t)).toNat, hbe⟩

include hbe in
theorem v14_at : (val_main_v14 (F := Ideal) x0 (ix2 t (0 : Fin 1))).toInt.toNat = (ex x0 t hbe).val := by
  have h : idx_main_v14 (ix2 t (0 : Fin 1)) = ix1 t := funext fun a => match a with | ⟨0, _⟩ => rfl
  rw [val_main_v14_apply, h, val_main_v13_apply, val_main_v10_apply, val_main_v12_apply, val_main_v9_apply, val_main_v11_apply, val_main_c_apply, val_main_c_0_apply]
  exact wrap_word _ hbe
include hbe in
theorem v22_at : (val_main_v22 (F := Ideal) x0 (ix2 t (0 : Fin 1))).toInt.toNat = (ex x0 t hbe).val := by
  have h : idx_main_v22 (ix2 t (0 : Fin 1)) = ix1 t := funext fun a => match a with | ⟨0, _⟩ => rfl
  rw [val_main_v22_apply, h, val_main_v21_apply, val_main_v18_apply, val_main_v20_apply, val_main_v17_apply, val_main_v19_apply, val_main_c_1_apply, val_main_c_2_apply]
  exact wrap_word _ hbe
include hbe in
theorem v51_at : (val_main_v51 (F := Ideal) x0 (ix2 t (0 : Fin 1))).toInt.toNat = (ex x0 t hbe).val := by
  have h : idx_main_v51 (ix2 t (0 : Fin 1)) = ix1 t := funext fun a => match a with | ⟨0, _⟩ => rfl
  rw [val_main_v51_apply, h, val_main_v50_apply, val_main_v47_apply, val_main_v49_apply, val_main_v46_apply, val_main_v48_apply, val_main_c_9_apply, val_main_c_10_apply]
  exact wrap_word _ hbe
include hbe in
theorem v59_at : (val_main_v59 (F := Ideal) x0 (ix2 t (0 : Fin 1))).toInt.toNat = (ex x0 t hbe).val := by
  have h : idx_main_v59 (ix2 t (0 : Fin 1)) = ix1 t := funext fun a => match a with | ⟨0, _⟩ => rfl
  rw [val_main_v59_apply, h, val_main_v58_apply, val_main_v55_apply, val_main_v57_apply, val_main_v54_apply, val_main_v56_apply, val_main_c_11_apply, val_main_c_12_apply]
  exact wrap_word _ hbe

theorem v15_at (k : Fin 1024) (j : Fin 2048) : val_main_v15 (F := Ideal) x0 x3 (ix3 t k j) = x3 (ix4 0 (ex x0 t hbe) k j) := by
  refine (slab_apply _ _ _ t k j (ex x0 t hbe) (v14_at x0 t hbe)).trans ?_
  rw [val_main_v8_apply, val_main_v7_apply]
  refine congrArg x3 (funext fun a => Fin.ext ?_)
  have := (ex x0 t hbe).isLt; have := k.isLt; have := j.isLt
  match a with
  | ⟨0, _⟩ => rfl
  | ⟨1, _⟩ => show (((ex x0 t hbe).val * 1024 + k.val) * 2048 + j.val) / 2097152 % 32 = (ex x0 t hbe).val; omega
  | ⟨2, _⟩ => show (((ex x0 t hbe).val * 1024 + k.val) * 2048 + j.val) / 2048 % 1024 = k.val; omega
  | ⟨3, _⟩ => show (((ex x0 t hbe).val * 1024 + k.val) * 2048 + j.val) % 2048 = j.val; omega
theorem v52_at (k : Fin 1024) (j : Fin 1024) : val_main_v52 (F := Ideal) x0 x4 (ix3 t k j) = x4 (ix4 0 (ex x0 t hbe) k j) := by
  refine (slab_apply _ _ _ t k j (ex x0 t hbe) (v51_at x0 t hbe)).trans ?_
  rw [val_main_v45_apply, val_main_v44_apply]
  refine congrArg x4 (funext fun a => Fin.ext ?_)
  have := (ex x0 t hbe).isLt; have := k.isLt; have := j.isLt
  match a with
  | ⟨0, _⟩ => rfl
  | ⟨1, _⟩ => show (((ex x0 t hbe).val * 1024 + k.val) * 1024 + j.val) / 1048576 % 32 = (ex x0 t hbe).val; omega
  | ⟨2, _⟩ => show (((ex x0 t hbe).val * 1024 + k.val) * 1024 + j.val) / 1024 % 1024 = k.val; omega
  | ⟨3, _⟩ => show (((ex x0 t hbe).val * 1024 + k.val) * 1024 + j.val) % 1024 = j.val; omega
theorem v23_at (j : Fin 2048) : val_main_v23 (F := Ideal) x0 x5 (ix2 t j) = x5 (ix2 (ex x0 t hbe) j) :=
  row_apply _ _ _ t j (ex x0 t hbe) (v22_at x0 t hbe)
theorem v60_at (j : Fin 1024) : val_main_v60 (F := Ideal) x0 x6 (ix2 t j) = x6 (ix2 (ex x0 t hbe) j) :=
  row_apply _ _ _ t j (ex x0 t hbe) (v59_at x0 t hbe)

/-- The projection's left operand: the second buffer row's half, then the first's. -/
theorem v6_lo (r : Fin 512) (k : Fin 512) : val_main_v6 (F := Ideal) x2 (ix3 t r (Fin.castAdd 512 k : Fin 1024)) = x2 (ix2 (row t r 1) k) := by
  have hk : (Fin.castAdd 512 k : Fin 1024).val < 512 := by simp
  unfold val_main_v6
  pointwise [val_main_v3_apply, val_main_v5_apply, val_main_v2_apply, val_main_v4_apply, val_main_v1_apply, val_main_v0_apply]
  rw [dif_pos hk]
  refine congrArg x2 (funext fun a => Fin.ext ?_)
  have := t.isLt; have := r.isLt; have := k.isLt
  match a with
  | ⟨0, _⟩ =>
    show ((((((t.val * 512 + r.val) * 512 + k.val) / 262144) * 512 + ((t.val * 512 + r.val) * 512 + k.val) / 512 % 512) * 2 + (1 + 0)) * 512 + ((t.val * 512 + r.val) * 512 + k.val) % 512) / 512 = 1024 * t.val + 2 * r.val + 1
    omega
  | ⟨1, _⟩ =>
    show ((((((t.val * 512 + r.val) * 512 + k.val) / 262144) * 512 + ((t.val * 512 + r.val) * 512 + k.val) / 512 % 512) * 2 + (1 + 0)) * 512 + ((t.val * 512 + r.val) * 512 + k.val) % 512) % 512 = k.val
    omega
theorem v6_hi (r : Fin 512) (k : Fin 512) : val_main_v6 (F := Ideal) x2 (ix3 t r (Fin.natAdd 512 k : Fin 1024)) = x2 (ix2 (row t r 0) k) := by
  have hk : ¬ (Fin.natAdd 512 k : Fin 1024).val < 512 := by simp
  have he : (Fin.natAdd 512 k : Fin 1024).val - 512 = k.val := by simp
  unfold val_main_v6
  pointwise [val_main_v3_apply, val_main_v5_apply, val_main_v2_apply, val_main_v4_apply, val_main_v1_apply, val_main_v0_apply]
  rw [dif_neg hk]
  refine congrArg x2 (funext fun a => Fin.ext ?_)
  have := t.isLt; have := r.isLt; have := k.isLt
  generalize (Fin.natAdd 512 k : Fin 1024) = q at hk he
  match a with
  | ⟨0, _⟩ =>
    show ((((((t.val * 512 + r.val) * 512 + (q.val - 512)) / 262144) * 512 + ((t.val * 512 + r.val) * 512 + (q.val - 512)) / 512 % 512) * 2 + 0) * 512 + ((t.val * 512 + r.val) * 512 + (q.val - 512)) % 512) / 512 = 1024 * t.val + 2 * r.val + 0
    omega
  | ⟨1, _⟩ =>
    show ((((((t.val * 512 + r.val) * 512 + (q.val - 512)) / 262144) * 512 + ((t.val * 512 + r.val) * 512 + (q.val - 512)) / 512 % 512) * 2 + 0) * 512 + ((t.val * 512 + r.val) * 512 + (q.val - 512)) % 512) % 512 = k.val
    omega

/-- The projection. -/
theorem v26_at (r : Fin 512) (j : Fin 2048) : val_main_v26 (F := Ideal) x0 x2 x3 x5 (ix3 t r j) = gu x2 x3 x5 (ex x0 t hbe) t r j := by
  rw [val_main_v26_apply, val_main_v16_apply, val_main_v25_apply, val_main_v24_apply]
  have hl : ∀ k, lidx_main_v16 (ix3 t r j) k = ix3 t r k := fun k => funext fun a => match a with | ⟨0, _⟩ => rfl | ⟨1, _⟩ => rfl | ⟨2, _⟩ => rfl
  have hr : ∀ k, ridx_main_v16 (ix3 t r j) k = ix3 t k j := fun k => funext fun a => match a with | ⟨0, _⟩ => rfl | ⟨1, _⟩ => rfl | ⟨2, _⟩ => rfl
  have hb : idx_main_v24 (idx_main_v25 (ix3 t r j)) = ix2 t j := funext fun a => match a with | ⟨0, _⟩ => rfl | ⟨1, _⟩ => rfl
  rw [hb, v23_at x0 x5 t hbe]
  unfold gu
  refine congrArg₂ (fun a b : EReal => a + b) ?_ rfl
  refine (Fin.sum_univ_add (a := 512) (b := 512) fun k : Fin 1024 => val_main_v6 (F := Ideal) x2 (lidx_main_v16 (ix3 t r j) k) * val_main_v15 (F := Ideal) x0 x3 (ridx_main_v16 (ix3 t r j) k)).trans ?_
  refine congrArg₂ (fun a b : EReal => a + b) (Finset.sum_congr rfl fun k _ => ?_) (Finset.sum_congr rfl fun k _ => ?_)
  · rw [hl, hr, v6_lo, v15_at x0 x3 t hbe]; rfl
  · rw [hl, hr, v6_hi, v15_at x0 x3 t hbe]; rfl

theorem v27_at (r : Fin 512) (j : Fin 1024) : val_main_v27 (F := Ideal) x0 x2 x3 x5 (ix3 t r j) = gu x2 x3 x5 (ex x0 t hbe) t r ⟨2 * j.val, by omega⟩ := by
  rw [← v26_at x0 x2 x3 x5 t hbe]
  unfold val_main_v27
  generalize val_main_v26 (F := Ideal) x0 x2 x3 x5 = y
  pointwise []
theorem v30_at (r : Fin 512) (j : Fin 1024) : val_main_v30 (F := Ideal) x0 x2 x3 x5 (ix3 t r j) = gu x2 x3 x5 (ex x0 t hbe) t r ⟨2 * j.val + 1, by omega⟩ := by
  rw [← v26_at x0 x2 x3 x5 t hbe]
  unfold val_main_v30
  generalize val_main_v26 (F := Ideal) x0 x2 x3 x5 = y
  pointwise []
  refine congrArg y (congrArg (ix3 t r) (Fin.ext ?_))
  show 1 + 2 * j.val = 2 * j.val + 1; omega

/-- The activation. -/
theorem v43_at (r : Fin 512) (j : Fin 1024) : val_main_v43 (F := Ideal) x0 x2 x3 x5 (ix3 t r j)
    = act (gu x2 x3 x5 (ex x0 t hbe) t r ⟨2 * j.val, by omega⟩) (gu x2 x3 x5 (ex x0 t hbe) t r ⟨2 * j.val + 1, by omega⟩) := by
  rw [← v27_at x0 x2 x3 x5 t hbe, ← v30_at x0 x2 x3 x5 t hbe]
  unfold act
  pointwise [val_main_v43_apply, val_main_v34_apply, val_main_v33_apply, val_main_v31_apply, val_main_call0_v2_apply, val_main_call0_v1_apply, val_main_call0_v0_apply,
    val_main_call0_v4_apply, val_main_call0_v3_apply, val_main_cst_3_apply, val_main_cst_4_apply, val_main_v32_apply, val_main_cst_5_apply, val_main_v29_apply, val_main_v28_apply, val_main_cst_apply,
    val_main_v42_apply, val_main_v41_apply, val_main_cst_8_apply, val_main_v40_apply, val_main_v39_apply, val_main_cst_7_apply, val_main_v38_apply, val_main_v37_apply, val_main_v36_apply, val_main_v35_apply, val_main_cst_6_apply]
  rfl

theorem v63_at (r : Fin 512) (d : Fin 1024) : val_main_v63 (F := Ideal) x0 x2 x3 x4 x5 x6 (ix3 t r d) = out x2 x3 x4 x5 x6 (ex x0 t hbe) t r d := by
  rw [val_main_v63_apply, val_main_v53_apply, val_main_v62_apply, val_main_v61_apply]
  have hl : ∀ k, lidx_main_v53 (ix3 t r d) k = ix3 t r k := fun k => funext fun a => match a with | ⟨0, _⟩ => rfl | ⟨1, _⟩ => rfl | ⟨2, _⟩ => rfl
  have hr : ∀ k, ridx_main_v53 (ix3 t r d) k = ix3 t k d := fun k => funext fun a => match a with | ⟨0, _⟩ => rfl | ⟨1, _⟩ => rfl | ⟨2, _⟩ => rfl
  have hb : idx_main_v61 (idx_main_v62 (ix3 t r d)) = ix2 t d := funext fun a => match a with | ⟨0, _⟩ => rfl | ⟨1, _⟩ => rfl
  rw [hb, v60_at x0 x6 t hbe]
  unfold out
  refine congrArg₂ (fun a b : EReal => a + b) (Finset.sum_congr rfl fun k _ => ?_) rfl
  rw [hl, hr, v43_at x0 x2 x3 x5 t hbe, v52_at x0 x4 t hbe]

/-- A signed comparison of a small number with a small word. -/
theorem slt_iff (k : ℕ) (w : BitVec 32) (hk : k < 2 ^ 31) (hw : w.toNat < 2 ^ 31) : IntOp.cmpi .slt (BitVec.ofNat 32 k) w = 1#1 ↔ k < w.toNat := by
  rw [IntOp.cmpi_slt]
  have h1 := BitVec.toInt_eq_toNat_cond w
  have h2 := BitVec.toInt_eq_toNat_cond (BitVec.ofNat 32 k)
  rw [BitVec.toNat_ofNat, Nat.mod_eq_of_lt (by omega)] at h2
  rw [if_pos (by omega)] at h1 h2
  rw [h1, h2]; omega

theorem v69_at (r : Fin 512) (d : Fin 1024) (hn : (x1 (ix1 (0 : Fin 1))).toNat < 2 ^ 31) : val_main_v69 (F := Ideal) x0 x1 x2 x3 x4 x5 x6 (ix3 t r d)
    = if t.val < (x1 (ix1 (0 : Fin 1))).toNat then out x2 x3 x4 x5 x6 (ex x0 t hbe) t r d else 0 := by
  rw [val_main_v69_apply, val_main_v68_apply, v63_at x0 x2 x3 x4 x5 x6 t hbe, val_main_v67_apply, val_main_v64_apply, val_main_v66_apply, val_main_call1_v1_apply, val_main_call1_v0_apply, val_main_cst_13_apply]
  unfold val_main_v65
  pointwise []
  have e := slt_iff t.val (x1 (ix1 (0 : Fin 1))) (by omega) hn
  by_cases h : t.val < (x1 (ix1 (0 : Fin 1))).toNat
  · rw [if_pos h]; exact if_pos (e.mpr h)
  · rw [if_neg h]; exact if_neg fun h' => h (e.mp h')

/-- The result, element by element: buffer row `2r + p` of block `t`. -/
theorem res_at (r : Fin 512) (p : Fin 2) (c : Fin 512) (hn : (x1 (ix1 (0 : Fin 1))).toNat < 2 ^ 31) : val_main_v75 (F := Ideal) x0 x1 x2 x3 x4 x5 x6 (ix2 (row t r p) c)
    = if t.val < (x1 (ix1 (0 : Fin 1))).toNat then out x2 x3 x4 x5 x6 (ex x0 t hbe) t r (col p c) else 0 := by
  rw [← v69_at x0 x1 x2 x3 x4 x5 x6 t hbe r (col p c) hn, val_main_v75_apply]
  have h : idx_main_v75 (ix2 (row t r p) c) = ix4 t r p c := funext fun a => Fin.ext (by
    have := t.isLt; have := r.isLt; have := p.isLt; have := c.isLt
    match a with
    | ⟨0, _⟩ => show ((1024 * t.val + 2 * r.val + p.val) * 512 + c.val) / 524288 = t.val; omega
    | ⟨1, _⟩ => show ((1024 * t.val + 2 * r.val + p.val) * 512 + c.val) / 1024 % 512 = r.val; omega
    | ⟨2, _⟩ => show ((1024 * t.val + 2 * r.val + p.val) * 512 + c.val) / 512 % 2 = p.val; omega
    | ⟨3, _⟩ => show ((1024 * t.val + 2 * r.val + p.val) * 512 + c.val) % 512 = c.val; omega)
  rw [h]
  unfold val_main_v74
  pointwise [val_main_v72_apply, val_main_v73_apply, val_main_v70_apply, val_main_v71_apply]
  have := p.isLt
  by_cases hp : p.val < 1
  · rw [dif_pos hp]
    refine congrArg _ (funext fun a => Fin.ext ?_)
    match a with
    | ⟨0, _⟩ => rfl
    | ⟨1, _⟩ => rfl
    | ⟨2, _⟩ => show 512 + c.val = if p.val = 0 then 512 + c.val else c.val; rw [if_pos (by omega)]
  · rw [dif_neg hp]
    refine congrArg _ (funext fun a => Fin.ext ?_)
    match a with
    | ⟨0, _⟩ => rfl
    | ⟨1, _⟩ => rfl
    | ⟨2, _⟩ => show c.val = if p.val = 0 then 512 + c.val else c.val; rw [if_neg (by omega)]

end Cert.ExpertsRefIdeal.RValue
end
-- ==== Proof.ExpertsIdealFinal.lean ====
/- The experts kernel's result over the extended reals is the reference's. -/
module

public import proofs.«01_k».proof.Proof.ExpertsIdealValue
public import proofs.«01_k».proof.Proof.ExpertsRefValue

@[expose] public section

set_option maxRecDepth 16384

noncomputable section
open Idealize.ShloMosaic Idealize.ShloMosaic.TcCoe Idealize.SL.Sem
open Idealize.ShloMosaic.Pipeline (Dat)

namespace Cert.ExpertsIdeal.Hand

open Cert.ExpertsIdeal Cert.ExpertsIdeal.Gen Cert.ExpertsSpec
variable (m : (ℓ : Loc nD τ sig) → Buf (Elt Ideal) ℓ) (hO : Ok m) (hG : Good m)

/-! ## The blocks at a point -/

theorem ext2 {a b : ℕ} (x : (⟨2, ![a, b]⟩ : Shape).Idx) (i : Fin a) (j : Fin b) (h0 : (x 0).val = i.val) (h1 : (x 1).val = j.val) : x = ix2 i j :=
  funext fun k => Fin.ext (match k with | 0 => h0 | 1 => h1)
theorem ext3 {a b d : ℕ} (x : (⟨3, ![a, b, d]⟩ : Shape).Idx) (i : Fin a) (j : Fin b) (k : Fin d) (h0 : (x 0).val = i.val) (h1 : (x 1).val = j.val) (h2 : (x 2).val = k.val) : x = ix3 i j k :=
  funext fun q => Fin.ext (match q with | 0 => h0 | 1 => h1 | 2 => h2)
theorem ext4 {a b d e : ℕ} (x : (⟨4, ![a, b, d, e]⟩ : Shape).Idx) (i : Fin a) (j : Fin b) (k : Fin d) (l : Fin e) (h0 : (x 0).val = i.val) (h1 : (x 1).val = j.val) (h2 : (x 2).val = k.val) (h3 : (x 3).val = l.val) : x = ix4 i j k l :=
  funext fun q => Fin.ext (match q with | 0 => h0 | 1 => h1 | 2 => h2 | 3 => h3)

theorem rd0 (a : (pcfg0 (F := Ideal)).Adm) (t : Fin (cfg0 a).N) (A : Vec Ideal S372736x512 .bf16) (n : ℕ) (h : cc0_transform_0 inb_S1_S1_0 numel1_S1 a.1 (grid0.coords t) = ![n, 0])
    (r : Fin 1024) (k : Fin 512) (i : Fin 372736) (hi : i.val = 1024 * n + r.val) :
    ((((cfg0 a).win 0).blk t).view.read (Elt Ideal) A : Vec Ideal S1024x512 .bf16) (ix2 r k) = A (ix2 i k) := by
  have h0 := emb0 a t (ix2 r k) 0
  have h1 := emb0 a t (ix2 r k) 1
  rw [h] at h0 h1
  refine (read0 a t A _).trans (congrArg A (ext2 _ i k (h0.trans ?_) (h1.trans ?_)))
  · show n * 1024 + r.val = i.val; omega
  · show 0 * 512 + k.val = k.val; omega

theorem rd1 (a : (pcfg0 (F := Ideal)).Adm) (t : Fin (cfg0 a).N) (A : Vec Ideal S4x32x1024x2048 .f32) (e : Fin 32) (h : cc0_transform_1 k0_off1_inb numel1_S1 a.1 (grid0.coords t) = ![0, e.val, 0, 0])
    (k : Fin 1024) (j : Fin 2048) :
    ((((cfg0 a).win 1).blk t).view.read (Elt Ideal) A : Vec Ideal S1x1x1024x2048 .f32) (ix4 0 0 k j) = A (ix4 0 e k j) := by
  have h0 := emb1 a t (ix4 0 0 k j) 0
  have h1 := emb1 a t (ix4 0 0 k j) 1
  have h2 := emb1 a t (ix4 0 0 k j) 2
  have h3 := emb1 a t (ix4 0 0 k j) 3
  rw [h] at h0 h1 h2 h3
  refine (read1 a t A _).trans (congrArg A (ext4 _ 0 e k j (h0.trans ?_) (h1.trans ?_) (h2.trans ?_) (h3.trans ?_)))
  · show 0 * 1 + 0 = 0; omega
  · show e.val * 1 + 0 = e.val; omega
  · show 0 * 1024 + k.val = k.val; omega
  · show 0 * 2048 + j.val = j.val; omega

theorem rd2 (a : (pcfg0 (F := Ideal)).Adm) (t : Fin (cfg0 a).N) (A : Vec Ideal S4x32x1024x1024 .f32) (e : Fin 32) (h : cc0_transform_2 k0_off1_inb numel1_S1 a.1 (grid0.coords t) = ![0, e.val, 0, 0])
    (k : Fin 1024) (j : Fin 1024) :
    ((((cfg0 a).win 2).blk t).view.read (Elt Ideal) A : Vec Ideal S1x1x1024x1024 .f32) (ix4 0 0 k j) = A (ix4 0 e k j) := by
  have h0 := emb2 a t (ix4 0 0 k j) 0
  have h1 := emb2 a t (ix4 0 0 k j) 1
  have h2 := emb2 a t (ix4 0 0 k j) 2
  have h3 := emb2 a t (ix4 0 0 k j) 3
  rw [h] at h0 h1 h2 h3
  refine (read2 a t A _).trans (congrArg A (ext4 _ 0 e k j (h0.trans ?_) (h1.trans ?_) (h2.trans ?_) (h3.trans ?_)))
  · show 0 * 1 + 0 = 0; omega
  · show e.val * 1 + 0 = e.val; omega
  · show 0 * 1024 + k.val = k.val; omega
  · show 0 * 1024 + j.val = j.val; omega

theorem rd3 (a : (pcfg0 (F := Ideal)).Adm) (t : Fin (cfg0 a).N) (A : Vec Ideal S32x1x1024 .f32) (e : Fin 32) (h : cc0_transform_3 k0_off1_inb numel1_S1 a.1 (grid0.coords t) = ![e.val, 0, 0]) (j : Fin 1024) :
    ((((cfg0 a).win 3).blk t).view.read (Elt Ideal) A : Vec Ideal S1x1x1024 .f32) (ix3 0 0 j) = A (ix3 e 0 j) := by
  have h0 := emb3 a t (ix3 0 0 j) 0
  have h1 := emb3 a t (ix3 0 0 j) 1
  have h2 := emb3 a t (ix3 0 0 j) 2
  rw [h] at h0 h1 h2
  refine (read3 a t A _).trans (congrArg A (ext3 _ e 0 j (h0.trans ?_) (h1.trans ?_) (h2.trans ?_)))
  · show e.val * 1 + 0 = e.val; omega
  · show 0 * 1 + 0 = 0; omega
  · show 0 * 1024 + j.val = j.val; omega

theorem rd4 (a : (pcfg0 (F := Ideal)).Adm) (t : Fin (cfg0 a).N) (A : Vec Ideal S32x1x1024 .f32) (e : Fin 32) (h : cc0_transform_4 k0_off1_inb numel1_S1 a.1 (grid0.coords t) = ![e.val, 0, 0]) (j : Fin 1024) :
    ((((cfg0 a).win 4).blk t).view.read (Elt Ideal) A : Vec Ideal S1x1x1024 .f32) (ix3 0 0 j) = A (ix3 e 0 j) := by
  have h0 := emb4 a t (ix3 0 0 j) 0
  have h1 := emb4 a t (ix3 0 0 j) 1
  have h2 := emb4 a t (ix3 0 0 j) 2
  rw [h] at h0 h1 h2
  refine (read4 a t A _).trans (congrArg A (ext3 _ e 0 j (h0.trans ?_) (h1.trans ?_) (h2.trans ?_)))
  · show e.val * 1 + 0 = e.val; omega
  · show 0 * 1 + 0 = 0; omega
  · show 0 * 1024 + j.val = j.val; omega

theorem rd5 (a : (pcfg0 (F := Ideal)).Adm) (t : Fin (cfg0 a).N) (A : Vec Ideal S32x1x1024 .f32) (e : Fin 32) (h : cc0_transform_5 k0_off1_inb numel1_S1 a.1 (grid0.coords t) = ![e.val, 0, 0]) (j : Fin 1024) :
    ((((cfg0 a).win 5).blk t).view.read (Elt Ideal) A : Vec Ideal S1x1x1024 .f32) (ix3 0 0 j) = A (ix3 e 0 j) := by
  have h0 := emb5 a t (ix3 0 0 j) 0
  have h1 := emb5 a t (ix3 0 0 j) 1
  have h2 := emb5 a t (ix3 0 0 j) 2
  rw [h] at h0 h1 h2
  refine (read5 a t A _).trans (congrArg A (ext3 _ e 0 j (h0.trans ?_) (h1.trans ?_) (h2.trans ?_)))
  · show e.val * 1 + 0 = e.val; omega
  · show 0 * 1 + 0 = 0; omega
  · show 0 * 1024 + j.val = j.val; omega

theorem rd6 (a : (pcfg0 (F := Ideal)).Adm) (t : Fin (cfg0 a).N) (A : Vec Ideal S256x256 .bf16) (r k : Fin 256) :
    ((((cfg0 a).win 6).blk t).view.read (Elt Ideal) A : Vec Ideal S256x256 .bf16) (ix2 r k) = A (ix2 r k) :=
  (read6 a t A _).trans (congrArg A (ext2 _ r k ((emb6 a t (ix2 r k) 0).trans (by show 0 * 256 + r.val = r.val; omega)) ((emb6 a t (ix2 r k) 1).trans (by show 0 * 256 + k.val = k.val; omega))))

theorem t_lt (t : Fin (cfgM m hO).N) : t.val < 364 := by have h := (coord_at t) ▸ coord_lt (grid0.coords t); exact h

/-- The block number of a position. -/
abbrev tb (t : Fin (cfgM m hO).N) : Fin 364 := ⟨t.val, t_lt m hO t⟩

/-- The expert of a block. -/
abbrev exOf (t : Fin 364) : Fin 32 := ⟨(BE m (ix1 t)).toNat, hG.1 _⟩

/-- The blocks, at their shapes. -/
def bl0 (c : Dev nD) (t : Fin (cfgM m hO).N) : Vec Ideal S1024x512 .bf16 := iblk m hO c 0 t
def bl1 (c : Dev nD) (t : Fin (cfgM m hO).N) : Vec Ideal S1x1x1024x2048 .f32 := iblk m hO c 1 t
def bl2 (c : Dev nD) (t : Fin (cfgM m hO).N) : Vec Ideal S1x1x1024x1024 .f32 := iblk m hO c 2 t
def bl3 (c : Dev nD) (t : Fin (cfgM m hO).N) : Vec Ideal S1x1x1024 .f32 := iblk m hO c 3 t
def bl4 (c : Dev nD) (t : Fin (cfgM m hO).N) : Vec Ideal S1x1x1024 .f32 := iblk m hO c 4 t
def bl5 (c : Dev nD) (t : Fin (cfgM m hO).N) : Vec Ideal S1x1x1024 .f32 := iblk m hO c 5 t
def bl6 (c : Dev nD) (t : Fin (cfgM m hO).N) : Vec Ideal S256x256 .bf16 := iblk m hO c 6 t

theorem prepS_eq (c : Dev nD) (t : Fin (cfgM m hO).N) : prepS m hO c t = (wgV (bl1 m hO c t) (bl6 m hO c t), wuV (bl1 m hO c t) (bl6 m hO c t), wdV (bl2 m hO c t)) := rfl
theorem outAt_eq (c : Dev nD) (t : Fin (cfgM m hO).N) : outAt m hO c t = if usedC (F := Ideal) c (tbl m 1) (grid0.coords t) then
    outV (bl0 m hO c t) (scr m hO c t.val t.isLt).1 (scr m hO c t.val t.isLt).2.1 (scr m hO c t.val t.isLt).2.2 (bl3 m hO c t) (bl4 m hO c t) (bl5 m hO c t)
  else k0_pay3 (F := Ideal) := rfl

theorem tix (t : Fin (cfgM m hO).N) : (⟨(grid0.coords t 0).val, coord_lt _⟩ : Fin 364) = tb m hO t := Fin.ext (coord_at t)

include hG in
theorem i0 (c : Dev nD) (t : Fin (cfgM m hO).N) (hu : t.val < nUsed m) (r : Fin 1024) (k : Fin 512) (i : Fin 372736) (hi : i.val = 1024 * t.val + r.val) :
    bl0 m hO c t (ix2 r k) = m ((c : Thread nD τ).loc main_arg2) (ix2 i k) := by
  refine (rd0 (adm m hO) t (V m c main_arg2) t.val ?_ r k i hi).trans (congrFun (V_main_arg2 m c) _)
  refine (t0_eq m hG (grid0.coords t)).trans ?_
  rw [coord_at t, Nat.min_eq_left (by omega)]

theorem i1 (c : Dev nD) (t : Fin (cfgM m hO).N) (k : Fin 1024) (j : Fin 2048) :
    bl1 m hO c t (ix4 0 0 k j) = m ((c : Thread nD τ).loc main_arg3) (ix4 0 (exOf m hG (tb m hO t)) k j) := by
  refine (rd1 (adm m hO) t (V m c main_arg3) (exOf m hG (tb m hO t)) ?_ k j).trans (congrFun (V_main_arg3 m c) _)
  refine (t1_eq m (grid0.coords t)).trans ?_
  rw [tix m hO t]

theorem i2 (c : Dev nD) (t : Fin (cfgM m hO).N) (k : Fin 1024) (j : Fin 1024) :
    bl2 m hO c t (ix4 0 0 k j) = m ((c : Thread nD τ).loc main_arg4) (ix4 0 (exOf m hG (tb m hO t)) k j) := by
  refine (rd2 (adm m hO) t (V m c main_arg4) (exOf m hG (tb m hO t)) ?_ k j).trans (congrFun (V_main_arg4 m c) _)
  refine (t2_eq m (grid0.coords t)).trans ?_
  rw [tix m hO t]

theorem i3 (c : Dev nD) (t : Fin (cfgM m hO).N) (j : Fin 1024) :
    bl3 m hO c t (ix3 0 0 j) = m ((c : Thread nD τ).loc main_arg5) (ix2 (exOf m hG (tb m hO t)) (⟨2 * j.val, by omega⟩ : Fin 2048)) := by
  refine (rd3 (adm m hO) t (V m c main_v2) (exOf m hG (tb m hO t)) ?_ j).trans (V_bg m c _ j)
  refine (t3_eq m (grid0.coords t)).trans ?_
  rw [tix m hO t]

theorem i4 (c : Dev nD) (t : Fin (cfgM m hO).N) (j : Fin 1024) :
    bl4 m hO c t (ix3 0 0 j) = m ((c : Thread nD τ).loc main_arg5) (ix2 (exOf m hG (tb m hO t)) (⟨2 * j.val + 1, by omega⟩ : Fin 2048)) := by
  refine (rd4 (adm m hO) t (V m c main_v4) (exOf m hG (tb m hO t)) ?_ j).trans (V_bu m c _ j)
  refine (t4_eq m (grid0.coords t)).trans ?_
  rw [tix m hO t]

theorem i5 (c : Dev nD) (t : Fin (cfgM m hO).N) (j : Fin 1024) :
    bl5 m hO c t (ix3 0 0 j) = m ((c : Thread nD τ).loc main_arg6) (ix2 (exOf m hG (tb m hO t)) j) := by
  refine (rd5 (adm m hO) t (V m c main_v5) (exOf m hG (tb m hO t)) ?_ j).trans (V_bd m c _ j)
  refine (t5_eq m (grid0.coords t)).trans ?_
  rw [tix m hO t]

theorem i6 (c : Dev nD) (t : Fin (cfgM m hO).N) : Sel (bl6 m hO c t) := fun r k =>
  (rd6 (adm m hO) t (V m c main_v23) r k).trans (V_perm m c r k)

/-! ## The scratch holds the expert's weights -/

/-- The prepared weights are those of an expert. -/
def Holds (c : Dev nD) (e : Fin 32) (s : Vec Ideal S1024x1024 .bf16 × Vec Ideal S1024x1024 .bf16 × Vec Ideal S1024x1024 .bf16) : Prop :=
  (∀ d j : Fin 1024, s.1 (ix2 d j) = m ((c : Thread nD τ).loc main_arg3) (ix4 0 e d (⟨2 * j.val, by omega⟩ : Fin 2048)))
    ∧ (∀ d j : Fin 1024, s.2.1 (ix2 d j) = m ((c : Thread nD τ).loc main_arg3) (ix4 0 e d (⟨2 * j.val + 1, by omega⟩ : Fin 2048)))
    ∧ ∀ j d : Fin 1024, s.2.2 (ix2 j d) = m ((c : Thread nD τ).loc main_arg4) (ix4 0 e j d)

theorem prep_holds (c : Dev nD) (t : Fin (cfgM m hO).N) : Holds m c (exOf m hG (tb m hO t)) (prepS m hO c t) := by
  rw [prepS_eq]
  unfold Holds
  dsimp only
  refine ⟨fun d j => ?_, fun d j => ?_, fun j d => ?_⟩
  · rw [wgV_sel _ _ (i6 m hO c t) d j, i1 m hO hG]
  · rw [wuV_sel _ _ (i6 m hO c t) d j, i1 m hO hG]
  · rw [wdV_at, i2 m hO hG]

theorem scr_zero (c : Dev nD) (hn : 0 < (cfgM m hO).N) : scr m hO c 0 hn = prepS m hO c ⟨0, hn⟩ := by rw [scr]

theorem scr_holds (c : Dev nD) : ∀ (n : ℕ) (hn : n < (cfgM m hO).N), n < nUsed m → Holds m c (exOf m hG (tb m hO ⟨n, hn⟩)) (scr m hO c n hn) := by
  intro n
  induction n with
  | zero =>
    intro hn _
    rw [scr_zero]
    exact prep_holds m hO hG c ⟨0, hn⟩
  | succ n ih =>
    intro hn hu
    by_cases h : newC (F := Ideal) c (tbl m 0) (tbl m 1) (grid0.coords ⟨n + 1, hn⟩)
    · have e := scr_new m hO c ⟨n + 1, hn⟩ h
      exact e ▸ prep_holds m hO hG c ⟨n + 1, hn⟩
    · have e := scr_old m hO c ⟨n + 1, hn⟩ (Nat.succ_ne_zero n) h
      have hs := (same_of_not_new m hG c ⟨n + 1, hn⟩ hu h).2
      have he : exOf m hG (tb m hO ⟨n + 1, hn⟩) = exOf m hG (tb m hO ⟨n, Nat.lt_of_succ_lt hn⟩) := Fin.ext (congrArg BitVec.toNat hs)
      rw [he]
      have := ih (Nat.lt_of_succ_lt hn) (by omega)
      exact e.symm ▸ this

/-! ## What a point writes -/

theorem out_at (c : Dev nD) (t : Fin (cfgM m hO).N) (r : Fin 512) (p : Fin 2) (q : Fin 512) :
    outAt m hO c t (ix2 (⟨2 * r.val + p.val, by omega⟩ : Fin 1024) q)
      = if t.val < nUsed m then out (m ((c : Thread nD τ).loc main_arg2)) (m ((c : Thread nD τ).loc main_arg3)) (m ((c : Thread nD τ).loc main_arg4)) (m ((c : Thread nD τ).loc main_arg5)) (m ((c : Thread nD τ).loc main_arg6)) (exOf m hG (tb m hO t)) (tb m hO t) r (col p q) else 0 := by
  have hi := used_iff m hG c (grid0.coords t)
  rw [coord_at t] at hi
  rw [outAt_eq]
  by_cases hu : t.val < nUsed m
  · rw [if_pos (hi.mpr hu), if_pos hu]
    obtain ⟨hg, hup, hd⟩ := scr_holds m hO hG c t.val t.isLt hu
    unfold outV
    rw [pay2_at, i5 m hO hG]
    unfold out
    refine congrArg₂ (fun a b : EReal => a + b) (Finset.sum_congr rfl fun j _ => ?_) rfl
    rw [pay30_at, i3 m hO hG, i4 m hO hG]
    refine congrArg₂ (fun a b : EReal => a * b) ?_ (hd j _)
    unfold gu
    refine congrArg₂ act ?_ ?_
    · refine congrArg₂ (fun a b : EReal => a + b) (congrArg₂ (fun a b : EReal => a + b) (Finset.sum_congr rfl fun k _ => ?_) (Finset.sum_congr rfl fun k _ => ?_)) rfl
      · exact congrArg₂ (fun a b : EReal => a * b) (i0 m hO hG c t hu _ k _ (by show 1024 * t.val + 2 * r.val + 1 = 1024 * t.val + (2 * r.val + 1); omega)) (hg _ j)
      · exact congrArg₂ (fun a b : EReal => a * b) (i0 m hO hG c t hu _ k _ (by show 1024 * t.val + 2 * r.val + 0 = 1024 * t.val + 2 * r.val; omega)) (hg _ j)
    · refine congrArg₂ (fun a b : EReal => a + b) (congrArg₂ (fun a b : EReal => a + b) (Finset.sum_congr rfl fun k _ => ?_) (Finset.sum_congr rfl fun k _ => ?_)) rfl
      · exact congrArg₂ (fun a b : EReal => a * b) (i0 m hO hG c t hu _ k _ (by show 1024 * t.val + 2 * r.val + 1 = 1024 * t.val + (2 * r.val + 1); omega)) (hup _ j)
      · exact congrArg₂ (fun a b : EReal => a * b) (i0 m hO hG c t hu _ k _ (by show 1024 * t.val + 2 * r.val + 0 = 1024 * t.val + 2 * r.val; omega)) (hup _ j)
  · rw [if_neg fun h => hu (hi.mp h), if_neg hu]
    pointwise [k0_pay3]

/-! ## The result -/

/-- The reference's result at the kernel's arguments. -/
abbrev REF (c : Dev nD) : Vec Ideal S372736x512 .bf16 :=
  Cert.ExpertsRefIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- There is one device, so its tables are the tables. -/
theorem be_dev (c : Dev nD) : m ((c : Thread nD τ).loc main_arg0) = BE m := by
  obtain rfl : c = (0 : Dev nD) := Subsingleton.elim (α := Fin 1) _ _
  rfl
theorem nu_dev (c : Dev nD) : m ((c : Thread nD τ).loc main_arg1) = NU m := by
  obtain rfl : c = (0 : Dev nD) := Subsingleton.elim (α := Fin 1) _ _
  rfl

theorem ref_at (c : Dev nD) (t : Fin 364) (r : Fin 512) (p : Fin 2) (q : Fin 512) :
    REF m c (ix2 (row t r p) q)
      = if t.val < nUsed m then out (m ((c : Thread nD τ).loc main_arg2)) (m ((c : Thread nD τ).loc main_arg3)) (m ((c : Thread nD τ).loc main_arg4)) (m ((c : Thread nD τ).loc main_arg5)) (m ((c : Thread nD τ).loc main_arg6)) (exOf m hG t) t r (col p q) else 0 := by
  have hn := hG.2 (ix1 (0 : Fin 1))
  unfold REF
  rw [be_dev m c, nu_dev m c]
  exact Cert.ExpertsRefIdeal.RValue.res_at (BE m) (NU m) _ _ _ _ _ t (hG.1 _) r p q (by omega)

include hG in
theorem point (c : Dev nD) (t : Fin (cfgM m hO).N) (y : S1024x512.Idx) : outAt m hO c t y = REF m c (at7 (adm m hO) t y) := by
  have hy : (y 0).val < 1024 := (y 0).isLt
  have ht := t_lt m hO t
  have e : y = ix2 (⟨2 * ((y 0).val / 2) + (y 0).val % 2, by omega⟩ : Fin 1024) (y 1) := ext2 y _ _ (by show (y 0).val = 2 * ((y 0).val / 2) + (y 0).val % 2; omega) rfl
  have e' : at7 (adm m hO) t y = ix2 (row (tb m hO t) (⟨(y 0).val / 2, by omega⟩ : Fin 512) (⟨(y 0).val % 2, by omega⟩ : Fin 2)) (y 1) := by
    refine ext2 _ _ _ ((emb7 (adm m hO) t y 0).trans ?_) ((emb7 (adm m hO) t y 1).trans ?_)
    · show (BitVec.ofNat 32 (grid0.coords t 0).val).toNat * 1024 + (y 0).val = 1024 * t.val + 2 * ((y 0).val / 2) + (y 0).val % 2
      rw [coord_at t, BitVec.toNat_ofNat, Nat.mod_eq_of_lt (by omega)]; omega
    · show 0 * 512 + (y 1).val = (y 1).val; omega
  refine (congrArg (outAt m hO c t) e).trans ((out_at m hO hG c t ⟨(y 0).val / 2, by omega⟩ ⟨(y 0).val % 2, by omega⟩ (y 1)).trans ?_)
  exact (ref_at m hG c (tb m hO t) _ _ _).symm.trans (congrArg (REF m c) e'.symm)

/-- Where the output's block goes. -/
def ix7 (i : grid0.Coords) : Fin 2 → ℕ := ![(BitVec.ofNat 32 (i 0).val).toNat, 0]

theorem flush7 (a : (pcfg0 (F := Ideal)).Adm) (t : Fin grid0.N) : ((cfg0 a).win 7).flush t = true :=
  (Pipeline.Window.flush_eq_flushOf ((cfg0 a).win 7) t).trans
    ((by decide +kernel : ∀ t : Fin grid0.N, Pipeline.Window.flushOf grid0 true ix7 t = true) t)

theorem covers7 (a : (pcfg0 (F := Ideal)).Adm) : ((cfg0 a).win 7).Covers := by
  refine ⟨fun x => ?_, fun β => ?_⟩
  · exact (by decide : ∀ x : Fin 2, 0 < S1024x512.size x) x
  · have n0 : ((cfg0 a).win 7).nblk (0 : Fin 2) = 364 := by show (372736 + 1024 - 1) / 1024 = 364; decide
    have n1 : ((cfg0 a).win 7).nblk (1 : Fin 2) = 1 := by show (512 + 512 - 1) / 512 = 1; decide
    have h0 : (β (0 : Fin 2)).val < 364 := lt_of_lt_of_eq (β (0 : Fin 2)).isLt n0
    have h1 : (β (1 : Fin 2)).val < 1 := lt_of_lt_of_eq (β (1 : Fin 2)).isLt n1
    refine ⟨(⟨(β (0 : Fin 2)).val, by rw [N_0]; exact h0⟩ : Fin grid0.N), flush7 a _, fun x => ⟨?_, .inl rfl⟩⟩
    have e := coord_at ⟨(β (0 : Fin 2)).val, by rw [N_0]; exact h0⟩
    match x with
    | ⟨0, _⟩ =>
      show (BitVec.ofNat 32 (grid0.coords ⟨(β (0 : Fin 2)).val, _⟩ 0).val).toNat = (β (0 : Fin 2)).val
      rw [e, BitVec.toNat_ofNat]
      exact Nat.mod_eq_of_lt (Nat.lt_trans h0 (by decide))
    | ⟨1, _⟩ => show 0 = (β (1 : Fin 2)).val; omega

include hG in
theorem final (c : Dev nD) : (dats m hO 0 c).arrAt 7 (cfgM m hO).N = REF m c :=
  (dats m hO 0 c).arrAt_eq_of_covers 7 _ (covers7 (adm m hO)) fun t _ y =>
    (congrFun (after0_7 m hO c t) y).trans (point m hO hG c t y)

/-- The run: the result is the reference's, the arguments are unchanged. -/
theorem run_value (ρ : Dev nD → PrngReg) (hG : Good m) : θ_run defs (onTc (τ := τ) (main (F := Ideal))) ⟨m, fun _ => 0, ρ⟩ (fun r => ∀ c : Dev nD,
      r.2.mem ((c.tc : Thread nD τ).loc main_v24) = REF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m (ok_of m hG) hG c), h.2 c⟩)
    (θ_run_and (run_main m ρ (ok_of m hG) (first_of m hG)) (unchanged m ρ (ok_of m hG) (first_of m hG)))

end Cert.ExpertsIdeal.Hand
end
-- ==== Proof.PreIdealKit.lean ====
/- The set-up of the projection kernel: what its region finds, its windows' blocks, the branches of its body. -/
module

public import proofs.«01_k».proof.Proof.Gen.PreIdeal.Launch
public import proofs.«01_k».proof.Proof.Gen.PreIdeal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.PreIdeal.Hand

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c)))⟩) h

/-! ## The body's branch conditions -/

abbrev cond0_0 (i : grid0.Coords) : Prop := k0_cond1 i = 1#1
theorem hcond0_0 : ∀ t : Fin cfg0.N, cond0_0 (grid0.coords t) ↔ t.val % 17 = 0 :=
  (fun t => by
    have ht : t.val < 136 := Nat.lt_of_lt_of_eq t.isLt N_0
    have e0 : (grid0.coords t 0).val = t.val / 17 % 8 := Pipeline.Grid.coords_val t 0 (by decide) rfl
    have e1 : (grid0.coords t 1).val = t.val / 1 % 17 := Pipeline.Grid.coords_val t 1 (by decide) rfl
    simp only [cond0_0, k0_cond1, e0, e1]
    word_cmp
   : ∀ t : Fin grid0.N, cond0_0 (grid0.coords t) ↔ t.val % 17 = 0)

abbrev cond0_1 (i : grid0.Coords) : Prop := k0_cond2 i = 1#1
theorem hcond0_1 : ∀ t : Fin cfg0.N, cond0_1 (grid0.coords t) ↔ 1 ≤ t.val % 17 :=
  (by decide +kernel : ∀ t : Fin grid0.N, cond0_1 (grid0.coords t) ↔ 1 ≤ t.val % 17)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem liveAt0_8_B : ∀ t : Fin cfg0.N, ¬cond0_0 (grid0.coords t) → cond0_1 (grid0.coords t) → cfg0.idle 8 (grid0.coords t) = false := by decide +kernel
def freshTab0_9 : ℕ → Bool
  | 0 => true
  | n + 1 => (0x8000400020001000080004000200010000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → ¬cond0_1 (grid0.coords t) → cfg0.idle 9 (grid0.coords t) = false := by decide +kernel
theorem idleAt0_9_B : ∀ t : Fin cfg0.N, ¬cond0_0 (grid0.coords t) → cond0_1 (grid0.coords t) → cfg0.idle 9 (grid0.coords t) = true := by decide +kernel
theorem notFresh0_9_B : ∀ t : Fin cfg0.N, ¬cond0_0 (grid0.coords t) → cond0_1 (grid0.coords t) → cfg0.fresh 9 t.val = false := by
  intro t; rw [fresh0_9_eq t]; revert t; decide +kernel

/-! ## The kernel body on any staging memrefs: a subtype the run finds -/

abbrev VO0_7 : View sig .tc .vmem S1x256x2176 .f32 := (Memref.whole cc0_stg7_0 : Memref sig .tc .vmem S1x256x2176 .f32).view
abbrev VO0_8 : View sig .tc .vmem S1x2x256x256 .bf16 := (Memref.whole cc0_stg8_0 : Memref sig .tc .vmem S1x2x256x256 .bf16).view
abbrev VO0_9 : View sig .tc .vmem S1x2x256x256 .bf16 := (Memref.whole cc0_stg9_0 : Memref sig .tc .vmem S1x2x256x256 .bf16).view
abbrev VO0_10 : View sig .tc .vmem S256x256 .bf16 := (Memref.whole cc0_stg10_0 : Memref sig .tc .vmem S256x256 .bf16).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2176 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x2176 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .bf16 := win0_10.stage (cfg0.slots t 10)
abbrev hs0_10 (t : Fin cfg0.N) : (ms0_10 t).IsWhole := hstage0_10 ((cfg0.slots t 10).cast nbuf0_10)

/-- The body at point `t`, as the pipeline calls it. -/
abbrev bodyAt0 (t : Fin cfg0.N) : Prog (TpuEff nD τ sig (Elt F) Λ₀ .tc) PUnit :=
  cc0_pre_mixer (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))

theorem flush0_7 : ∀ t : Fin cfg0.N, (cfg0.win 7).flush t = true :=
  (fun t => (Pipeline.Window.flush_reads win0_7 rfl 1 (by decide) (by decide) (Pipeline.Window.sep_of_coord cc0_transform_7 1 1 (fun _ => rfl) (by decide)) (P := 1) (m := 0) (by decide) rfl t).mpr (Nat.mod_one _) : ∀ t : Fin grid0.N, win0_7.flush t = true)

end Cert.PreIdeal.Hand

end
-- ==== Proof.PreIdealRunA.lean ====
/- The body of the projection kernel at the first tile of a row. -/
module

public import proofs.«01_k».proof.Proof.PreIdealKit

@[expose] public section

set_option maxRecDepth 16384

noncomputable section

namespace Cert.PreIdeal.Hand

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores at a first tile of a row: the pieces written to each output, and the proof that the body
    runs to them. The latent-kernel output is handed back as it was. -/
noncomputable def kernelRun0_A (c : Dev nD) (i : grid0.Coords) (arg2 : Memref sig .tc .vmem S1x256x1024 .f32) (harg2 : arg2.IsWhole) (arg3 : Memref sig .tc .vmem S1x1x8x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S8x512 .f32) (harg6 : arg6.IsWhole) (arg7 : Memref sig .tc .vmem S1x512 .f32) (harg7 : arg7.IsWhole) (arg8 : Memref sig .tc .vmem S256x512 .bf16) (harg8 : arg8.IsWhole) (arg9 : Memref sig .tc .vmem S1x256x2176 .f32) (harg9 : arg9.IsWhole) (arg10 : Memref sig .tc .vmem S1x2x256x256 .bf16) (harg10 : arg10.IsWhole) (arg11 : Memref sig .tc .vmem S1x2x256x256 .bf16) (harg11 : arg11.IsWhole) (arg12 : Memref sig .tc .vmem S256x256 .bf16) (harg12 : arg12.IsWhole) (hc0 : cond0_0 i) (hc1 : ¬cond0_1 i)
    (x0 : Vec F S1x256x1024 .f32) (x1 : Vec F S1x1x8x1024 .f32) (x2 : Vec F S1x1024 .f32) (x3 : Vec F S1024x2176 .bf16) (x4 : Vec F S8x512 .f32) (x5 : Vec F S1x512 .f32) (x6 : Vec F S256x512 .bf16) :
    Σ' (L7 : List (View.Piece (Elt F) S1x256x2176 .f32)), Σ' (L8 : List (View.Piece (Elt F) S1x2x256x256 .bf16)), Σ' (L9 : List (View.Piece (Elt F) S1x2x256x256 .bf16)), { L10 : List (View.Piece (Elt F) S256x256 .bf16) //
      ∀ (xi8 : Vec F S1x2x256x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0_pre_mixer i arg2 harg2 arg3 harg3 arg4 harg4 arg5 harg5 arg6 harg6 arg7 harg7 arg8 harg8 arg9 harg9 arg10 harg10 arg11 harg11 arg12 harg12) K } := by
  refine ⟨?_, [], ?_, ?_, fun xi8 E K => ?run⟩
  case run =>
    simp only [cc0_pre_mixer_eq_skeleton]; unfold cc0_pre_mixer_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    iexists _; iexact H10

end Cert.PreIdeal.Hand

end
-- ==== Proof.PreIdealRunB.lean ====
/- The body of the projection kernel at the later tiles of a row. -/
module

public import proofs.«01_k».proof.Proof.PreIdealRunA

@[expose] public section

set_option maxRecDepth 16384

noncomputable section

namespace Cert.PreIdeal.Hand

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores at a later tile of a row: the pieces written to each output, and the proof that the body
    runs to them. The context-kernel output is handed back as it was. -/
noncomputable def kernelRun0_B (c : Dev nD) (i : grid0.Coords) (arg2 : Memref sig .tc .vmem S1x256x1024 .f32) (harg2 : arg2.IsWhole) (arg3 : Memref sig .tc .vmem S1x1x8x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S8x512 .f32) (harg6 : arg6.IsWhole) (arg7 : Memref sig .tc .vmem S1x512 .f32) (harg7 : arg7.IsWhole) (arg8 : Memref sig .tc .vmem S256x512 .bf16) (harg8 : arg8.IsWhole) (arg9 : Memref sig .tc .vmem S1x256x2176 .f32) (harg9 : arg9.IsWhole) (arg10 : Memref sig .tc .vmem S1x2x256x256 .bf16) (harg10 : arg10.IsWhole) (arg11 : Memref sig .tc .vmem S1x2x256x256 .bf16) (harg11 : arg11.IsWhole) (arg12 : Memref sig .tc .vmem S256x256 .bf16) (harg12 : arg12.IsWhole) (hc0 : ¬cond0_0 i) (hc1 : cond0_1 i)
    (x0 : Vec F S1x256x1024 .f32) (x1 : Vec F S1x1x8x1024 .f32) (x2 : Vec F S1x1024 .f32) (x3 : Vec F S1024x2176 .bf16) (x4 : Vec F S8x512 .f32) (x5 : Vec F S1x512 .f32) (x6 : Vec F S256x512 .bf16) :
    Σ' (L7 : List (View.Piece (Elt F) S1x256x2176 .f32)), Σ' (L8 : List (View.Piece (Elt F) S1x2x256x256 .bf16)), { L10 : List (View.Piece (Elt F) S256x256 .bf16) //
      ∀ (xo9 : Vec F S1x2x256x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xo9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xo9 ∗ (∃ f, arg12.view.loc (c : Thread nD τ) ↦[arg12.view.set]{fullShare} arg12.view.writes (Elt F) f L10)) -∗ K ⟨⟩))
          ⊢ wp frame (wpE (defs₀ (F := F)) Variants.none c none) E (cc0_pre_mixer i arg2 harg2 arg3 harg3 arg4 harg4 arg5 harg5 arg6 harg6 arg7 harg7 arg8 harg8 arg9 harg9 arg10 harg10 arg11 harg11 arg12 harg12) K } := by
  refine ⟨?_, ?_, ?_, fun xo9 E K => ?run⟩
  case run =>
    simp only [cc0_pre_mixer_eq_skeleton]; unfold cc0_pre_mixer_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    iexists _; iexact H10

end Cert.PreIdeal.Hand

end
-- ==== Proof.PreIdealFrame.lean ====
/- The projection kernel runs, leaves its arguments alone, and what it leaves in its results. -/
module

public import proofs.«01_k».proof.Proof.PreIdealRunB
public import Idealize.ShloMosaic.Lib.Claim

@[expose] public section

set_option maxRecDepth 16384

noncomputable section

namespace Cert.PreIdeal.Hand

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not1_of (t : Fin cfg0.N) (h0 : t.val % 17 = 0) : ¬cond0_1 (grid0.coords t) :=
  fun h => by have := (hcond0_1 t).mp h; omega
theorem is1_of (t : Fin cfg0.N) (h0 : ¬t.val % 17 = 0) : cond0_1 (grid0.coords t) :=
  (hcond0_1 t).mpr (by omega)
theorem not0_of (t : Fin cfg0.N) (h0 : ¬t.val % 17 = 0) : ¬cond0_0 (grid0.coords t) :=
  fun h => h0 ((hcond0_0 t).mp h)

/-- The run of the body at a first tile, at that point's buffers and blocks. -/
abbrev runA (c : Dev nD) (t : Fin cfg0.N) (h0 : t.val % 17 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (not1_of t h0) (iblk m c 0 t) (iblk m c 1 t) (iblk m c 2 t) (iblk m c 3 t) (iblk m c 4 t) (iblk m c 5 t) (iblk m c 6 t)
/-- The run of the body at a later tile, at that point's buffers and blocks. -/
abbrev runB (c : Dev nD) (t : Fin cfg0.N) (h0 : ¬t.val % 17 = 0) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (not0_of t h0) (is1_of t h0) (iblk m c 0 t) (iblk m c 1 t) (iblk m c 2 t) (iblk m c 3 t) (iblk m c 4 t) (iblk m c 5 t) (iblk m c 6 t)

theorem coverA_7 (c : Dev nD) (t : Fin cfg0.N) (h0 : t.val % 17 = 0) (y : S1x256x2176.Idx) :
    ∃ pc ∈ (runA m c t h0).1, y ∈ pc.1.set :=
  View.cover_of_tiledBy (runA m c t h0).1 ![1, 256, 128] (by sl_kernel_rfl) y
theorem coverA_9 (c : Dev nD) (t : Fin cfg0.N) (h0 : t.val % 17 = 0) (y : S1x2x256x256.Idx) :
    ∃ pc ∈ (runA m c t h0).2.2.1, y ∈ pc.1.set :=
  View.cover_of_tiledL (runA m c t h0).2.2.1 S1x1x256x256.size (by sl_kernel_rfl) y
theorem coverA_10 (c : Dev nD) (t : Fin cfg0.N) (h0 : t.val % 17 = 0) (y : S256x256.Idx) :
    ∃ pc ∈ (runA m c t h0).2.2.2.1, y ∈ pc.1.set :=
  View.cover_of_tiledL (runA m c t h0).2.2.2.1 S256x256.size (by sl_kernel_rfl) y
theorem coverB_7 (c : Dev nD) (t : Fin cfg0.N) (h0 : ¬t.val % 17 = 0) (y : S1x256x2176.Idx) :
    ∃ pc ∈ (runB m c t h0).1, y ∈ pc.1.set :=
  View.cover_of_tiledBy (runB m c t h0).1 ![1, 256, 128] (by sl_kernel_rfl) y
theorem coverB_8 (c : Dev nD) (t : Fin cfg0.N) (h0 : ¬t.val % 17 = 0) (y : S1x2x256x256.Idx) :
    ∃ pc ∈ (runB m c t h0).2.1, y ∈ pc.1.set :=
  View.cover_of_tiledL (runB m c t h0).2.1 S1x1x256x256.size (by sl_kernel_rfl) y
theorem coverB_10 (c : Dev nD) (t : Fin cfg0.N) (h0 : ¬t.val % 17 = 0) (y : S256x256.Idx) :
    ∃ pc ∈ (runB m c t h0).2.2.1, y ∈ pc.1.set :=
  View.cover_of_tiledL (runB m c t h0).2.2.1 S256x256.size (by sl_kernel_rfl) y

/-- What a first tile leaves in the outputs' buffers; the latent-kernel output is not looked at there. -/
def outsA (c : Dev nD) (t : Fin cfg0.N) (h0 : t.val % 17 = 0) : Vec F S1x256x2176 .f32 × Vec F S1x2x256x256 .bf16 × Vec F S1x2x256x256 .bf16 × Vec F S256x256 .bf16 :=
  (VO0_7.read (Elt F) (VO0_7.writes (Elt F) VO0_7.junk (runA m c t h0).1), VO0_8.read (Elt F) VO0_8.junk,
    VO0_9.read (Elt F) (VO0_9.writes (Elt F) VO0_9.junk (runA m c t h0).2.2.1), VO0_10.read (Elt F) (VO0_10.writes (Elt F) VO0_10.junk (runA m c t h0).2.2.2.1))
/-- What a later tile leaves in the outputs' buffers; the context-kernel output stays at `x`. -/
def outsB (c : Dev nD) (t : Fin cfg0.N) (h0 : ¬t.val % 17 = 0) (x : Vec F S1x2x256x256 .bf16) : Vec F S1x256x2176 .f32 × Vec F S1x2x256x256 .bf16 × Vec F S1x2x256x256 .bf16 × Vec F S256x256 .bf16 :=
  (VO0_7.read (Elt F) (VO0_7.writes (Elt F) VO0_7.junk (runB m c t h0).1), VO0_8.read (Elt F) (VO0_8.writes (Elt F) VO0_8.junk (runB m c t h0).2.1),
    x, VO0_10.read (Elt F) (VO0_10.writes (Elt F) VO0_10.junk (runB m c t h0).2.2.1))

/-- What the outputs' buffers hold after the body at point `n`. -/
def outsAt0 (c : Dev nD) : (n : ℕ) → n < cfg0.N → Vec F S1x256x2176 .f32 × Vec F S1x2x256x256 .bf16 × Vec F S1x2x256x256 .bf16 × Vec F S256x256 .bf16
  | 0, hn => outsA m c ⟨0, hn⟩ (Nat.zero_mod _)
  | n + 1, hn =>
    if h0 : (n + 1) % 17 = 0 then outsA m c ⟨n + 1, hn⟩ h0
    else outsB m c ⟨n + 1, hn⟩ h0 (outsAt0 c n (Nat.lt_of_succ_lt hn)).2.2.1

theorem outsAt0_A (c : Dev nD) (t : Fin cfg0.N) (h0 : t.val % 17 = 0) : outsAt0 m c t.val t.isLt = outsA m c t h0 := by
  obtain ⟨n, hn⟩ := t
  cases n with
  | zero => exact rfl
  | succ n => exact (dif_pos h0)
theorem outsAt0_B (c : Dev nD) (t : Fin cfg0.N) (h0 : ¬t.val % 17 = 0) :
    outsAt0 m c t.val t.isLt = outsB m c t h0 (outsAt0 m c (t.val - 1) (Nat.lt_of_le_of_lt (Nat.sub_le _ _) t.isLt)).2.2.1 := by
  obtain ⟨n, hn⟩ := t
  cases n with
  | zero => exact absurd (Nat.zero_mod _) h0
  | succ n => exact (dif_neg h0)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after0_9, after0_9]
  by_cases h0 : t.val % 17 = 0
  · rw [liveAt0_9_A t ((hcond0_0 t).mpr h0) (not1_of t h0)] at hi
    exact absurd hi Bool.false_ne_true
  · rw [outsAt0_B m c t h0]; rfl
theorem before0_9_B (c : Dev nD) (t : Fin cfg0.N) (h0 : ¬t.val % 17 = 0) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_B t (not0_of t h0) (is1_of t h0)]; exact Bool.false_ne_true)]
  dsimp only [dats]

/-- At a later tile the context-kernel output's buffer, handed back as it was, is what the pipeline expects of it. -/
theorem leaves0_9_B (c : Dev nD) (t : Fin cfg0.N) (h0 : ¬t.val % 17 = 0) (d) :
    owns (c : Thread nD τ) (ms0_9 t) fullShare ((dats m 0 c).before 9 t d) ⊢ (dats m 0 c).leavesExact 9 t := by
  cases hf : (cfg0.win 9).flush t with
  | false =>
    rw [Dat.leavesExact_idle (dats m 0 c) 9 t (idleAt0_9_B t (not0_of t h0) (is1_of t h0)) hf]
    iintro H
    iexists _; iexact H
  | true =>
    rw [show (dats m 0 c).leavesExact 9 t = owns (c : Thread nD τ) (ms0_9 t) fullShare ((dats m 0 c).after 9 t) from by
      unfold Dat.leavesExact; rw [idleAt0_9_B t (not0_of t h0) (is1_of t h0), hf], after0_9, before0_9_B m c t h0, outsAt0_B m c t h0]
    unfold outsB
    iintro H
    iexact H

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  by_cases h0 : t.val % 17 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8_A t ((hcond0_0 t).mpr h0) (not1_of t h0)) (noFlush0_8_A t ((hcond0_0 t).mpr h0) (not1_of t h0))]
    rw [show (dats m 0 c).leavesExact 9 t = owns (c : Thread nD τ) (ms0_9 t) fullShare ((dats m 0 c).after 9 t) from by
      unfold Dat.leavesExact; rw [liveAt0_9_A t ((hcond0_0 t).mpr h0) (not1_of t h0)], after0_9]
    rw [show (dats m 0 c).leavesExact 10 t = owns (c : Thread nD τ) (ms0_10 t) fullShare ((dats m 0 c).after 10 t) from by
      unfold Dat.leavesExact; rw [liveAt0_10 t], after0_10]
    rw [outsAt0_A m c t h0]
    unfold outsA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA m c t h0).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexists _; iexact H10
    iintro ⟨H0, H1, H2, H3, H4, H5, H6, ⟨%e7, H7⟩, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 m c t h0)
    isplitl [H8]; · iexists _; iexact H8
    isplitl [H9]
    · unfold owns; iexists _; isplitr
      swap; · iexact H9
      ipureintro; exact View.read_writes_of_cover _ _ _ _ _ (coverA_9 m c t h0)
    · unfold owns; iexists _; isplitr
      swap; · iexact H10
      ipureintro; exact View.read_writes_of_cover _ _ _ _ _ (coverA_10 m c t h0)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_B t (not0_of t h0) (is1_of t h0)], after0_8]
    rw [show (dats m 0 c).leavesExact 10 t = owns (c : Thread nD τ) (ms0_10 t) fullShare ((dats m 0 c).after 10 t) from by
      unfold Dat.leavesExact; rw [liveAt0_10 t], after0_10]
    rw [show (outsAt0 m c t.val t.isLt).1 = (outsB m c t h0 (outsAt0 m c (t.val - 1) (Nat.lt_of_le_of_lt (Nat.sub_le _ _) t.isLt)).2.2.1).1 from by rw [outsAt0_B m c t h0],
      show (outsAt0 m c t.val t.isLt).2.1 = (outsB m c t h0 (outsAt0 m c (t.val - 1) (Nat.lt_of_le_of_lt (Nat.sub_le _ _) t.isLt)).2.2.1).2.1 from by rw [outsAt0_B m c t h0],
      show (outsAt0 m c t.val t.isLt).2.2.2 = (outsB m c t h0 (outsAt0 m c (t.val - 1) (Nat.lt_of_le_of_lt (Nat.sub_le _ _) t.isLt)).2.2.1).2.2.2 from by rw [outsAt0_B m c t h0]]
    unfold outsB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB m c t h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    iintro ⟨H0, H1, H2, H3, H4, H5, H6, ⟨%e7, H7⟩, ⟨%e8, H8⟩, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 m c t h0)
    isplitl [H8]
    · unfold owns; iexists _; isplitr
      swap; · iexact H8
      ipureintro; exact View.read_writes_of_cover _ _ _ _ _ (coverB_8 m c t h0)
    isplitl [H9]; · iapply (leaves0_9_B m c t h0 d9); iexact H9
    · unfold owns; iexists _; isplitr
      swap; · iexact H10
      ipureintro; exact View.read_writes_of_cover _ _ _ _ _ (coverB_10 m c t h0)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.PreIdeal.Hand

end
-- ==== Proof.PreSpec.lean ====
/- The projection in plain mathematics: the normalised and modulated row, its product with the weights, and the
   convolution of five taps with its gate. -/
module

public import Idealize.ShloMosaic.Lib.Pipeline.ValueKit
public import Idealize.ShloMosaic.Lib.Claim
public import Idealize.ShloMosaic.Lib.StableHlo.ReadAt
public import Idealize.ShloMosaic.Lib.WordArith

@[expose] public section

set_option maxRecDepth 16384

noncomputable section
open Idealize.ShloMosaic Idealize.ShloMosaic.TcCoe

namespace Cert.PreSpec

/-- A row over its root mean square, scaled by the weights `g`, then by one plus `sc`, and shifted by `sh`. -/
def hv (x g sc sh : Fin 1024 → EReal) (d : Fin 1024) : EReal :=
  x d * Ideal.rsqrt (Ideal.div (∑ k, x k * x k) (Ideal.ofBits FTy.f32 1149239296#32) + Ideal.ofBits FTy.f32 897988541#32) * g d * (1 + sc d) + sh d

/-- Which modulation a row takes: the context's for the first 256 rows, the latent's for the others. -/
def seg (r : Fin 4352) : Fin 2 := if r.val < 256 then 0 else 1
theorem seg_lo (r : Fin 4352) (h : r.val < 256) : seg r = 0 := if_pos h
theorem seg_hi (r : Fin 4352) (h : ¬ r.val < 256) : seg r = 1 := if_neg h

/-- How many rows are convolved together: the context's 256, or a latent tile's 64. -/
def len (r : ℕ) : ℕ := if r < 256 then 256 else 64
/-- A row's place among those. -/
def pos (r : ℕ) : ℕ := r % len r

/-- One tap: the row `k - 2` away, where that is one of the rows convolved together. -/
def tap (P : Fin 4352 → EReal) (w : EReal) (r : Fin 4352) (k : ℕ) : EReal :=
  if 2 ≤ pos r.val + k ∧ pos r.val + k < len r.val + 2 then P ⟨(r.val + k - 2) % 4352, Nat.mod_lt _ (by decide)⟩ * w else 0

/-- The five taps and the bias. -/
def cv (P : Fin 4352 → EReal) (w : Fin 5 → EReal) (bias : EReal) (r : Fin 4352) : EReal :=
  tap P (w 0) r 0 + tap P (w 1) r 1 + tap P (w 2) r 2 + tap P (w 3) r 3 + tap P (w 4) r 4 + bias

/-- The gate. -/
def gate (x : EReal) : EReal := x * Ideal.logistic x

variable (x0 : (⟨3, ![8, 4352, 1024]⟩ : Shape).Idx → EReal) (x1 : (⟨4, ![8, 2, 8, 1024]⟩ : Shape).Idx → EReal) (x2 : (⟨1, ![1024]⟩ : Shape).Idx → EReal)
  (x3 : (⟨2, ![1024, 2088]⟩ : Shape).Idx → EReal) (x4 : (⟨2, ![5, 512]⟩ : Shape).Idx → EReal) (x5 : (⟨1, ![512]⟩ : Shape).Idx → EReal)

/-- The projection of row `r` of batch `b` onto column `e` of the weights. -/
def pj (b : Fin 8) (r : Fin 4352) (e : Fin 2088) : EReal :=
  ∑ d : Fin 1024, hv (fun k => x0 (ix3 b r k)) (fun k => x2 (ix1 k)) (fun k => x1 (ix4 b (seg r) 1 k)) (fun k => x1 (ix4 b (seg r) 0 k)) d * x3 (ix2 d e)

/-- The convolved channel `e`. -/
def xb (b : Fin 8) (r : Fin 4352) (e : Fin 512) : EReal :=
  cv (fun r' => pj x0 x1 x2 x3 b r' ⟨1568 + e.val, by omega⟩) (fun k => x4 (ix2 k e)) (x5 (ix1 e)) r

/-- The result at a row and a column. -/
def out (b : Fin 8) (r : Fin 4352) (e : Fin 2176) : EReal :=
  if h : e.val < 1280 then pj x0 x1 x2 x3 b r ⟨e.val, by omega⟩
  else if h : e.val < 1536 then pj x0 x1 x2 x3 b r ⟨e.val + 32, by omega⟩
  else if h : e.val < 2048 then gate (xb x0 x1 x2 x3 x4 x5 b r ⟨e.val - 1536, by omega⟩)
  else if h : e.val < 2080 then pj x0 x1 x2 x3 b r ⟨e.val - 768, by omega⟩
  else if h : e.val < 2088 then pj x0 x1 x2 x3 b r ⟨e.val, by omega⟩
  else 0

end Cert.PreSpec
end
-- ==== Proof.PreIdealPay.lean ====
/- The projection kernel's payloads over the extended reals, element by element. -/
module

public import proofs.«01_k».proof.Proof.PreIdealFrame
public import proofs.«01_k».proof.Proof.PreSpec

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec

theorem pay5_at (v0 : Vec Ideal S1x256x1024 .f32) (v2 : Vec Ideal S1x1024 .f32) (v16 v22 : Vec Ideal S1x1x1x1024 .f32) (v27 : Vec Ideal S1024x2176 .bf16) (r : Fin 256) (e : Fin 2176) :
    k0_pay5 v0 v2 v16 v22 v27 (ix2 r e)
      = ∑ d : Fin 1024, hv (fun k => v0 (ix3 0 r k)) (fun k => v2 (ix2 0 k)) (fun k => v16 (ix4 0 0 0 k)) (fun k => v22 (ix4 0 0 0 k)) d * v27 (ix2 d e) := by
  unfold hv
  pointwise [k0_pay5]

theorem pay6_at (v0 : Vec Ideal S1x256x1024 .f32) (v2 : Vec Ideal S1x1024 .f32) (v16 v22 : Vec Ideal S1x1x1x1024 .f32) (v27 : Vec Ideal S1024x2176 .bf16) (r : Fin 256) (e : Fin 1536) :
    k0_pay6 v0 v2 v16 v22 v27 (ix3 0 r e) = k0_pay5 v0 v2 v16 v22 v27 (ix2 r (⟨e.val, by omega⟩ : Fin 2176)) := by
  unfold k0_pay6
  generalize k0_pay5 v0 v2 v16 v22 v27 = q
  pointwise

theorem pay7_at (q : FVec Ideal S256x2176 .f32) (r : Fin 256) (e : Fin 128) :
    k0_pay7 q (ix3 0 r e) = q (ix2 r (⟨2048 + e.val, by omega⟩ : Fin 2176)) := by
  pointwise [k0_pay7]

theorem pay9_at (q : FVec Ideal S256x2176 .f32) (r : Fin 256) (e : Fin 512) :
    k0_pay9 q (ix2 r e) = q (ix2 r (⟨1536 + e.val, by omega⟩ : Fin 2176)) := by
  pointwise [k0_pay9]

/-- Whether a place moved by `o` is one of `s` places. -/
def okw (p s o : BitVec 32) : BitVec 1 := IntOp.andi (IntOp.cmpi .sge (IntOp.addi p o) 0#32) (IntOp.cmpi .slt (IntOp.addi p o) s)
/-- How many places there are, as the kernel selects it. -/
def lenw (a : BitVec 32) : BitVec 32 := Scalar.select (Scalar.cmpi .eq a 0#32) 256#32 64#32

theorem pay10_at (a : BitVec 32) (r : Fin 256) :
    k0_pay10 a (ix2 r 0) = IntOp.andi (BitVec.ofNat 32 r.val) (IntOp.subi (lenw a) 1#32) := by
  unfold k0_pay10
  show _ = IntOp.andi (BitVec.ofNat 32 r.val) (IntOp.subi (Scalar.select (Scalar.cmpi .eq a 0#32) 256#32 64#32) 1#32)
  generalize Scalar.select (Scalar.cmpi .eq a 0#32) 256#32 64#32 = s
  pointwise
  rfl

/-- One masked tap. -/
theorem term_at (b : IVec S256x1 1) (x : FVec Ideal S256x512 .f32) (w : Vec Ideal S1x512 .f32) (r : Fin 256) (e : Fin 512) :
    mulf (select (broadcastTo S256x512 (shapeCast S256x1 b shapeCasts_S256x1_S256x1) broadcasts_S256x1_S256x512) x (broadcast S256x512 (FloatOps.ofBits FTy.f32 0#32 : Ideal FTy.f32)))
        (broadcastTo S256x512 (shapeCast S1x512 w shapeCasts_S1x512_S1x512) broadcasts_S1x512_S256x512) (ix2 r e)
      = Scalar.select (b (ix2 r 0)) (x (ix2 r e) * w (ix2 0 e)) 0 := by
  pointwise

theorem base_at (w : Vec Ideal S1x512 .f32) (r : Fin 256) (e : Fin 512) :
    addf (broadcast S256x512 (FloatOps.ofBits FTy.f32 0#32 : Ideal FTy.f32)) (broadcastTo S256x512 (shapeCast S1x512 w shapeCasts_S1x512_S1x512) broadcasts_S1x512_S256x512) (ix2 r e)
      = w (ix2 0 e) := by
  pointwise

theorem rot1_at (x : FVec Ideal S256x512 .f32) (r : Fin 256) (e : Fin 512) :
    dynamicRotate 0 1#32 none x rotates_S256x512_d0 (ix2 r e) = x (ix2 (⟨(r.val + 256 - 1) % 256, Nat.mod_lt _ (by decide)⟩ : Fin 256) e) := by
  pointwise

theorem rot2_at (x : FVec Ideal S256x512 .f32) (r : Fin 256) (e : Fin 512) :
    dynamicRotate 0 2#32 none x rotates_S256x512_d0 (ix2 r e) = x (ix2 (⟨(r.val + 256 - 2) % 256, Nat.mod_lt _ (by decide)⟩ : Fin 256) e) := by
  pointwise

theorem pay11_at (a : BitVec 32) (v29 : FVec Ideal S256x2176 .f32) (v50 v68 : Vec Ideal S1x512 .f32) (r : Fin 256) (e : Fin 512) :
    k0_pay11 a v29 v50 v68 (ix2 r e)
      = v50 (ix2 0 e) + Scalar.select (okw (k0_pay10 a (ix2 r 0)) (lenw a) 4294967294#32) (k0_pay9 v29 (ix2 (⟨(r.val + 256 - 2) % 256, Nat.mod_lt _ (by decide)⟩ : Fin 256) e) * v68 (ix2 0 e)) 0 := by
  unfold k0_pay11
  generalize k0_pay9 v29 = v42
  generalize k0_pay10 a = q
  generalize hb : (andi _ _ : IVec S256x1 1) = b
  have hb' : b (ix2 r 0) = okw (q (ix2 r 0)) (lenw a) 4294967294#32 := by rw [← hb]; rfl
  rw [← hb', ← rot2_at v42 r e, ← term_at b _ v68 r e, ← base_at v50 r e]
  rfl

theorem pay12_at (v42 : FVec Ideal S256x512 .f32) (s : BitVec 32) (q : IVec S256x1 32) (v72 : FVec Ideal S256x512 .f32) (v87 v105 : Vec Ideal S1x512 .f32) (r : Fin 256) (e : Fin 512) :
    k0_pay12 v42 s q v72 v87 v105 (ix2 r e)
      = v72 (ix2 r e) + Scalar.select (okw (q (ix2 r 0)) s 4294967295#32) (v42 (ix2 (⟨(r.val + 256 - 1) % 256, Nat.mod_lt _ (by decide)⟩ : Fin 256) e) * v87 (ix2 0 e)) 0
        + Scalar.select (okw (q (ix2 r 0)) s 0#32) (v42 (ix2 r e) * v105 (ix2 0 e)) 0 := by
  unfold k0_pay12
  generalize hb : (andi (cmpi _ (addi q (broadcast S256x1 4294967295#32)) _) _ : IVec S256x1 1) = b
  generalize hd : (andi _ _ : IVec S256x1 1) = d
  have hb' : b (ix2 r 0) = okw (q (ix2 r 0)) s 4294967295#32 := by rw [← hb]; rfl
  have hd' : d (ix2 r 0) = okw (q (ix2 r 0)) s 0#32 := by rw [← hd]; rfl
  rw [← hb', ← hd', ← rot1_at v42 r e, ← term_at b _ v87 r e, ← term_at d _ v105 r e]
  rfl

theorem pay16_at (v42 : FVec Ideal S256x512 .f32) (s : BitVec 32) (q : IVec S256x1 32) (v109 : FVec Ideal S256x512 .f32) (v124 v143 : Vec Ideal S1x512 .f32) (r : Fin 256) (e : Fin 512) :
    k0_pay16 v42 s q v109 (k0_pay13 v42) (k0_pay14 q) k0_pay15 v124 v143 (ix3 0 r e)
      = gate (v109 (ix2 r e) + Scalar.select (okw (q (ix2 r 0)) s 1#32) (v42 (ix2 (⟨(r.val + 256 - 255) % 256, Nat.mod_lt _ (by decide)⟩ : Fin 256) e) * v124 (ix2 0 e)) 0
        + Scalar.select (okw (q (ix2 r 0)) s 2#32) (v42 (ix2 (⟨(r.val + 256 - 254) % 256, Nat.mod_lt _ (by decide)⟩ : Fin 256) e) * v143 (ix2 0 e)) 0) := by
  unfold gate okw
  pointwise [k0_pay16, k0_pay13, k0_pay14, k0_pay15]

end Cert.PreIdeal.Hand
end
-- ==== Proof.PreIdealMask.lean ====
/- The kernel's masks in numbers. -/
module

public import proofs.«01_k».proof.Proof.PreIdealPay

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec

/-- The five moves. -/
def mv : Fin 5 → BitVec 32
  | 0 => 4294967294#32 | 1 => 4294967295#32 | 2 => 0#32 | 3 => 1#32 | 4 => 2#32

theorem ok256 : ∀ (r : Fin 256) (k : Fin 5), okw (IntOp.andi (BitVec.ofNat 32 r.val) (IntOp.subi 256#32 1#32)) 256#32 (mv k) = 1#1 ↔ (2 ≤ r.val % 256 + k.val ∧ r.val % 256 + k.val < 256 + 2) := by
  decide +kernel
theorem ok64 : ∀ (r : Fin 256) (k : Fin 5), okw (IntOp.andi (BitVec.ofNat 32 r.val) (IntOp.subi 64#32 1#32)) 64#32 (mv k) = 1#1 ↔ (2 ≤ r.val % 64 + k.val ∧ r.val % 64 + k.val < 64 + 2) := by
  decide +kernel
theorem lenw_at : ∀ j : Fin 17, lenw (BitVec.ofNat 32 j.val) = if j.val = 0 then 256#32 else 64#32 := by
  decide +kernel

/-- The mask of tap `k` at row `r` of tile `j`. -/
theorem ok_at (j : Fin 17) (r : Fin 256) (R : Fin 4352) (hR : R.val = 256 * j.val + r.val) (k : Fin 5) :
    okw (k0_pay10 (BitVec.ofNat 32 j.val) (ix2 r 0)) (lenw (BitVec.ofNat 32 j.val)) (mv k) = 1#1 ↔ (2 ≤ pos R.val + k.val ∧ pos R.val + k.val < len R.val + 2) := by
  rw [pay10_at, lenw_at]
  have hr := r.isLt
  unfold pos len
  by_cases h : j.val = 0
  · have h0 : R.val = r.val := by omega
    rw [if_pos h, if_pos (show R.val < 256 by omega), h0]
    exact ok256 r k
  · have h0 : R.val % 64 = r.val % 64 := by omega
    rw [if_neg h, if_neg (show ¬ R.val < 256 by omega), h0]
    exact ok64 r k

theorem select_one (x y : EReal) : Scalar.select 1#1 x y = x := rfl
theorem select_zero (x y : EReal) : Scalar.select 0#1 x y = y := rfl

theorem select_iff (c : BitVec 1) (P : Prop) [Decidable P] (h : c = 1#1 ↔ P) (x y : EReal) : Scalar.select c x y = if P then x else y := by
  by_cases hp : P
  · rw [h.mpr hp, if_pos hp]; rfl
  · rw [if_neg hp]
    exact if_neg fun e => hp (h.mp e)

/-- A tap as the kernel takes it. -/
theorem tap_at (P : Fin 4352 → EReal) (w : EReal) (j : Fin 17) (r : Fin 256) (R : Fin 4352) (hR : R.val = 256 * j.val + r.val) (k : Fin 5) (o : BitVec 32) (ho : mv k = o) (q : Fin 256 → EReal)
    (hq : ∀ (r' : Fin 256) (R' : Fin 4352), R'.val = 256 * j.val + r'.val → q r' = P R') (s : ℕ) (hs : s + k.val = 2 ∨ s + k.val = 258) :
    Scalar.select (okw (k0_pay10 (BitVec.ofNat 32 j.val) (ix2 r 0)) (lenw (BitVec.ofNat 32 j.val)) o) (q (⟨(r.val + 256 - s) % 256, Nat.mod_lt _ (by decide)⟩ : Fin 256) * w) 0 = tap P w R k.val := by
  subst ho
  rw [select_iff _ _ (ok_at j r R hR k)]
  unfold tap
  by_cases h : 2 ≤ pos R.val + k.val ∧ pos R.val + k.val < len R.val + 2
  · rw [if_pos h, if_pos h]
    refine congrArg (fun z : EReal => z * w) (hq _ _ ?_)
    show (R.val + k.val - 2) % 4352 = 256 * j.val + (r.val + 256 - s) % 256
    have hr := r.isLt
    have hj := j.isLt
    have hk := k.isLt
    unfold pos len at h
    by_cases h0 : R.val < 256
    · rw [if_pos h0] at h; omega
    · rw [if_neg h0] at h; omega
  · rw [if_neg h, if_neg h]

end Cert.PreIdeal.Hand
end
-- ==== Proof.PreIdealVals.lean ====
/- The projection kernel's stored pieces are the projection's. -/
module

public import proofs.«01_k».proof.Proof.PreIdealMask

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec

/-- The weights in the kernel's order of columns. -/
def wcol (x3 : (⟨2, ![1024, 2088]⟩ : Shape).Idx → EReal) (d : Fin 1024) (e : Fin 2176) : EReal :=
  if h : e.val < 1280 then x3 (ix2 d (⟨e.val, by omega⟩ : Fin 2088))
    else if h : e.val < 2048 then x3 (ix2 d (⟨e.val + 32, by omega⟩ : Fin 2088))
    else if h : e.val < 2080 then x3 (ix2 d (⟨e.val - 768, by omega⟩ : Fin 2088))
    else if h : e.val < 2088 then x3 (ix2 d (⟨e.val, by omega⟩ : Fin 2088))
    else (0 : EReal)

/-- What the blocks of tile `j` of batch `b` hold. -/
structure Blk (x0 : (⟨3, ![8, 4352, 1024]⟩ : Shape).Idx → EReal) (x1 : (⟨4, ![8, 2, 8, 1024]⟩ : Shape).Idx → EReal) (x2 : (⟨1, ![1024]⟩ : Shape).Idx → EReal)
    (x3 : (⟨2, ![1024, 2088]⟩ : Shape).Idx → EReal) (x4 : (⟨2, ![5, 512]⟩ : Shape).Idx → EReal) (x5 : (⟨1, ![512]⟩ : Shape).Idx → EReal) (b : Fin 8) (j : Fin 17)
    (v0 : Vec Ideal S1x256x1024 .f32) (v2 : Vec Ideal S1x1024 .f32) (v16 v22 : Vec Ideal S1x1x1x1024 .f32) (v27 : Vec Ideal S1024x2176 .bf16)
    (v50 w0 w1 w2 w3 w4 : Vec Ideal S1x512 .f32) : Prop where
  h0 : ∀ (r : Fin 256) (R : Fin 4352), R.val = 256 * j.val + r.val → ∀ k : Fin 1024, v0 (ix3 0 r k) = x0 (ix3 b R k)
  h2 : ∀ k : Fin 1024, v2 (ix2 0 k) = x2 (ix1 k)
  h16 : ∀ (r : Fin 256) (R : Fin 4352), R.val = 256 * j.val + r.val → ∀ k : Fin 1024, v16 (ix4 0 0 0 k) = x1 (ix4 b (seg R) 1 k)
  h22 : ∀ (r : Fin 256) (R : Fin 4352), R.val = 256 * j.val + r.val → ∀ k : Fin 1024, v22 (ix4 0 0 0 k) = x1 (ix4 b (seg R) 0 k)
  h27 : ∀ (d : Fin 1024) (e : Fin 2176), v27 (ix2 d e) = wcol x3 d e
  h50 : ∀ e : Fin 512, v50 (ix2 0 e) = x5 (ix1 e)
  g0 : ∀ e : Fin 512, w0 (ix2 0 e) = x4 (ix2 0 e)
  g1 : ∀ e : Fin 512, w1 (ix2 0 e) = x4 (ix2 1 e)
  g2 : ∀ e : Fin 512, w2 (ix2 0 e) = x4 (ix2 2 e)
  g3 : ∀ e : Fin 512, w3 (ix2 0 e) = x4 (ix2 3 e)
  g4 : ∀ e : Fin 512, w4 (ix2 0 e) = x4 (ix2 4 e)

section
variable {x0 : (⟨3, ![8, 4352, 1024]⟩ : Shape).Idx → EReal} {x1 : (⟨4, ![8, 2, 8, 1024]⟩ : Shape).Idx → EReal} {x2 : (⟨1, ![1024]⟩ : Shape).Idx → EReal}
    {x3 : (⟨2, ![1024, 2088]⟩ : Shape).Idx → EReal} {x4 : (⟨2, ![5, 512]⟩ : Shape).Idx → EReal} {x5 : (⟨1, ![512]⟩ : Shape).Idx → EReal} {b : Fin 8} {j : Fin 17}
    {v0 : Vec Ideal S1x256x1024 .f32} {v2 : Vec Ideal S1x1024 .f32} {v16 v22 : Vec Ideal S1x1x1x1024 .f32} {v27 : Vec Ideal S1024x2176 .bf16}
    {v50 w0 w1 w2 w3 w4 : Vec Ideal S1x512 .f32} (H : Blk x0 x1 x2 x3 x4 x5 b j v0 v2 v16 v22 v27 v50 w0 w1 w2 w3 w4)
include H

theorem q_sum (r : Fin 256) (R : Fin 4352) (hR : R.val = 256 * j.val + r.val) (e : Fin 2176) :
    k0_pay5 v0 v2 v16 v22 v27 (ix2 r e) = ∑ d : Fin 1024, hv (fun k => x0 (ix3 b R k)) (fun k => x2 (ix1 k)) (fun k => x1 (ix4 b (seg R) 1 k)) (fun k => x1 (ix4 b (seg R) 0 k)) d * wcol x3 d e := by
  rw [pay5_at, funext (H.h0 r R hR), funext H.h2, funext (H.h16 r R hR), funext (H.h22 r R hR)]
  exact Finset.sum_congr rfl fun d _ => congrArg₂ (fun p q : EReal => p * q) rfl (H.h27 d e)

theorem q_at (r : Fin 256) (R : Fin 4352) (hR : R.val = 256 * j.val + r.val) (e : Fin 2176) (e' : Fin 2088)
    (he : (e.val < 1280 ∧ e'.val = e.val) ∨ (1280 ≤ e.val ∧ e.val < 2048 ∧ e'.val = e.val + 32) ∨ (2048 ≤ e.val ∧ e.val < 2080 ∧ e'.val = e.val - 768) ∨ (2080 ≤ e.val ∧ e.val < 2088 ∧ e'.val = e.val)) :
    k0_pay5 v0 v2 v16 v22 v27 (ix2 r e) = pj x0 x1 x2 x3 b R e' := by
  rw [q_sum H r R hR e]
  refine Finset.sum_congr rfl fun d _ => congrArg₂ (fun p q : EReal => p * q) rfl ?_
  unfold wcol
  rcases he with h | h | h | h
  · rw [dif_pos h.1]
    exact congrArg (fun k => x3 (ix2 d k)) (Fin.ext h.2.symm)
  · rw [dif_neg (by omega), dif_pos h.2.1]
    exact congrArg (fun k => x3 (ix2 d k)) (Fin.ext h.2.2.symm)
  · rw [dif_neg (by omega), dif_neg (by omega), dif_pos h.2.1]
    exact congrArg (fun k => x3 (ix2 d k)) (Fin.ext h.2.2.symm)
  · rw [dif_neg (by omega), dif_neg (by omega), dif_neg (by omega), dif_pos h.2.1]
    exact congrArg (fun k => x3 (ix2 d k)) (Fin.ext h.2.2.symm)

theorem q_zero (r : Fin 256) (R : Fin 4352) (hR : R.val = 256 * j.val + r.val) (e : Fin 2176) (he : 2088 ≤ e.val) :
    k0_pay5 v0 v2 v16 v22 v27 (ix2 r e) = (0 : EReal) := by
  rw [q_sum H r R hR e]
  refine Finset.sum_eq_zero fun d _ => ?_
  unfold wcol
  rw [dif_neg (by omega), dif_neg (by omega), dif_neg (by omega), dif_neg (by omega), mul_zero]

theorem first_at (r : Fin 256) (R : Fin 4352) (hR : R.val = 256 * j.val + r.val) (e : Fin 1536) (E : Fin 2176) (hE : E.val = e.val) :
    k0_pay6 v0 v2 v16 v22 v27 (ix3 0 r e) = out x0 x1 x2 x3 x4 x5 b R E := by
  rw [pay6_at]
  have he := e.isLt
  unfold out
  by_cases h : E.val < 1280
  · rw [dif_pos h]
    exact q_at H r R hR _ _ (.inl ⟨by show e.val < 1280; omega, by show E.val = e.val; omega⟩)
  · rw [dif_neg h, dif_pos (show E.val < 1536 by omega)]
    exact q_at H r R hR _ _ (.inr (.inl ⟨by show 1280 ≤ e.val; omega, by show e.val < 2048; omega, by show E.val + 32 = e.val + 32; omega⟩))

theorem last_at (r : Fin 256) (R : Fin 4352) (hR : R.val = 256 * j.val + r.val) (e : Fin 128) (E : Fin 2176) (hE : E.val = 2048 + e.val) :
    k0_pay7 (k0_pay5 v0 v2 v16 v22 v27) (ix3 0 r e) = out x0 x1 x2 x3 x4 x5 b R E := by
  rw [pay7_at]
  have he := e.isLt
  unfold out
  rw [dif_neg (show ¬ E.val < 1280 by omega), dif_neg (show ¬ E.val < 1536 by omega), dif_neg (show ¬ E.val < 2048 by omega)]
  by_cases h : E.val < 2080
  · rw [dif_pos h]
    exact q_at H r R hR _ _ (.inr (.inr (.inl ⟨by show 2048 ≤ 2048 + e.val; omega, by show 2048 + e.val < 2080; omega, by show E.val - 768 = 2048 + e.val - 768; omega⟩)))
  · rw [dif_neg h]
    by_cases h' : E.val < 2088
    · rw [dif_pos h']
      exact q_at H r R hR _ _ (.inr (.inr (.inr ⟨by show 2080 ≤ 2048 + e.val; omega, by show 2048 + e.val < 2088; omega, by show E.val = 2048 + e.val; omega⟩)))
    · rw [dif_neg h']
      exact q_zero H r R hR _ (by show 2088 ≤ 2048 + e.val; omega)

theorem conv_at (r : Fin 256) (R : Fin 4352) (hR : R.val = 256 * j.val + r.val) (e : Fin 512) (E : Fin 2176) (hE : E.val = 1536 + e.val) (a : BitVec 32) (ha : a = BitVec.ofNat 32 j.val) :
    k0_pay16 (k0_pay9 (k0_pay5 v0 v2 v16 v22 v27)) (lenw a) (k0_pay10 a)
        (k0_pay12 (k0_pay9 (k0_pay5 v0 v2 v16 v22 v27)) (lenw a) (k0_pay10 a) (k0_pay11 a (k0_pay5 v0 v2 v16 v22 v27) v50 w0) w1 w2)
        (k0_pay13 (k0_pay9 (k0_pay5 v0 v2 v16 v22 v27))) (k0_pay14 (k0_pay10 a)) k0_pay15 w3 w4 (ix3 0 r e)
      = out x0 x1 x2 x3 x4 x5 b R E := by
  subst ha
  have he := e.isLt
  rw [pay16_at, pay12_at, pay11_at]
  have hq : ∀ (r' : Fin 256) (R' : Fin 4352), R'.val = 256 * j.val + r'.val →
      k0_pay9 (k0_pay5 v0 v2 v16 v22 v27) (ix2 r' e) = pj x0 x1 x2 x3 b R' ⟨1568 + e.val, by omega⟩ := fun r' R' h' => by
    rw [pay9_at]
    exact q_at H r' R' h' _ _ (.inr (.inl ⟨by show 1280 ≤ 1536 + e.val; omega, by show 1536 + e.val < 2048; omega, by show 1568 + e.val = 1536 + e.val + 32; omega⟩))
  have e2 : (⟨(r.val + 256 - 0) % 256, Nat.mod_lt _ (by decide)⟩ : Fin 256) = r := Fin.ext (by show (r.val + 256 - 0) % 256 = r.val; omega)
  have t0 := tap_at (fun r' => pj x0 x1 x2 x3 b r' ⟨1568 + e.val, by omega⟩) (w0 (ix2 0 e)) j r R hR 0 4294967294#32 rfl (fun r' => k0_pay9 (k0_pay5 v0 v2 v16 v22 v27) (ix2 r' e)) hq 2 (.inl rfl)
  have t1 := tap_at (fun r' => pj x0 x1 x2 x3 b r' ⟨1568 + e.val, by omega⟩) (w1 (ix2 0 e)) j r R hR 1 4294967295#32 rfl (fun r' => k0_pay9 (k0_pay5 v0 v2 v16 v22 v27) (ix2 r' e)) hq 1 (.inl rfl)
  have t2 := tap_at (fun r' => pj x0 x1 x2 x3 b r' ⟨1568 + e.val, by omega⟩) (w2 (ix2 0 e)) j r R hR 2 0#32 rfl (fun r' => k0_pay9 (k0_pay5 v0 v2 v16 v22 v27) (ix2 r' e)) hq 0 (.inl rfl)
  have t3 := tap_at (fun r' => pj x0 x1 x2 x3 b r' ⟨1568 + e.val, by omega⟩) (w3 (ix2 0 e)) j r R hR 3 1#32 rfl (fun r' => k0_pay9 (k0_pay5 v0 v2 v16 v22 v27) (ix2 r' e)) hq 255 (.inr rfl)
  have t4 := tap_at (fun r' => pj x0 x1 x2 x3 b r' ⟨1568 + e.val, by omega⟩) (w4 (ix2 0 e)) j r R hR 4 2#32 rfl (fun r' => k0_pay9 (k0_pay5 v0 v2 v16 v22 v27) (ix2 r' e)) hq 254 (.inr rfl)
  rw [e2] at t2
  rw [H.g0] at t0
  rw [H.g1] at t1
  rw [H.g2] at t2
  rw [H.g3] at t3
  rw [H.g4] at t4
  rw [H.h50, H.g0, H.g1, H.g2, H.g3, H.g4]
  unfold out
  rw [dif_neg (show ¬ E.val < 1280 by omega), dif_neg (show ¬ E.val < 1536 by omega), dif_pos (show E.val < 2048 by omega)]
  refine congrArg gate ?_
  have ee : (⟨E.val - 1536, by omega⟩ : Fin 512) = e := Fin.ext (by show E.val - 1536 = e.val; omega)
  rw [ee]
  unfold xb cv
  refine (congrArg₂ (fun p q : EReal => p + q) (congrArg₂ (fun p q : EReal => p + q) (congrArg₂ (fun p q : EReal => p + q) (congrArg₂ (fun p q : EReal => p + q) (congrArg (fun q : EReal => x5 (ix1 e) + q) t0) t1) t2) t3) t4).trans ?_
  show x5 (ix1 e) + tap _ _ R 0 + tap _ _ R 1 + tap _ _ R 2 + tap _ _ R 3 + tap _ _ R 4 = tap _ _ R 0 + tap _ _ R 1 + tap _ _ R 2 + tap _ _ R 3 + tap _ _ R 4 + x5 (ix1 e)
  rw [add_comm _ (x5 (ix1 e))]
  simp only [add_assoc]

end

end Cert.PreIdeal.Hand
end
-- ==== Proof.PreIdealHost.lean ====
/- What the host hands the projection kernel. -/
module

public import proofs.«01_k».proof.Proof.PreIdealFrame
public import proofs.«01_k».proof.Proof.PreSpec

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec
variable (m : (ℓ : Loc nD τ sig) → Buf (Elt Ideal) ℓ)

theorem sitofp_0 : FloatOps.sitofp (F := Ideal) FTy.f32 (0#32) = (0 : EReal) := by
  show (((0#32 : BitVec 32).toInt : ℝ) : EReal) = 0
  simp

theorem V_g (c : Dev nD) (d : Fin 1024) : V m c main_v0 (ix2 0 d) = m ((c : Thread nD τ).loc main_arg2) (ix1 d) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
theorem V_cb (c : Dev nD) (e : Fin 512) : V m c main_v16 (ix2 0 e) = m ((c : Thread nD τ).loc main_arg5) (ix1 e) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
theorem V_cw (c : Dev nD) (k : Fin 8) (hk : k.val < 5) (e : Fin 512) : V m c main_v15 (ix2 k e) = m ((c : Thread nD τ).loc main_arg4) (ix2 (⟨k.val, hk⟩ : Fin 5) e) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  rw [dif_pos hk]

/-- Three strips side by side. -/
theorem cat3 (W : FVec Ideal S1024x2088 .f32) (d : Fin 1024) (a0 : FVec Ideal S1024x32 .f32) (a1 : FVec Ideal S1024x8 .f32) (a2 : FVec Ideal S1024x88 .f32)
    (t0 : ∀ k : Fin 32, a0 (ix2 d k) = W (ix2 d (⟨1280 + k.val, by omega⟩ : Fin 2088)))
    (t1 : ∀ k : Fin 8, a1 (ix2 d k) = W (ix2 d (⟨2080 + k.val, by omega⟩ : Fin 2088)))
    (t2 : ∀ k : Fin 88, a2 (ix2 d k) = (0 : EReal)) (k : Fin 128) :
    concatenate S1024x128 1 [⟨S1024x32, a0⟩, ⟨S1024x8, a1⟩, ⟨S1024x88, a2⟩] concatenates_S1024x32_S1024x8_S1024x88_S1024x128_d1 (ix2 d k)
      = if h : k.val < 32 then W (ix2 d (⟨1280 + k.val, by omega⟩ : Fin 2088)) else if h : k.val - 32 < 8 then W (ix2 d (⟨2080 + (k.val - 32), by omega⟩ : Fin 2088)) else (0 : EReal) := by
  pointwise
  simp only [t0, t1, t2]

/-- Nine strips side by side. -/
theorem cat9 (W : FVec Ideal S1024x2088 .f32) (d : Fin 1024)
    (a0 : FVec Ideal S1024x256 .f32)
    (a1 : FVec Ideal S1024x256 .f32)
    (a2 : FVec Ideal S1024x128 .f32)
    (a3 : FVec Ideal S1024x128 .f32)
    (a4 : FVec Ideal S1024x256 .f32)
    (a5 : FVec Ideal S1024x256 .f32)
    (a6 : FVec Ideal S1024x256 .f32)
    (a7 : FVec Ideal S1024x512 .f32)
    (a8 : FVec Ideal S1024x128 .f32)
    (u0 : ∀ k : Fin 256, a0 (ix2 d k) = W (ix2 d (⟨0 + k.val, by omega⟩ : Fin 2088)))
    (u1 : ∀ k : Fin 256, a1 (ix2 d k) = W (ix2 d (⟨256 + k.val, by omega⟩ : Fin 2088)))
    (u2 : ∀ k : Fin 128, a2 (ix2 d k) = W (ix2 d (⟨512 + k.val, by omega⟩ : Fin 2088)))
    (u3 : ∀ k : Fin 128, a3 (ix2 d k) = W (ix2 d (⟨640 + k.val, by omega⟩ : Fin 2088)))
    (u4 : ∀ k : Fin 256, a4 (ix2 d k) = W (ix2 d (⟨768 + k.val, by omega⟩ : Fin 2088)))
    (u5 : ∀ k : Fin 256, a5 (ix2 d k) = W (ix2 d (⟨1024 + k.val, by omega⟩ : Fin 2088)))
    (u6 : ∀ k : Fin 256, a6 (ix2 d k) = W (ix2 d (⟨1312 + k.val, by omega⟩ : Fin 2088)))
    (u7 : ∀ k : Fin 512, a7 (ix2 d k) = W (ix2 d (⟨1568 + k.val, by omega⟩ : Fin 2088)))
    (u8 : ∀ k : Fin 128, a8 (ix2 d k) = if h : k.val < 32 then W (ix2 d (⟨1280 + k.val, by omega⟩ : Fin 2088)) else if h : k.val - 32 < 8 then W (ix2 d (⟨2080 + (k.val - 32), by omega⟩ : Fin 2088)) else (0 : EReal)) (e : Fin 2176) :
    (truncf FTy.bf16 (concatenate S1024x2176 1 [⟨S1024x256, a0⟩, ⟨S1024x256, a1⟩, ⟨S1024x128, a2⟩, ⟨S1024x128, a3⟩, ⟨S1024x256, a4⟩, ⟨S1024x256, a5⟩, ⟨S1024x256, a6⟩, ⟨S1024x512, a7⟩, ⟨S1024x128, a8⟩] concatenates_S1024x256_S1024x256_S1024x128_S1024x128_S1024x256_S1024x256_S1024x256_S1024x512_S1024x128_S1024x2176_d1) bitsLt_bf16_f32 : FVec Ideal S1024x2176 .bf16) (ix2 d e)
      = if h : e.val < 1280 then W (ix2 d (⟨e.val, by omega⟩ : Fin 2088))
    else if h : e.val < 2048 then W (ix2 d (⟨e.val + 32, by omega⟩ : Fin 2088))
    else if h : e.val < 2080 then W (ix2 d (⟨e.val - 768, by omega⟩ : Fin 2088))
    else if h : e.val < 2088 then W (ix2 d (⟨e.val, by omega⟩ : Fin 2088))
    else (0 : EReal) := by
  pointwise
  simp only [u0, u1, u2, u3, u4, u5, u6, u7, u8]
  have he := e.isLt
  by_cases c0 : e.val < 256
  · rw [dif_pos c0, dif_pos (show e.val < 1280 by omega)]
    refine congrArg (fun k => W (ix2 d k)) (Fin.ext ?_)
    show 0 + (e.val) = e.val
    omega
  rw [dif_neg c0]
  by_cases c1 : e.val - 256 < 256
  · rw [dif_pos c1, dif_pos (show e.val < 1280 by omega)]
    refine congrArg (fun k => W (ix2 d k)) (Fin.ext ?_)
    show 256 + (e.val - 256) = e.val
    omega
  rw [dif_neg c1]
  by_cases c2 : e.val - 256 - 256 < 128
  · rw [dif_pos c2, dif_pos (show e.val < 1280 by omega)]
    refine congrArg (fun k => W (ix2 d k)) (Fin.ext ?_)
    show 512 + (e.val - 256 - 256) = e.val
    omega
  rw [dif_neg c2]
  by_cases c3 : e.val - 256 - 256 - 128 < 128
  · rw [dif_pos c3, dif_pos (show e.val < 1280 by omega)]
    refine congrArg (fun k => W (ix2 d k)) (Fin.ext ?_)
    show 640 + (e.val - 256 - 256 - 128) = e.val
    omega
  rw [dif_neg c3]
  by_cases c4 : e.val - 256 - 256 - 128 - 128 < 256
  · rw [dif_pos c4, dif_pos (show e.val < 1280 by omega)]
    refine congrArg (fun k => W (ix2 d k)) (Fin.ext ?_)
    show 768 + (e.val - 256 - 256 - 128 - 128) = e.val
    omega
  rw [dif_neg c4]
  by_cases c5 : e.val - 256 - 256 - 128 - 128 - 256 < 256
  · rw [dif_pos c5, dif_pos (show e.val < 1280 by omega)]
    refine congrArg (fun k => W (ix2 d k)) (Fin.ext ?_)
    show 1024 + (e.val - 256 - 256 - 128 - 128 - 256) = e.val
    omega
  rw [dif_neg c5]
  by_cases c6 : e.val - 256 - 256 - 128 - 128 - 256 - 256 < 256
  · rw [dif_pos c6, dif_neg (show ¬ e.val < 1280 by omega), dif_pos (show e.val < 2048 by omega)]
    refine congrArg (fun k => W (ix2 d k)) (Fin.ext ?_)
    show 1312 + (e.val - 256 - 256 - 128 - 128 - 256 - 256) = e.val + 32
    omega
  rw [dif_neg c6]
  by_cases c7 : e.val - 256 - 256 - 128 - 128 - 256 - 256 - 256 < 512
  · rw [dif_pos c7, dif_neg (show ¬ e.val < 1280 by omega), dif_pos (show e.val < 2048 by omega)]
    refine congrArg (fun k => W (ix2 d k)) (Fin.ext ?_)
    show 1568 + (e.val - 256 - 256 - 128 - 128 - 256 - 256 - 256) = e.val + 32
    omega
  rw [dif_neg c7]
  rw [dif_neg (show ¬ e.val < 1280 by omega), dif_neg (show ¬ e.val < 2048 by omega)]
  by_cases c8 : e.val - 256 - 256 - 128 - 128 - 256 - 256 - 256 - 512 < 32
  · rw [dif_pos c8, dif_pos (show e.val < 2080 by omega)]
    refine congrArg (fun k => W (ix2 d k)) (Fin.ext ?_)
    show 1280 + (e.val - 256 - 256 - 128 - 128 - 256 - 256 - 256 - 512) = e.val - 768
    omega
  rw [dif_neg c8, dif_neg (show ¬ e.val < 2080 by omega)]
  by_cases c9 : e.val - 256 - 256 - 128 - 128 - 256 - 256 - 256 - 512 - 32 < 8
  · rw [dif_pos c9, dif_pos (show e.val < 2088 by omega)]
    refine congrArg (fun k => W (ix2 d k)) (Fin.ext ?_)
    show 2080 + (e.val - 256 - 256 - 128 - 128 - 256 - 256 - 256 - 512 - 32) = e.val
    omega
  rw [dif_neg c9, dif_neg (show ¬ e.val < 2088 by omega)]

/-- The weights as the host lays them out. -/
theorem V_w (c : Dev nD) (d : Fin 1024) (e : Fin 2176) (W : FVec Ideal S1024x2088 .f32) (hW : W = m ((c : Thread nD τ).loc main_arg3)) : (V m c main_v14 : FVec Ideal S1024x2176 .bf16) (ix2 d e) =
    if h : e.val < 1280 then W (ix2 d (⟨e.val, by omega⟩ : Fin 2088))
    else if h : e.val < 2048 then W (ix2 d (⟨e.val + 32, by omega⟩ : Fin 2088))
    else if h : e.val < 2080 then W (ix2 d (⟨e.val - 768, by omega⟩ : Fin 2088))
    else if h : e.val < 2088 then W (ix2 d (⟨e.val, by omega⟩ : Fin 2088))
    else (0 : EReal) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_simp
  refine cat9 W d _ _ _ _ _ _ _ _ _ ?_ ?_ ?_ ?_ ?_ ?_ ?_ ?_ ?_ e
  · intro k
    rw [hW]
    change StableHlo.upto _ _ 14 (Proc.devRef .tc main_v1) (ix2 d k) = _
    after_reads_at
  · intro k
    rw [hW]
    change StableHlo.upto _ _ 14 (Proc.devRef .tc main_v2) (ix2 d k) = _
    after_reads_at
  · intro k
    rw [hW]
    change StableHlo.upto _ _ 14 (Proc.devRef .tc main_v3) (ix2 d k) = _
    after_reads_at
  · intro k
    rw [hW]
    change StableHlo.upto _ _ 14 (Proc.devRef .tc main_v4) (ix2 d k) = _
    after_reads_at
  · intro k
    rw [hW]
    change StableHlo.upto _ _ 14 (Proc.devRef .tc main_v5) (ix2 d k) = _
    after_reads_at
  · intro k
    rw [hW]
    change StableHlo.upto _ _ 14 (Proc.devRef .tc main_v6) (ix2 d k) = _
    after_reads_at
  · intro k
    rw [hW]
    change StableHlo.upto _ _ 14 (Proc.devRef .tc main_v8) (ix2 d k) = _
    after_reads_at
  · intro k
    rw [hW]
    change StableHlo.upto _ _ 14 (Proc.devRef .tc main_v9) (ix2 d k) = _
    after_reads_at
  · intro k
    change StableHlo.upto _ _ 14 (Proc.devRef .tc main_v12) (ix2 d k) = _
    after_reads_simp
    refine cat3 W d _ _ _ ?_ ?_ ?_ k
    · intro k
      rw [hW]
      change HloOp.result _ _ (Proc.devRef .tc main_v7) (ix2 d k) = _
      after_reads_at
    · intro k
      rw [hW]
      change HloOp.result _ _ (Proc.devRef .tc main_v10) (ix2 d k) = _
      after_reads_at
    · intro k
      change HloOp.result _ _ (Proc.devRef .tc main_v11) (ix2 d k) = _
      after_reads_at

end Cert.PreIdeal.Hand
end
-- ==== Proof.PreIdealBlocks.lean ====
/- What the projection kernel loads at a point. -/
module

public import proofs.«01_k».proof.Proof.PreIdealVals
public import proofs.«01_k».proof.Proof.PreIdealHost
public import Idealize.ShloMosaic.Lib.WholeRead

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec
variable (m : (ℓ : Loc nD τ sig) → Buf (Elt Ideal) ℓ)

/-! ## Indices -/

theorem eq2 {a b : ℕ} (x : (⟨2, ![a, b]⟩ : Shape).Idx) (i : Fin a) (j : Fin b) (h0 : (x 0).val = i.val) (h1 : (x 1).val = j.val) : x = ix2 i j :=
  funext fun k => Fin.ext (match k with | 0 => h0 | 1 => h1)
theorem eq3 {a b d : ℕ} (x : (⟨3, ![a, b, d]⟩ : Shape).Idx) (i : Fin a) (j : Fin b) (k : Fin d) (h0 : (x 0).val = i.val) (h1 : (x 1).val = j.val) (h2 : (x 2).val = k.val) : x = ix3 i j k :=
  funext fun q => Fin.ext (match q with | 0 => h0 | 1 => h1 | 2 => h2)
theorem eq4 {a b d e : ℕ} (x : (⟨4, ![a, b, d, e]⟩ : Shape).Idx) (i : Fin a) (j : Fin b) (k : Fin d) (l : Fin e) (h0 : (x 0).val = i.val) (h1 : (x 1).val = j.val) (h2 : (x 2).val = k.val) (h3 : (x 3).val = l.val) : x = ix4 i j k l :=
  funext fun q => Fin.ext (match q with | 0 => h0 | 1 => h1 | 2 => h2 | 3 => h3)

theorem ldu {s : Shape} {e : EltTy} {M : Memref sig .tc .vmem s e} (h : M.IsWhole) (X : s.Idx → Elt Ideal e) (off size : Fin s.rank → ℕ) (inb : ∀ a, off a + size a ≤ s.size a) (x : (Rect.unit (s := s) off size inb).shape.Idx) :
    View.readAt (Elt Ideal) M.view (Rect.unit (s := s) off size inb).toLoadRect (h.unread X) x = X ((Rect.unit (s := s) off size inb).emb x) := by
  rw [h.readAt_unread]
  rfl

theorem t_lt (t : Fin cfg0.N) : t.val < 136 := Nat.lt_of_lt_of_eq t.isLt N_0
/-- The batch and the tile of a point. -/
abbrev bt (t : Fin cfg0.N) : Fin 8 := ⟨t.val / 17, by have := t_lt t; omega⟩
abbrev jt (t : Fin cfg0.N) : Fin 17 := ⟨t.val % 17, by omega⟩
/-- A row of a point's tile. -/
abbrev rt (t : Fin cfg0.N) (r : Fin 256) : Fin 4352 := ⟨256 * (t.val % 17) + r.val, by omega⟩

theorem tr0 : ∀ t : Fin cfg0.N, cc0_transform_0 (grid0.coords t) = ![t.val / 17, t.val % 17, 0] :=
  (by decide +kernel : ∀ t : Fin grid0.N, cc0_transform_0 (grid0.coords t) = ![t.val / 17, t.val % 17, 0])
theorem tr1 : ∀ t : Fin cfg0.N, cc0_transform_1 (grid0.coords t) = ![t.val / 17, min (t.val % 17) 1, 0, 0] :=
  (by decide +kernel : ∀ t : Fin grid0.N, cc0_transform_1 (grid0.coords t) = ![t.val / 17, min (t.val % 17) 1, 0, 0])
theorem tr7 : ∀ t : Fin cfg0.N, cc0_transform_7 (grid0.coords t) = ![t.val / 17, t.val % 17, 0] :=
  (by decide +kernel : ∀ t : Fin grid0.N, cc0_transform_7 (grid0.coords t) = ![t.val / 17, t.val % 17, 0])
theorem tile_at : ∀ t : Fin cfg0.N, (grid0.coords t 1).val = t.val % 17 :=
  (by decide +kernel : ∀ t : Fin grid0.N, (grid0.coords t 1).val = t.val % 17)

/-- Where an element of window 0's block sits in its array. -/
def pl0 (t : Fin cfg0.N) (y : S1x256x1024.Idx) : S8x4352x1024.Idx := ((cfg0.win 0).blk t).view.emb y
theorem pl0_val (t : Fin cfg0.N) (y : S1x256x1024.Idx) (ax : Fin 3) : (pl0 t y ax : ℕ) = cc0_transform_0 (grid0.coords t) ax * S1x256x1024.size ax + (y ax : ℕ) :=
  (cfg0.win 0).rect_emb_val t y ax rfl
theorem rd0 (t : Fin cfg0.N) (A : Vec Ideal S8x4352x1024 .f32) (y : S1x256x1024.Idx) : (((cfg0.win 0).blk t).view.read (Elt Ideal) A : Vec Ideal S1x256x1024 .f32) y = A (pl0 t y) := rfl
/-- Where an element of window 1's block sits in its array. -/
def pl1 (t : Fin cfg0.N) (y : S1x1x8x1024.Idx) : S8x2x8x1024.Idx := ((cfg0.win 1).blk t).view.emb y
theorem pl1_val (t : Fin cfg0.N) (y : S1x1x8x1024.Idx) (ax : Fin 4) : (pl1 t y ax : ℕ) = cc0_transform_1 (grid0.coords t) ax * S1x1x8x1024.size ax + (y ax : ℕ) :=
  (cfg0.win 1).rect_emb_val t y ax rfl
theorem rd1 (t : Fin cfg0.N) (A : Vec Ideal S8x2x8x1024 .f32) (y : S1x1x8x1024.Idx) : (((cfg0.win 1).blk t).view.read (Elt Ideal) A : Vec Ideal S1x1x8x1024 .f32) y = A (pl1 t y) := rfl
/-- Where an element of window 2's block sits in its array. -/
def pl2 (t : Fin cfg0.N) (y : S1x1024.Idx) : S1x1024.Idx := ((cfg0.win 2).blk t).view.emb y
theorem pl2_val (t : Fin cfg0.N) (y : S1x1024.Idx) (ax : Fin 2) : (pl2 t y ax : ℕ) = cc0_transform_2 (grid0.coords t) ax * S1x1024.size ax + (y ax : ℕ) :=
  (cfg0.win 2).rect_emb_val t y ax rfl
theorem rd2 (t : Fin cfg0.N) (A : Vec Ideal S1x1024 .f32) (y : S1x1024.Idx) : (((cfg0.win 2).blk t).view.read (Elt Ideal) A : Vec Ideal S1x1024 .f32) y = A (pl2 t y) := rfl
/-- Where an element of window 3's block sits in its array. -/
def pl3 (t : Fin cfg0.N) (y : S1024x2176.Idx) : S1024x2176.Idx := ((cfg0.win 3).blk t).view.emb y
theorem pl3_val (t : Fin cfg0.N) (y : S1024x2176.Idx) (ax : Fin 2) : (pl3 t y ax : ℕ) = cc0_transform_3 (grid0.coords t) ax * S1024x2176.size ax + (y ax : ℕ) :=
  (cfg0.win 3).rect_emb_val t y ax rfl
theorem rd3 (t : Fin cfg0.N) (A : Vec Ideal S1024x2176 .bf16) (y : S1024x2176.Idx) : (((cfg0.win 3).blk t).view.read (Elt Ideal) A : Vec Ideal S1024x2176 .bf16) y = A (pl3 t y) := rfl
/-- Where an element of window 4's block sits in its array. -/
def pl4 (t : Fin cfg0.N) (y : S8x512.Idx) : S8x512.Idx := ((cfg0.win 4).blk t).view.emb y
theorem pl4_val (t : Fin cfg0.N) (y : S8x512.Idx) (ax : Fin 2) : (pl4 t y ax : ℕ) = cc0_transform_4 (grid0.coords t) ax * S8x512.size ax + (y ax : ℕ) :=
  (cfg0.win 4).rect_emb_val t y ax rfl
theorem rd4 (t : Fin cfg0.N) (A : Vec Ideal S8x512 .f32) (y : S8x512.Idx) : (((cfg0.win 4).blk t).view.read (Elt Ideal) A : Vec Ideal S8x512 .f32) y = A (pl4 t y) := rfl
/-- Where an element of window 5's block sits in its array. -/
def pl5 (t : Fin cfg0.N) (y : S1x512.Idx) : S1x512.Idx := ((cfg0.win 5).blk t).view.emb y
theorem pl5_val (t : Fin cfg0.N) (y : S1x512.Idx) (ax : Fin 2) : (pl5 t y ax : ℕ) = cc0_transform_5 (grid0.coords t) ax * S1x512.size ax + (y ax : ℕ) :=
  (cfg0.win 5).rect_emb_val t y ax rfl
theorem rd5 (t : Fin cfg0.N) (A : Vec Ideal S1x512 .f32) (y : S1x512.Idx) : (((cfg0.win 5).blk t).view.read (Elt Ideal) A : Vec Ideal S1x512 .f32) y = A (pl5 t y) := rfl
/-- Where an element of window 7's block sits in its array. -/
def pl7 (t : Fin cfg0.N) (y : S1x256x2176.Idx) : S8x4352x2176.Idx := ((cfg0.win 7).blk t).view.emb y
theorem pl7_val (t : Fin cfg0.N) (y : S1x256x2176.Idx) (ax : Fin 3) : (pl7 t y ax : ℕ) = cc0_transform_7 (grid0.coords t) ax * S1x256x2176.size ax + (y ax : ℕ) :=
  (cfg0.win 7).rect_emb_val t y ax rfl

/-! ## The blocks at a point -/

def bk0 (c : Dev nD) (t : Fin cfg0.N) : Vec Ideal S1x256x1024 .f32 := iblk m c 0 t
def bk1 (c : Dev nD) (t : Fin cfg0.N) : Vec Ideal S1x1x8x1024 .f32 := iblk m c 1 t
def bk2 (c : Dev nD) (t : Fin cfg0.N) : Vec Ideal S1x1024 .f32 := iblk m c 2 t
def bk3 (c : Dev nD) (t : Fin cfg0.N) : Vec Ideal S1024x2176 .bf16 := iblk m c 3 t
def bk4 (c : Dev nD) (t : Fin cfg0.N) : Vec Ideal S8x512 .f32 := iblk m c 4 t
def bk5 (c : Dev nD) (t : Fin cfg0.N) : Vec Ideal S1x512 .f32 := iblk m c 5 t

theorem j0 (c : Dev nD) (t : Fin cfg0.N) (r : Fin 256) (R : Fin 4352) (hR : R.val = 256 * (t.val % 17) + r.val) (k : Fin 1024) : bk0 m c t (ix3 0 r k) = m ((c : Thread nD τ).loc main_arg0) (ix3 (bt t) R k) := by
  have h0 := pl0_val t (ix3 0 r k) 0
  have h1 := pl0_val t (ix3 0 r k) 1
  have h2 := pl0_val t (ix3 0 r k) 2
  rw [tr0] at h0 h1 h2
  refine (rd0 t (V m c main_arg0) _).trans ((congrArg (V m c main_arg0) (eq3 _ (bt t) R k (h0.trans ?_) (h1.trans ?_) (h2.trans ?_))).trans (congrFun (V_main_arg0 m c) _))
  · show t.val / 17 * 1 + 0 = t.val / 17; omega
  · show t.val % 17 * 256 + r.val = R.val; omega
  · show 0 * 1024 + k.val = k.val; omega

theorem j1 (c : Dev nD) (t : Fin cfg0.N) (r : Fin 256) (R : Fin 4352) (hR : R.val = 256 * (t.val % 17) + r.val) (q : Fin 8) (k : Fin 1024) : bk1 m c t (ix4 0 0 q k) = m ((c : Thread nD τ).loc main_arg1) (ix4 (bt t) (seg R) q k) := by
  have h0 := pl1_val t (ix4 0 0 q k) 0
  have h1 := pl1_val t (ix4 0 0 q k) 1
  have h2 := pl1_val t (ix4 0 0 q k) 2
  have h3 := pl1_val t (ix4 0 0 q k) 3
  rw [tr1] at h0 h1 h2 h3
  refine (rd1 t (V m c main_arg1) _).trans ((congrArg (V m c main_arg1) (eq4 _ (bt t) (seg R) q k (h0.trans ?_) (h1.trans ?_) (h2.trans ?_) (h3.trans ?_))).trans (congrFun (V_main_arg1 m c) _))
  · show t.val / 17 * 1 + 0 = t.val / 17; omega
  · show min (t.val % 17) 1 * 1 + 0 = (seg R).val
    by_cases h : R.val < 256
    · rw [seg_lo R h]; show min (t.val % 17) 1 * 1 + 0 = 0; omega
    · rw [seg_hi R h]; show min (t.val % 17) 1 * 1 + 0 = 1; omega
  · show 0 * 8 + q.val = q.val; omega
  · show 0 * 1024 + k.val = k.val; omega

theorem j2 (c : Dev nD) (t : Fin cfg0.N) (k : Fin 1024) : bk2 m c t (ix2 0 k) = m ((c : Thread nD τ).loc main_arg2) (ix1 k) :=
  (rd2 t (V m c main_v0) _).trans ((congrArg (V m c main_v0) (eq2 _ 0 k ((pl2_val t (ix2 0 k) 0).trans (by show 0 * 1 + 0 = 0; omega)) ((pl2_val t (ix2 0 k) 1).trans (by show 0 * 1024 + k.val = k.val; omega)))).trans (V_g m c k))

theorem j3 (c : Dev nD) (t : Fin cfg0.N) (d : Fin 1024) (e : Fin 2176) : bk3 m c t (ix2 d e) = wcol (m ((c : Thread nD τ).loc main_arg3)) d e :=
  (rd3 t (V m c main_v14) _).trans ((congrArg (V m c main_v14) (eq2 _ d e ((pl3_val t (ix2 d e) 0).trans (by show 0 * 1024 + d.val = d.val; omega)) ((pl3_val t (ix2 d e) 1).trans (by show 0 * 2176 + e.val = e.val; omega)))).trans (V_w m c d e _ rfl))

theorem j4 (c : Dev nD) (t : Fin cfg0.N) (k : Fin 8) (hk : k.val < 5) (e : Fin 512) : bk4 m c t (ix2 k e) = m ((c : Thread nD τ).loc main_arg4) (ix2 (⟨k.val, hk⟩ : Fin 5) e) :=
  (rd4 t (V m c main_v15) _).trans ((congrArg (V m c main_v15) (eq2 _ k e ((pl4_val t (ix2 k e) 0).trans (by show 0 * 8 + k.val = k.val; omega)) ((pl4_val t (ix2 k e) 1).trans (by show 0 * 512 + e.val = e.val; omega)))).trans (V_cw m c k hk e))

theorem j5 (c : Dev nD) (t : Fin cfg0.N) (e : Fin 512) : bk5 m c t (ix2 0 e) = m ((c : Thread nD τ).loc main_arg5) (ix1 e) :=
  (rd5 t (V m c main_v16) _).trans ((congrArg (V m c main_v16) (eq2 _ 0 e ((pl5_val t (ix2 0 e) 0).trans (by show 0 * 1 + 0 = 0; omega)) ((pl5_val t (ix2 0 e) 1).trans (by show 0 * 512 + e.val = e.val; omega)))).trans (V_cb m c e))

/-! ## The loads at a point -/

def ld0 (c : Dev nD) (t : Fin cfg0.N) : Vec Ideal S1x256x1024 .f32 :=
  View.readAt (Elt Ideal) (ms0_0 t).view (Rect.unit (s := S1x256x1024) ![0, 0, 0] S1x256x1024.size inb_S1x256x1024_S1x256x1024_0_0_0).toLoadRect ((hs0_0 t).unread (bk0 m c t))
def ldA (c : Dev nD) (t : Fin cfg0.N) : Vec Ideal S1x1x1x1024 .f32 :=
  View.readAt (Elt Ideal) (ms0_1 t).view (Rect.unit (s := S1x1x8x1024) ![0, 0, 1, 0] S1x1x1x1024.size inb_S1x1x8x1024_S1x1x1x1024_0_0_1_0).toLoadRect ((hs0_1 t).unread (bk1 m c t))
def ldB (c : Dev nD) (t : Fin cfg0.N) : Vec Ideal S1x1x1x1024 .f32 :=
  View.readAt (Elt Ideal) (ms0_1 t).view (Rect.unit (s := S1x1x8x1024) ![0, 0, 0, 0] S1x1x1x1024.size inb_S1x1x8x1024_S1x1x1x1024_0_0_0_0).toLoadRect ((hs0_1 t).unread (bk1 m c t))
def ld2 (c : Dev nD) (t : Fin cfg0.N) : Vec Ideal S1x1024 .f32 :=
  View.readAt (Elt Ideal) (ms0_2 t).view (Rect.unit (s := S1x1024) ![0, 0] S1x1024.size inb_S1x1024_S1x1024_0_0).toLoadRect ((hs0_2 t).unread (bk2 m c t))
def ld3 (c : Dev nD) (t : Fin cfg0.N) : Vec Ideal S1024x2176 .bf16 :=
  View.readAt (Elt Ideal) (ms0_3 t).view (Rect.unit (s := S1024x2176) ![0, 0] S1024x2176.size inb_S1024x2176_S1024x2176_0_0).toLoadRect ((hs0_3 t).unread (bk3 m c t))
def ld5 (c : Dev nD) (t : Fin cfg0.N) : Vec Ideal S1x512 .f32 :=
  View.readAt (Elt Ideal) (ms0_5 t).view (Rect.unit (s := S1x512) ![0, 0] S1x512.size inb_S1x512_S1x512_0_0).toLoadRect ((hs0_5 t).unread (bk5 m c t))
def lw0 (c : Dev nD) (t : Fin cfg0.N) : Vec Ideal S1x512 .f32 :=
  View.readAt (Elt Ideal) (ms0_4 t).view (Rect.unit (s := S8x512) ![0, 0] S1x512.size inb_S8x512_S1x512_0_0).toLoadRect ((hs0_4 t).unread (bk4 m c t))
def lw1 (c : Dev nD) (t : Fin cfg0.N) : Vec Ideal S1x512 .f32 :=
  View.readAt (Elt Ideal) (ms0_4 t).view (Rect.unit (s := S8x512) ![1, 0] S1x512.size inb_S8x512_S1x512_1_0).toLoadRect ((hs0_4 t).unread (bk4 m c t))
def lw2 (c : Dev nD) (t : Fin cfg0.N) : Vec Ideal S1x512 .f32 :=
  View.readAt (Elt Ideal) (ms0_4 t).view (Rect.unit (s := S8x512) ![2, 0] S1x512.size inb_S8x512_S1x512_2_0).toLoadRect ((hs0_4 t).unread (bk4 m c t))
def lw3 (c : Dev nD) (t : Fin cfg0.N) : Vec Ideal S1x512 .f32 :=
  View.readAt (Elt Ideal) (ms0_4 t).view (Rect.unit (s := S8x512) ![3, 0] S1x512.size inb_S8x512_S1x512_3_0).toLoadRect ((hs0_4 t).unread (bk4 m c t))
def lw4 (c : Dev nD) (t : Fin cfg0.N) : Vec Ideal S1x512 .f32 :=
  View.readAt (Elt Ideal) (ms0_4 t).view (Rect.unit (s := S8x512) ![4, 0] S1x512.size inb_S8x512_S1x512_4_0).toLoadRect ((hs0_4 t).unread (bk4 m c t))

theorem ld0_at (c : Dev nD) (t : Fin cfg0.N) (r : Fin 256) (k : Fin 1024) : ld0 m c t (ix3 0 r k) = bk0 m c t (ix3 0 r k) := by
  exact (ldu (hs0_0 t) _ _ _ _ _).trans <| congrArg (bk0 m c t) (eq3 _ 0 r k (by show 0 + 1 * 0 = 0; omega) (by show 0 + 1 * r.val = r.val; omega) (by show 0 + 1 * k.val = k.val; omega))
theorem ldA_at (c : Dev nD) (t : Fin cfg0.N) (k : Fin 1024) : ldA m c t (ix4 0 0 0 k) = bk1 m c t (ix4 0 0 1 k) := by
  exact (ldu (hs0_1 t) _ _ _ _ _).trans <| congrArg (bk1 m c t) (eq4 _ 0 0 1 k (by show 0 + 1 * 0 = 0; omega) (by show 0 + 1 * 0 = 0; omega) (by show 1 + 1 * 0 = 1; omega) (by show 0 + 1 * k.val = k.val; omega))
theorem ldB_at (c : Dev nD) (t : Fin cfg0.N) (k : Fin 1024) : ldB m c t (ix4 0 0 0 k) = bk1 m c t (ix4 0 0 0 k) := by
  exact (ldu (hs0_1 t) _ _ _ _ _).trans <| congrArg (bk1 m c t) (eq4 _ 0 0 0 k (by show 0 + 1 * 0 = 0; omega) (by show 0 + 1 * 0 = 0; omega) (by show 0 + 1 * 0 = 0; omega) (by show 0 + 1 * k.val = k.val; omega))
theorem ld2_at (c : Dev nD) (t : Fin cfg0.N) (k : Fin 1024) : ld2 m c t (ix2 0 k) = bk2 m c t (ix2 0 k) := by
  exact (ldu (hs0_2 t) _ _ _ _ _).trans <| congrArg (bk2 m c t) (eq2 _ 0 k (by show 0 + 1 * 0 = 0; omega) (by show 0 + 1 * k.val = k.val; omega))
theorem ld5_at (c : Dev nD) (t : Fin cfg0.N) (k : Fin 512) : ld5 m c t (ix2 0 k) = bk5 m c t (ix2 0 k) := by
  exact (ldu (hs0_5 t) _ _ _ _ _).trans <| congrArg (bk5 m c t) (eq2 _ 0 k (by show 0 + 1 * 0 = 0; omega) (by show 0 + 1 * k.val = k.val; omega))
theorem ld3_at (c : Dev nD) (t : Fin cfg0.N) (d : Fin 1024) (e : Fin 2176) : ld3 m c t (ix2 d e) = bk3 m c t (ix2 d e) := by
  exact (ldu (hs0_3 t) _ _ _ _ _).trans <| congrArg (bk3 m c t) (eq2 _ d e (by show 0 + 1 * d.val = d.val; omega) (by show 0 + 1 * e.val = e.val; omega))
theorem lw0_at (c : Dev nD) (t : Fin cfg0.N) (e : Fin 512) : lw0 m c t (ix2 0 e) = bk4 m c t (ix2 0 e) := by
  exact (ldu (hs0_4 t) _ _ _ _ _).trans <| congrArg (bk4 m c t) (eq2 _ 0 e (by show 0 + 1 * 0 = 0; omega) (by show 0 + 1 * e.val = e.val; omega))
theorem lw1_at (c : Dev nD) (t : Fin cfg0.N) (e : Fin 512) : lw1 m c t (ix2 0 e) = bk4 m c t (ix2 1 e) := by
  exact (ldu (hs0_4 t) _ _ _ _ _).trans <| congrArg (bk4 m c t) (eq2 _ 1 e (by show 1 + 1 * 0 = 1; omega) (by show 0 + 1 * e.val = e.val; omega))
theorem lw2_at (c : Dev nD) (t : Fin cfg0.N) (e : Fin 512) : lw2 m c t (ix2 0 e) = bk4 m c t (ix2 2 e) := by
  exact (ldu (hs0_4 t) _ _ _ _ _).trans <| congrArg (bk4 m c t) (eq2 _ 2 e (by show 2 + 1 * 0 = 2; omega) (by show 0 + 1 * e.val = e.val; omega))
theorem lw3_at (c : Dev nD) (t : Fin cfg0.N) (e : Fin 512) : lw3 m c t (ix2 0 e) = bk4 m c t (ix2 3 e) := by
  exact (ldu (hs0_4 t) _ _ _ _ _).trans <| congrArg (bk4 m c t) (eq2 _ 3 e (by show 3 + 1 * 0 = 3; omega) (by show 0 + 1 * e.val = e.val; omega))
theorem lw4_at (c : Dev nD) (t : Fin cfg0.N) (e : Fin 512) : lw4 m c t (ix2 0 e) = bk4 m c t (ix2 4 e) := by
  exact (ldu (hs0_4 t) _ _ _ _ _).trans <| congrArg (bk4 m c t) (eq2 _ 4 e (by show 4 + 1 * 0 = 4; omega) (by show 0 + 1 * e.val = e.val; omega))

theorem blk_at (c : Dev nD) (t : Fin cfg0.N) : Blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bt t) (jt t)
    (ld0 m c t) (ld2 m c t) (ldA m c t) (ldB m c t) (ld3 m c t) (ld5 m c t) (lw0 m c t) (lw1 m c t) (lw2 m c t) (lw3 m c t) (lw4 m c t) where
  h0 r R hR k := (ld0_at m c t r k).trans (j0 m c t r R hR k)
  h2 k := (ld2_at m c t k).trans (j2 m c t k)
  h16 r R hR k := (ldA_at m c t k).trans (j1 m c t r R hR 1 k)
  h22 r R hR k := (ldB_at m c t k).trans (j1 m c t r R hR 0 k)
  h27 d e := (ld3_at m c t d e).trans (j3 m c t d e)
  h50 e := (ld5_at m c t e).trans (j5 m c t e)
  g0 e := (lw0_at m c t e).trans (j4 m c t 0 (by decide) e)
  g1 e := (lw1_at m c t e).trans (j4 m c t 1 (by decide) e)
  g2 e := (lw2_at m c t e).trans (j4 m c t 2 (by decide) e)
  g3 e := (lw3_at m c t e).trans (j4 m c t 3 (by decide) e)
  g4 e := (lw4_at m c t e).trans (j4 m c t 4 (by decide) e)
end Cert.PreIdeal.Hand
end
-- ==== Proof.PreRefValue.lean ====
/- The reference, element by element. -/
module

public import proofs.«01_k».proof.Proof.Gen.PreRefIdeal.Read
public import proofs.«01_k».proof.Proof.PreSpec

@[expose] public section

set_option maxRecDepth 16384

noncomputable section
open Idealize.ShloMosaic Idealize.ShloMosaic.TcCoe Idealize.SL.Sem

namespace Cert.PreRefIdeal.RValue

open Cert.PreRefIdeal Cert.PreRefIdeal.Gen Cert.PreRefIdeal.Read Cert.PreSpec
variable (x0 : (⟨S8x4352x1024, .f32⟩ : BufTy).Contents (Elt Ideal)) (x1 : (⟨S8x2x8x1024, .f32⟩ : BufTy).Contents (Elt Ideal)) (x2 : (⟨S1024, .f32⟩ : BufTy).Contents (Elt Ideal))
  (x3 : (⟨S1024x2088, .f32⟩ : BufTy).Contents (Elt Ideal)) (x4 : (⟨S5x512, .f32⟩ : BufTy).Contents (Elt Ideal)) (x5 : (⟨S512, .f32⟩ : BufTy).Contents (Elt Ideal))

theorem sitofp_0 : FloatOps.sitofp (F := Ideal) FTy.f32 (0#32) = (0 : EReal) := by
  show (((0#32 : BitVec 32).toInt : ℝ) : EReal) = 0
  simp

/-! ## The projection -/

theorem v23_at (b : Fin 8) (r : Fin 256) (d : Fin 1024) : val_main_v23 x0 x1 x2 (ix3 b r d)
    = hv (fun k => x0 (ix3 b (⟨r.val, by omega⟩ : Fin 4352) k)) (fun k => x2 (ix1 k)) (fun k => x1 (ix4 b 0 1 k)) (fun k => x1 (ix4 b 0 0 k)) d := by
  unfold hv
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2]
theorem v24_at (b : Fin 8) (r : Fin 256) (e : Fin 2088) : val_main_v24 x0 x1 x2 x3 (ix3 b r e) = pj x0 x1 x2 x3 b (⟨r.val, by omega⟩ : Fin 4352) e := by
  have h : val_main_v24 x0 x1 x2 x3 (ix3 b r e) = ∑ d : Fin 1024, val_main_v23 x0 x1 x2 (ix3 b r d) * x3 (ix2 d e) := by
    unfold val_main_v24
    generalize val_main_v23 x0 x1 x2 = y
    pointwise
  rw [h]
  unfold pj
  rw [seg_lo _ r.isLt]
  exact Finset.sum_congr rfl fun d _ => congrArg (fun z : EReal => z * x3 (ix2 d e)) (v23_at x0 x1 x2 b r d)

theorem v48_at (b : Fin 8) (r : Fin 4096) (d : Fin 1024) : val_main_v48 x0 x1 x2 (ix3 b r d)
    = hv (fun k => x0 (ix3 b (⟨256 + r.val, by omega⟩ : Fin 4352) k)) (fun k => x2 (ix1 k)) (fun k => x1 (ix4 b 1 1 k)) (fun k => x1 (ix4 b 1 0 k)) d := by
  unfold hv
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6]
theorem v49_at (b : Fin 8) (r : Fin 4096) (e : Fin 2088) : val_main_v49 x0 x1 x2 x3 (ix3 b r e) = pj x0 x1 x2 x3 b (⟨256 + r.val, by omega⟩ : Fin 4352) e := by
  have h : val_main_v49 x0 x1 x2 x3 (ix3 b r e) = ∑ d : Fin 1024, val_main_v48 x0 x1 x2 (ix3 b r d) * x3 (ix2 d e) := by
    unfold val_main_v49
    generalize val_main_v48 x0 x1 x2 = y
    pointwise
  rw [h]
  unfold pj
  rw [seg_hi _ (by show ¬ 256 + r.val < 256; omega)]
  exact Finset.sum_congr rfl fun d _ => congrArg (fun z : EReal => z * x3 (ix2 d e)) (v48_at x0 x1 x2 b r d)

theorem v134_at (b : Fin 8) (r : Fin 4352) (e : Fin 2088) : val_main_v134 x0 x1 x2 x3 (ix3 b r e) = pj x0 x1 x2 x3 b r e := by
  have h : val_main_v134 x0 x1 x2 x3 (ix3 b r e) = if h : r.val < 256 then val_main_v24 x0 x1 x2 x3 (ix3 b (⟨r.val, h⟩ : Fin 256) e) else val_main_v49 x0 x1 x2 x3 (ix3 b (⟨r.val - 256, by omega⟩ : Fin 4096) e) := by
    unfold val_main_v134
    generalize val_main_v24 x0 x1 x2 x3 = y
    generalize val_main_v49 x0 x1 x2 x3 = z
    pointwise
  rw [h]
  by_cases h0 : r.val < 256
  · rw [dif_pos h0, v24_at]
  · rw [dif_neg h0, v49_at]
    refine congrArg (fun r' => pj x0 x1 x2 x3 b r' e) (Fin.ext ?_)
    show 256 + (r.val - 256) = r.val
    omega

/-! ## The convolution -/

/-- A tap as the reference takes it: an entry of the padded rows times the weight. -/
theorem tap_pad (P : Fin 4352 → EReal) (w : EReal) (r : Fin 4352) (k : ℕ) (C : Prop) [Decidable C] (y : C → EReal)
    (hC : C ↔ (2 ≤ pos r.val + k ∧ pos r.val + k < len r.val + 2)) (hy : ∀ h : C, y h = P ⟨(r.val + k - 2) % 4352, Nat.mod_lt _ (by decide)⟩) :
    (if h : C then y h else FloatOps.sitofp (F := Ideal) FTy.f32 0#32) * w = tap P w r k := by
  unfold tap
  by_cases h : C
  · rw [dif_pos h, if_pos (hC.mp h), hy h]
  · rw [dif_neg h, if_neg fun h' => h (hC.mpr h'), sitofp_0, zero_mul]

/-- The middle tap is the row itself. -/
theorem tap_mid (P : Fin 4352 → EReal) (w : EReal) (r : Fin 4352) (y : EReal) (hy : y = P r) : y * w = tap P w r 2 := by
  have hr := r.isLt
  have h : 2 ≤ pos r.val + 2 ∧ pos r.val + 2 < len r.val + 2 := by
    refine ⟨by omega, ?_⟩
    unfold pos len
    by_cases h : r.val < 256
    · rw [if_pos h]; omega
    · rw [if_neg h]; omega
  unfold tap
  rw [if_pos h, hy]
  refine congrArg (fun r' => P r' * w) (Fin.ext ?_)
  show r.val = (r.val + 2 - 2) % 4352
  omega

theorem pos_lo (r : ℕ) (h : r < 256) : pos r = r ∧ len r = 256 := by
  unfold pos len; rw [if_pos h]; exact ⟨Nat.mod_eq_of_lt h, rfl⟩
theorem pos_hi (r : ℕ) (h : ¬ r < 256) : pos r = r % 64 ∧ len r = 64 := by
  unfold pos len; rw [if_neg h]; exact ⟨rfl, rfl⟩

theorem v57_at (b : Fin 8) (r : Fin 256) (e : Fin 512) : val_main_v57 x0 x1 x2 x3 x4 (ix3 b r e)
    = tap (fun r' => pj x0 x1 x2 x3 b r' ⟨1568 + e.val, by omega⟩) (x4 (ix2 0 e)) (⟨r.val, by omega⟩ : Fin 4352) 0 := by
  have hp := pos_lo r.val r.isLt
  have hr := r.isLt
  unfold val_main_v57 val_main_v56 val_main_v55 val_main_v54 val_main_v53 val_main_v52 val_main_v51 val_main_v50 val_main_call0_v0 val_main_c
  generalize hq : val_main_v24 x0 x1 x2 x3 = q
  pointwise
  refine tap_pad _ _ _ 0 _ _ ?_ fun h => ?_
  · dsimp only
    rw [hp.1, hp.2]; omega
  · rw [← hq, v24_at]
    refine congrArg (fun r' => pj x0 x1 x2 x3 b r' _) (Fin.ext ?_)
    dsimp only
    omega
theorem v65_at (b : Fin 8) (r : Fin 256) (e : Fin 512) : val_main_v65 x0 x1 x2 x3 x4 (ix3 b r e)
    = tap (fun r' => pj x0 x1 x2 x3 b r' ⟨1568 + e.val, by omega⟩) (x4 (ix2 1 e)) (⟨r.val, by omega⟩ : Fin 4352) 1 := by
  have hp := pos_lo r.val r.isLt
  have hr := r.isLt
  unfold val_main_v65 val_main_v64 val_main_v63 val_main_v62 val_main_v61 val_main_v60 val_main_v51 val_main_v50 val_main_call0_v0 val_main_c
  generalize hq : val_main_v24 x0 x1 x2 x3 = q
  pointwise
  refine tap_pad _ _ _ 1 _ _ ?_ fun h => ?_
  · dsimp only
    rw [hp.1, hp.2]; omega
  · rw [← hq, v24_at]
    refine congrArg (fun r' => pj x0 x1 x2 x3 b r' _) (Fin.ext ?_)
    dsimp only
    omega
theorem v72_at (b : Fin 8) (r : Fin 256) (e : Fin 512) : val_main_v72 x0 x1 x2 x3 x4 (ix3 b r e)
    = tap (fun r' => pj x0 x1 x2 x3 b r' ⟨1568 + e.val, by omega⟩) (x4 (ix2 2 e)) (⟨r.val, by omega⟩ : Fin 4352) 2 := by
  have hp := pos_lo r.val r.isLt
  have hr := r.isLt
  unfold val_main_v72 val_main_v71 val_main_v70 val_main_v69 val_main_v68 val_main_v67 val_main_v51 val_main_v50 val_main_call0_v0 val_main_c
  generalize hq : val_main_v24 x0 x1 x2 x3 = q
  pointwise
  refine tap_mid _ _ _ _ ?_
  rw [← hq, v24_at]
theorem v79_at (b : Fin 8) (r : Fin 256) (e : Fin 512) : val_main_v79 x0 x1 x2 x3 x4 (ix3 b r e)
    = tap (fun r' => pj x0 x1 x2 x3 b r' ⟨1568 + e.val, by omega⟩) (x4 (ix2 3 e)) (⟨r.val, by omega⟩ : Fin 4352) 3 := by
  have hp := pos_lo r.val r.isLt
  have hr := r.isLt
  unfold val_main_v79 val_main_v78 val_main_v77 val_main_v76 val_main_v75 val_main_v74 val_main_v51 val_main_v50 val_main_call0_v0 val_main_c
  generalize hq : val_main_v24 x0 x1 x2 x3 = q
  pointwise
  refine tap_pad _ _ _ 3 _ _ ?_ fun h => ?_
  · dsimp only
    rw [hp.1, hp.2]; omega
  · rw [← hq, v24_at]
    refine congrArg (fun r' => pj x0 x1 x2 x3 b r' _) (Fin.ext ?_)
    dsimp only
    omega
theorem v86_at (b : Fin 8) (r : Fin 256) (e : Fin 512) : val_main_v86 x0 x1 x2 x3 x4 (ix3 b r e)
    = tap (fun r' => pj x0 x1 x2 x3 b r' ⟨1568 + e.val, by omega⟩) (x4 (ix2 4 e)) (⟨r.val, by omega⟩ : Fin 4352) 4 := by
  have hp := pos_lo r.val r.isLt
  have hr := r.isLt
  unfold val_main_v86 val_main_v85 val_main_v84 val_main_v83 val_main_v82 val_main_v81 val_main_v51 val_main_v50 val_main_call0_v0 val_main_c
  generalize hq : val_main_v24 x0 x1 x2 x3 = q
  pointwise
  refine tap_pad _ _ _ 4 _ _ ?_ fun h => ?_
  · dsimp only
    rw [hp.1, hp.2]; omega
  · rw [← hq, v24_at]
    refine congrArg (fun r' => pj x0 x1 x2 x3 b r' _) (Fin.ext ?_)
    dsimp only
    omega
theorem v99_at (b : Fin 8) (R : Fin 4096) (n : Fin 512) (q : Fin 64) (hR : n.val * 64 + q.val = b.val * 4096 + R.val) (e : Fin 512) : val_main_v99 x0 x1 x2 x3 x4 (ix3 n q e)
    = tap (fun r' => pj x0 x1 x2 x3 b r' ⟨1568 + e.val, by omega⟩) (x4 (ix2 0 e)) (⟨256 + R.val, by omega⟩ : Fin 4352) 0 := by
  have hp := pos_hi (256 + R.val) (by omega)
  have hq := q.isLt
  have hr := R.isLt
  have hqr : (256 + R.val) % 64 = q.val := by omega
  unfold val_main_v99 val_main_v98 val_main_v97 val_main_v96 val_main_v95 val_main_v94 val_main_v93 val_main_v92 val_main_v91 val_main_call1_v0 val_main_c_8
  generalize hy : val_main_v49 x0 x1 x2 x3 = y
  pointwise
  refine tap_pad _ _ _ 0 _ _ ?_ fun h => ?_
  · dsimp only
    rw [hp.1, hp.2, hqr]; omega
  · rw [← hy, v49_at]
    refine congrArg₂ (fun b' r' => pj x0 x1 x2 x3 b' r' _) (Fin.ext ?_) (Fin.ext ?_)
    · dsimp only
      omega
    · dsimp only
      omega
theorem v107_at (b : Fin 8) (R : Fin 4096) (n : Fin 512) (q : Fin 64) (hR : n.val * 64 + q.val = b.val * 4096 + R.val) (e : Fin 512) : val_main_v107 x0 x1 x2 x3 x4 (ix3 n q e)
    = tap (fun r' => pj x0 x1 x2 x3 b r' ⟨1568 + e.val, by omega⟩) (x4 (ix2 1 e)) (⟨256 + R.val, by omega⟩ : Fin 4352) 1 := by
  have hp := pos_hi (256 + R.val) (by omega)
  have hq := q.isLt
  have hr := R.isLt
  have hqr : (256 + R.val) % 64 = q.val := by omega
  unfold val_main_v107 val_main_v106 val_main_v105 val_main_v104 val_main_v103 val_main_v102 val_main_v93 val_main_v92 val_main_v91 val_main_call1_v0 val_main_c_8
  generalize hy : val_main_v49 x0 x1 x2 x3 = y
  pointwise
  refine tap_pad _ _ _ 1 _ _ ?_ fun h => ?_
  · dsimp only
    rw [hp.1, hp.2, hqr]; omega
  · rw [← hy, v49_at]
    refine congrArg₂ (fun b' r' => pj x0 x1 x2 x3 b' r' _) (Fin.ext ?_) (Fin.ext ?_)
    · dsimp only
      omega
    · dsimp only
      omega
theorem v114_at (b : Fin 8) (R : Fin 4096) (n : Fin 512) (q : Fin 64) (hR : n.val * 64 + q.val = b.val * 4096 + R.val) (e : Fin 512) : val_main_v114 x0 x1 x2 x3 x4 (ix3 n q e)
    = tap (fun r' => pj x0 x1 x2 x3 b r' ⟨1568 + e.val, by omega⟩) (x4 (ix2 2 e)) (⟨256 + R.val, by omega⟩ : Fin 4352) 2 := by
  have hp := pos_hi (256 + R.val) (by omega)
  have hq := q.isLt
  have hr := R.isLt
  have hqr : (256 + R.val) % 64 = q.val := by omega
  unfold val_main_v114 val_main_v113 val_main_v112 val_main_v111 val_main_v110 val_main_v109 val_main_v93 val_main_v92 val_main_v91 val_main_call1_v0 val_main_c_8
  generalize hy : val_main_v49 x0 x1 x2 x3 = y
  pointwise
  refine tap_mid _ _ _ _ ?_
  rw [← hy, v49_at]
  refine congrArg₂ (fun b' r' => pj x0 x1 x2 x3 b' r' _) (Fin.ext ?_) (Fin.ext ?_)
  · dsimp only
    omega
  · dsimp only
    omega
theorem v121_at (b : Fin 8) (R : Fin 4096) (n : Fin 512) (q : Fin 64) (hR : n.val * 64 + q.val = b.val * 4096 + R.val) (e : Fin 512) : val_main_v121 x0 x1 x2 x3 x4 (ix3 n q e)
    = tap (fun r' => pj x0 x1 x2 x3 b r' ⟨1568 + e.val, by omega⟩) (x4 (ix2 3 e)) (⟨256 + R.val, by omega⟩ : Fin 4352) 3 := by
  have hp := pos_hi (256 + R.val) (by omega)
  have hq := q.isLt
  have hr := R.isLt
  have hqr : (256 + R.val) % 64 = q.val := by omega
  unfold val_main_v121 val_main_v120 val_main_v119 val_main_v118 val_main_v117 val_main_v116 val_main_v93 val_main_v92 val_main_v91 val_main_call1_v0 val_main_c_8
  generalize hy : val_main_v49 x0 x1 x2 x3 = y
  pointwise
  refine tap_pad _ _ _ 3 _ _ ?_ fun h => ?_
  · dsimp only
    rw [hp.1, hp.2, hqr]; omega
  · rw [← hy, v49_at]
    refine congrArg₂ (fun b' r' => pj x0 x1 x2 x3 b' r' _) (Fin.ext ?_) (Fin.ext ?_)
    · dsimp only
      omega
    · dsimp only
      omega
theorem v128_at (b : Fin 8) (R : Fin 4096) (n : Fin 512) (q : Fin 64) (hR : n.val * 64 + q.val = b.val * 4096 + R.val) (e : Fin 512) : val_main_v128 x0 x1 x2 x3 x4 (ix3 n q e)
    = tap (fun r' => pj x0 x1 x2 x3 b r' ⟨1568 + e.val, by omega⟩) (x4 (ix2 4 e)) (⟨256 + R.val, by omega⟩ : Fin 4352) 4 := by
  have hp := pos_hi (256 + R.val) (by omega)
  have hq := q.isLt
  have hr := R.isLt
  have hqr : (256 + R.val) % 64 = q.val := by omega
  unfold val_main_v128 val_main_v127 val_main_v126 val_main_v125 val_main_v124 val_main_v123 val_main_v93 val_main_v92 val_main_v91 val_main_call1_v0 val_main_c_8
  generalize hy : val_main_v49 x0 x1 x2 x3 = y
  pointwise
  refine tap_pad _ _ _ 4 _ _ ?_ fun h => ?_
  · dsimp only
    rw [hp.1, hp.2, hqr]; omega
  · rw [← hy, v49_at]
    refine congrArg₂ (fun b' r' => pj x0 x1 x2 x3 b' r' _) (Fin.ext ?_) (Fin.ext ?_)
    · dsimp only
      omega
    · dsimp only
      omega

theorem v90_at (b : Fin 8) (r : Fin 256) (e : Fin 512) : val_main_v90 x0 x1 x2 x3 x4 x5 (ix3 b r e) = xb x0 x1 x2 x3 x4 x5 b (⟨r.val, by omega⟩ : Fin 4352) e := by
  unfold val_main_v90 val_main_v87 val_main_v80 val_main_v73 val_main_v66 val_main_v59 val_main_v58 val_main_cst_7 val_main_v89 val_main_v88
  unfold xb cv
  rw [← v57_at, ← v65_at, ← v72_at, ← v79_at, ← v86_at]
  generalize val_main_v57 x0 x1 x2 x3 x4 = y0
  generalize val_main_v65 x0 x1 x2 x3 x4 = y1
  generalize val_main_v72 x0 x1 x2 x3 x4 = y2
  generalize val_main_v79 x0 x1 x2 x3 x4 = y3
  generalize val_main_v86 x0 x1 x2 x3 x4 = y4
  pointwise
theorem v132_at (b : Fin 8) (R : Fin 4096) (n : Fin 512) (q : Fin 64) (hR : n.val * 64 + q.val = b.val * 4096 + R.val) (e : Fin 512) :
    val_main_v132 x0 x1 x2 x3 x4 x5 (ix3 n q e) = xb x0 x1 x2 x3 x4 x5 b (⟨256 + R.val, by omega⟩ : Fin 4352) e := by
  unfold val_main_v132 val_main_v129 val_main_v122 val_main_v115 val_main_v108 val_main_v101 val_main_v100 val_main_cst_9 val_main_v131 val_main_v130
  unfold xb cv
  rw [← v99_at x0 x1 x2 x3 x4 b R n q hR, ← v107_at x0 x1 x2 x3 x4 b R n q hR, ← v114_at x0 x1 x2 x3 x4 b R n q hR, ← v121_at x0 x1 x2 x3 x4 b R n q hR, ← v128_at x0 x1 x2 x3 x4 b R n q hR]
  generalize val_main_v99 x0 x1 x2 x3 x4 = y0
  generalize val_main_v107 x0 x1 x2 x3 x4 = y1
  generalize val_main_v114 x0 x1 x2 x3 x4 = y2
  generalize val_main_v121 x0 x1 x2 x3 x4 = y3
  generalize val_main_v128 x0 x1 x2 x3 x4 = y4
  pointwise
theorem v135_at (b : Fin 8) (r : Fin 4352) (e : Fin 512) : val_main_v135 x0 x1 x2 x3 x4 x5 (ix3 b r e) = xb x0 x1 x2 x3 x4 x5 b r e := by
  have h : val_main_v135 x0 x1 x2 x3 x4 x5 (ix3 b r e) = if h : r.val < 256 then val_main_v90 x0 x1 x2 x3 x4 x5 (ix3 b (⟨r.val, h⟩ : Fin 256) e)
      else val_main_v132 x0 x1 x2 x3 x4 x5 (ix3 (⟨b.val * 64 + (r.val - 256) / 64, by omega⟩ : Fin 512) (⟨(r.val - 256) % 64, by omega⟩ : Fin 64) e) := by
    unfold val_main_v135 val_main_v133
    generalize val_main_v90 x0 x1 x2 x3 x4 x5 = y
    generalize val_main_v132 x0 x1 x2 x3 x4 x5 = z
    pointwise
  rw [h]
  by_cases h0 : r.val < 256
  · rw [dif_pos h0, v90_at]
  · rw [dif_neg h0, v132_at x0 x1 x2 x3 x4 x5 b (⟨r.val - 256, by omega⟩ : Fin 4096) _ _ (by dsimp only; omega)]
    refine congrArg (fun r' => xb x0 x1 x2 x3 x4 x5 b r' e) (Fin.ext ?_)
    show 256 + (r.val - 256) = r.val
    omega

/-! ## The result -/

theorem res_at (b : Fin 8) (r : Fin 4352) (e : Fin 2176) : val_main_v148 x0 x1 x2 x3 x4 x5 (ix3 b r e) = out x0 x1 x2 x3 x4 x5 b r e := by
  unfold out gate Ideal.logistic
  unfold val_main_v148 val_main_v147 val_main_v146 val_main_v145 val_main_v144 val_main_v143 val_main_v142 val_main_v141 val_main_v140 val_main_v139 val_main_v138 val_main_v137 val_main_v136 val_main_cst_12 val_main_cst_11 val_main_cst_10
  generalize hp : val_main_v134 x0 x1 x2 x3 = p
  generalize hx : val_main_v135 x0 x1 x2 x3 x4 x5 = x
  pointwise
  subst hp hx
  simp only [v134_at, v135_at]
  have he := e.isLt
  by_cases h1 : e.val < 1280
  · rw [dif_pos h1, dif_pos h1]
  rw [dif_neg h1, dif_neg h1]
  by_cases h2 : e.val < 1536
  · rw [dif_pos (show e.val - 1280 < 256 by omega), dif_pos h2]
    refine congrArg (fun k => pj x0 x1 x2 x3 b r k) (Fin.ext ?_)
    show 1312 + (e.val - 1280) = e.val + 32
    omega
  rw [dif_neg (show ¬ e.val - 1280 < 256 by omega), dif_neg h2]
  by_cases h3 : e.val < 2048
  · rw [dif_pos (show e.val - 1280 - 256 < 512 by omega), dif_pos h3]
    refine congrArg (fun k => xb x0 x1 x2 x3 x4 x5 b r k * Ideal.div 1 (1 + Ideal.exp (-xb x0 x1 x2 x3 x4 x5 b r k))) (Fin.ext ?_)
    show e.val - 1280 - 256 = e.val - 1536
    omega
  rw [dif_neg (show ¬ e.val - 1280 - 256 < 512 by omega), dif_neg h3]
  by_cases h4 : e.val < 2080
  · rw [dif_pos (show e.val - 1280 - 256 - 512 < 32 by omega), dif_pos h4]
    refine congrArg (fun k => pj x0 x1 x2 x3 b r k) (Fin.ext ?_)
    show 1280 + (e.val - 1280 - 256 - 512) = e.val - 768
    omega
  rw [dif_neg (show ¬ e.val - 1280 - 256 - 512 < 32 by omega), dif_neg h4]
  by_cases h5 : e.val < 2088
  · rw [dif_pos (show e.val - 1280 - 256 - 512 - 32 < 8 by omega), dif_pos h5]
    refine congrArg (fun k => pj x0 x1 x2 x3 b r k) (Fin.ext ?_)
    show 2080 + (e.val - 1280 - 256 - 512 - 32) = e.val
    omega
  rw [dif_neg (show ¬ e.val - 1280 - 256 - 512 - 32 < 8 by omega), dif_neg h5]

end Cert.PreRefIdeal.RValue
end
-- ==== Proof.PreIdealFinal.lean ====
/- The projection kernel's result over the extended reals is the reference's. -/
module

public import proofs.«01_k».proof.Proof.PreIdealBlocks
public import proofs.«01_k».proof.Proof.PreRefValue

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec
variable (m : (ℓ : Loc nD τ sig) → Buf (Elt Ideal) ℓ)

/-! ## What a point writes -/

/-- The projection at a point's block. -/
def G (c : Dev nD) (t : Fin cfg0.N) (y : S1x256x2176.Idx) : EReal := out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bt t) (rt t (y 1)) (y 2)

theorem G_eq (c : Dev nD) (t : Fin cfg0.N) (y : S1x256x2176.Idx) (r : Fin 256) (e : Fin 2176) (hr : (y 1).val = r.val) (he : (y 2).val = e.val) :
    out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bt t) (rt t r) e = G m c t y := by
  obtain rfl : y 1 = r := Fin.ext hr
  obtain rfl : y 2 = e := Fin.ext he
  rfl

theorem piecesA (c : Dev nD) (t : Fin cfg0.N) (h0 : t.val % 17 = 0) : ∀ p ∈ (runA m c t h0).1, ∀ x : p.1.shape.Idx, p.2 x = G m c t (p.1.emb x) := by
  have H := blk_at m c t
  have ha : BitVec.ofNat 32 (grid0.coords t 1).val = BitVec.ofNat 32 (jt t).val := congrArg (BitVec.ofNat 32) (tile_at t)
  unfold runA kernelRun0_A
  simp only [List.forall_mem_cons, List.not_mem_nil, false_implies, implies_true, and_true]
  refine ⟨?_, ?_, ?_⟩
  · intro x
    have x0 : (x 0).val < 1 := (x 0).isLt
    have x2 : (x 2).val < 512 := (x 2).isLt
    have ex : (x : S1x256x512.Idx) = ix3 0 (x 1) (x 2) := eq3 x 0 (x 1) (x 2) (by show (x 0).val = 0; omega) rfl rfl
    refine Eq.trans (congrArg (fun z : S1x256x512.Idx => k0_pay16 _ _ _ _ _ _ _ _ _ z) ex) ?_
    refine (conv_at H (x 1) (rt t (x 1)) rfl (x 2) (⟨1536 + (x 2).val, by omega⟩ : Fin 2176) rfl _ ha).trans ?_
    exact G_eq m c t _ _ _ (by show 0 + 1 * (x 1).val = (x 1).val; omega) (by show 1536 + 1 * (x 2).val = 1536 + (x 2).val; omega)
  · intro x
    have x0 : (x 0).val < 1 := (x 0).isLt
    have x2 : (x 2).val < 128 := (x 2).isLt
    have ex : (x : S1x256x128.Idx) = ix3 0 (x 1) (x 2) := eq3 x 0 (x 1) (x 2) (by show (x 0).val = 0; omega) rfl rfl
    refine Eq.trans (congrArg (fun z : S1x256x128.Idx => k0_pay7 _ z) ex) ?_
    refine (last_at H (x 1) (rt t (x 1)) rfl (x 2) (⟨2048 + (x 2).val, by omega⟩ : Fin 2176) rfl).trans ?_
    exact G_eq m c t _ _ _ (by show 0 + 1 * (x 1).val = (x 1).val; omega) (by show 2048 + 1 * (x 2).val = 2048 + (x 2).val; omega)
  · intro x
    have x0 : (x 0).val < 1 := (x 0).isLt
    have x2 : (x 2).val < 1536 := (x 2).isLt
    have ex : (x : S1x256x1536.Idx) = ix3 0 (x 1) (x 2) := eq3 x 0 (x 1) (x 2) (by show (x 0).val = 0; omega) rfl rfl
    refine Eq.trans (congrArg (fun z : S1x256x1536.Idx => k0_pay6 _ _ _ _ _ z) ex) ?_
    refine (first_at H (x 1) (rt t (x 1)) rfl (x 2) (⟨(x 2).val, by omega⟩ : Fin 2176) rfl).trans ?_
    exact G_eq m c t _ _ _ (by show 0 + 1 * (x 1).val = (x 1).val; omega) (by show 0 + 1 * (x 2).val = (x 2).val; omega)

theorem piecesB (c : Dev nD) (t : Fin cfg0.N) (h0 : ¬t.val % 17 = 0) : ∀ p ∈ (runB m c t h0).1, ∀ x : p.1.shape.Idx, p.2 x = G m c t (p.1.emb x) := by
  have H := blk_at m c t
  have ha : BitVec.ofNat 32 (grid0.coords t 1).val = BitVec.ofNat 32 (jt t).val := congrArg (BitVec.ofNat 32) (tile_at t)
  unfold runB kernelRun0_B
  simp only [List.forall_mem_cons, List.not_mem_nil, false_implies, implies_true, and_true]
  refine ⟨?_, ?_, ?_⟩
  · intro x
    have x0 : (x 0).val < 1 := (x 0).isLt
    have x2 : (x 2).val < 512 := (x 2).isLt
    have ex : (x : S1x256x512.Idx) = ix3 0 (x 1) (x 2) := eq3 x 0 (x 1) (x 2) (by show (x 0).val = 0; omega) rfl rfl
    refine Eq.trans (congrArg (fun z : S1x256x512.Idx => k0_pay16 _ _ _ _ _ _ _ _ _ z) ex) ?_
    refine (conv_at H (x 1) (rt t (x 1)) rfl (x 2) (⟨1536 + (x 2).val, by omega⟩ : Fin 2176) rfl _ ha).trans ?_
    exact G_eq m c t _ _ _ (by show 0 + 1 * (x 1).val = (x 1).val; omega) (by show 1536 + 1 * (x 2).val = 1536 + (x 2).val; omega)
  · intro x
    have x0 : (x 0).val < 1 := (x 0).isLt
    have x2 : (x 2).val < 128 := (x 2).isLt
    have ex : (x : S1x256x128.Idx) = ix3 0 (x 1) (x 2) := eq3 x 0 (x 1) (x 2) (by show (x 0).val = 0; omega) rfl rfl
    refine Eq.trans (congrArg (fun z : S1x256x128.Idx => k0_pay7 _ z) ex) ?_
    refine (last_at H (x 1) (rt t (x 1)) rfl (x 2) (⟨2048 + (x 2).val, by omega⟩ : Fin 2176) rfl).trans ?_
    exact G_eq m c t _ _ _ (by show 0 + 1 * (x 1).val = (x 1).val; omega) (by show 2048 + 1 * (x 2).val = 2048 + (x 2).val; omega)
  · intro x
    have x0 : (x 0).val < 1 := (x 0).isLt
    have x2 : (x 2).val < 1536 := (x 2).isLt
    have ex : (x : S1x256x1536.Idx) = ix3 0 (x 1) (x 2) := eq3 x 0 (x 1) (x 2) (by show (x 0).val = 0; omega) rfl rfl
    refine Eq.trans (congrArg (fun z : S1x256x1536.Idx => k0_pay6 _ _ _ _ _ z) ex) ?_
    refine (first_at H (x 1) (rt t (x 1)) rfl (x 2) (⟨(x 2).val, by omega⟩ : Fin 2176) rfl).trans ?_
    exact G_eq m c t _ _ _ (by show 0 + 1 * (x 1).val = (x 1).val; omega) (by show 0 + 1 * (x 2).val = (x 2).val; omega)

theorem out7 (c : Dev nD) (t : Fin cfg0.N) (y : S1x256x2176.Idx) : (outsAt0 m c t.val t.isLt).1 y = G m c t y := by
  by_cases h0 : t.val % 17 = 0
  · refine (congrFun (congrArg Prod.fst (outsAt0_A m c t h0)) y).trans ?_
    unfold outsA
    dsimp only
    exact View.read_writes_apply_of_pieces (Val := Elt Ideal) VO0_7 VO0_7.junk (G m c t) (runA m c t h0).1 (piecesA m c t h0) y (coverA_7 m c t h0 y)
  · refine (congrFun (congrArg Prod.fst (outsAt0_B m c t h0)) y).trans ?_
    unfold outsB
    dsimp only
    exact View.read_writes_apply_of_pieces (Val := Elt Ideal) VO0_7 VO0_7.junk (G m c t) (runB m c t h0).1 (piecesB m c t h0) y (coverB_7 m c t h0 y)

/-! ## The result -/

/-- The reference's result at the kernel's arguments. -/
abbrev REF (c : Dev nD) : Vec Ideal S8x4352x2176 .f32 := Cert.PreRefIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem point (c : Dev nD) (t : Fin cfg0.N) (y : S1x256x2176.Idx) : (outsAt0 m c t.val t.isLt).1 y = REF m c (pl7 t y) := by
  have y0 : (y 0).val < 1 := (y 0).isLt
  have h0 := pl7_val t y 0
  have h1 := pl7_val t y 1
  have h2 := pl7_val t y 2
  rw [tr7] at h0 h1 h2
  have e : pl7 t y = ix3 (bt t) (rt t (y 1)) (y 2) := by
    refine eq3 _ _ _ _ (h0.trans ?_) (h1.trans ?_) (h2.trans ?_)
    · show t.val / 17 * 1 + (y 0).val = t.val / 17; omega
    · show t.val % 17 * 256 + (y 1).val = 256 * (t.val % 17) + (y 1).val; omega
    · show 0 * 2176 + (y 2).val = (y 2).val; omega
  rw [e]
  exact (out7 m c t y).trans (Cert.PreRefIdeal.RValue.res_at _ _ _ _ _ _ (bt t) (rt t (y 1)) (y 2)).symm

theorem covers7 : (cfg0.win 7).Covers := by
  refine ⟨fun x => ?_, fun β => ?_⟩
  · exact (by decide : ∀ x : Fin 3, 0 < S1x256x2176.size x) x
  · have n0 : (cfg0.win 7).nblk (0 : Fin 3) = 8 := by show (8 + 1 - 1) / 1 = 8; decide
    have n1 : (cfg0.win 7).nblk (1 : Fin 3) = 17 := by show (4352 + 256 - 1) / 256 = 17; decide
    have n2 : (cfg0.win 7).nblk (2 : Fin 3) = 1 := by show (2176 + 2176 - 1) / 2176 = 1; decide
    have h0 : (β (0 : Fin 3)).val < 8 := lt_of_lt_of_eq (β (0 : Fin 3)).isLt n0
    have h1 : (β (1 : Fin 3)).val < 17 := lt_of_lt_of_eq (β (1 : Fin 3)).isLt n1
    have h2 : (β (2 : Fin 3)).val < 1 := lt_of_lt_of_eq (β (2 : Fin 3)).isLt n2
    have hN : 17 * (β (0 : Fin 3)).val + (β (1 : Fin 3)).val < cfg0.N := lt_of_lt_of_eq (by omega : _ < 136) N_0.symm
    have e := tr7 ⟨_, hN⟩
    refine ⟨⟨_, hN⟩, flush0_7 _, fun x => ⟨?_, .inl rfl⟩⟩
    show cc0_transform_7 (grid0.coords ⟨_, hN⟩) x = _
    rw [e]
    match x with
    | ⟨0, _⟩ => show (17 * (β (0 : Fin 3)).val + (β (1 : Fin 3)).val) / 17 = (β (0 : Fin 3)).val; omega
    | ⟨1, _⟩ => show (17 * (β (0 : Fin 3)).val + (β (1 : Fin 3)).val) % 17 = (β (1 : Fin 3)).val; omega
    | ⟨2, _⟩ => show 0 = (β (2 : Fin 3)).val; omega

theorem final (c : Dev nD) : (dats m 0 c).arrAt 7 cfg0.N = REF m c :=
  (dats m 0 c).arrAt_eq_of_covers 7 _ covers7 fun t _ y => (congrFun (after0_7 m c t) y).trans (point m c t y)

/-- The run: the projection is the reference's, the arguments are unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v17_0) = REF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c), h.2 c⟩) (θ_run_and (run_main m ρ) (unchanged m ρ))

end Cert.PreIdeal.Hand
end
-- ==== Proof.PreIdealMorePay.lean ====
/- The projection kernel's other payloads over the extended reals, element by element. -/
module

public import proofs.«01_k».proof.Proof.PreIdealBlocks

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec

theorem pay17_at (q : FVec Ideal S256x2176 .f32) (v : Vec Ideal S256x512 .bf16) (r : Fin 256) (e : Fin 512) :
    k0_pay17 q v (ix2 r e) = ∑ k : Fin 256, q (ix2 r (⟨k.val, by omega⟩ : Fin 2176)) * v (ix2 k e) := by
  pointwise [k0_pay17]

theorem pay1_at (q : FVec Ideal S256x512 .f32) (r : Fin 256) (e : Fin 256) :
    k0_pay1 q (ix4 0 0 r e) = q (ix2 r (⟨e.val, by omega⟩ : Fin 512)) := by
  pointwise [k0_pay1]
theorem pay2_at (q : FVec Ideal S256x512 .f32) (r : Fin 256) (e : Fin 256) :
    k0_pay2 q (ix4 0 0 r e) = q (ix2 r (⟨256 + e.val, by omega⟩ : Fin 512)) := by
  pointwise [k0_pay2]
theorem pay3_at (q : FVec Ideal S256x512 .f32) (r : Fin 256) (e : Fin 256) :
    k0_pay3 q (ix4 0 0 r e) = q (ix2 r (⟨e.val, by omega⟩ : Fin 512)) := by
  pointwise [k0_pay3]
theorem pay4_at (q : FVec Ideal S256x512 .f32) (r : Fin 256) (e : Fin 256) :
    k0_pay4 q (ix4 0 0 r e) = q (ix2 r (⟨256 + e.val, by omega⟩ : Fin 512)) := by
  pointwise [k0_pay4]
theorem pay8_at (q : FVec Ideal S256x2176 .f32) (e r : Fin 256) :
    k0_pay8 q (ix2 e r) = q (ix2 r (⟨256 + e.val, by omega⟩ : Fin 2176)) := by
  pointwise [k0_pay8]

end Cert.PreIdeal.Hand
end
-- ==== Proof.PreRefMore.lean ====
/- The reference's channel transforms and transposed columns, element by element. -/
module

public import proofs.«01_k».proof.Proof.PreRefValue

@[expose] public section

set_option maxRecDepth 16384

noncomputable section
open Idealize.ShloMosaic Idealize.ShloMosaic.TcCoe Idealize.SL.Sem

namespace Cert.PreSpec

variable (x0 : (⟨3, ![8, 4352, 1024]⟩ : Shape).Idx → EReal) (x1 : (⟨4, ![8, 2, 8, 1024]⟩ : Shape).Idx → EReal) (x2 : (⟨1, ![1024]⟩ : Shape).Idx → EReal)
  (x3 : (⟨2, ![1024, 2088]⟩ : Shape).Idx → EReal) (x6 : (⟨2, ![256, 512]⟩ : Shape).Idx → EReal)

/-- Column `e` of the channel transform of a row: the row's first 256 columns times the matrix. -/
def ch (b : Fin 8) (r : Fin 4352) (e : Fin 512) : EReal :=
  ∑ k : Fin 256, pj x0 x1 x2 x3 b r (⟨k.val, by omega⟩ : Fin 2088) * x6 (ix2 k e)

end Cert.PreSpec

namespace Cert.PreRefIdeal.RValue

open Cert.PreRefIdeal Cert.PreRefIdeal.Gen Cert.PreRefIdeal.Read Cert.PreSpec
variable (x0 : (⟨S8x4352x1024, .f32⟩ : BufTy).Contents (Elt Ideal)) (x1 : (⟨S8x2x8x1024, .f32⟩ : BufTy).Contents (Elt Ideal)) (x2 : (⟨S1024, .f32⟩ : BufTy).Contents (Elt Ideal))
  (x3 : (⟨S1024x2088, .f32⟩ : BufTy).Contents (Elt Ideal)) (x6 : (⟨S256x512, .bf16⟩ : BufTy).Contents (Elt Ideal))

theorem v151_at (b : Fin 8) (r : Fin 4096) (e : Fin 512) : val_main_v151 x0 x1 x2 x3 x6 (ix3 b r e) = ch x0 x1 x2 x3 x6 b (⟨256 + r.val, by omega⟩ : Fin 4352) e := by
  have h : val_main_v151 x0 x1 x2 x3 x6 (ix3 b r e) = ∑ k : Fin 256, val_main_v49 x0 x1 x2 x3 (ix3 b r (⟨k.val, by omega⟩ : Fin 2088)) * x6 (ix2 k e) := by
    unfold val_main_v151 val_main_v149 val_main_v150
    generalize val_main_v49 x0 x1 x2 x3 = y
    pointwise
  rw [h]
  unfold ch
  exact Finset.sum_congr rfl fun k _ => congrArg (fun z : EReal => z * x6 (ix2 k e)) (v49_at x0 x1 x2 x3 b r _)

theorem v160_at (b : Fin 8) (r : Fin 256) (e : Fin 512) : val_main_v160 x0 x1 x2 x3 x6 (ix3 b r e) = ch x0 x1 x2 x3 x6 b (⟨r.val, by omega⟩ : Fin 4352) e := by
  have h : val_main_v160 x0 x1 x2 x3 x6 (ix3 b r e) = ∑ k : Fin 256, val_main_v24 x0 x1 x2 x3 (ix3 b r (⟨k.val, by omega⟩ : Fin 2088)) * x6 (ix2 k e) := by
    unfold val_main_v160 val_main_v158 val_main_v159
    generalize val_main_v24 x0 x1 x2 x3 = y
    pointwise
  rw [h]
  unfold ch
  exact Finset.sum_congr rfl fun k _ => congrArg (fun z : EReal => z * x6 (ix2 k e)) (v24_at x0 x1 x2 x3 b r _)

/-- The latent tokens' channel transform. -/
theorem lat_at (b : Fin 8) (h : Fin 2) (r : Fin 4096) (e : Fin 256) :
    val_main_v157 x0 x1 x2 x3 x6 (ix4 b h r e) = ch x0 x1 x2 x3 x6 b (⟨256 + r.val, by omega⟩ : Fin 4352) (⟨256 * h.val + e.val, by omega⟩ : Fin 512) := by
  rw [← v151_at]
  unfold val_main_v157 val_main_v156 val_main_v155 val_main_v154 val_main_v153 val_main_v152
  generalize val_main_v151 x0 x1 x2 x3 x6 = y
  pointwise
  by_cases h0 : h.val < 1
  · rw [dif_pos h0]
    refine congrArg (fun k => y (ix3 b r k)) (Fin.ext ?_)
    dsimp only
    omega
  · rw [dif_neg h0]
    refine congrArg (fun k => y (ix3 b r k)) (Fin.ext ?_)
    dsimp only
    omega

/-- The context tokens' channel transform. -/
theorem ctx_at (b : Fin 8) (h : Fin 2) (r : Fin 256) (e : Fin 256) :
    val_main_v166 x0 x1 x2 x3 x6 (ix4 b h r e) = ch x0 x1 x2 x3 x6 b (⟨r.val, by omega⟩ : Fin 4352) (⟨256 * h.val + e.val, by omega⟩ : Fin 512) := by
  rw [← v160_at]
  unfold val_main_v166 val_main_v165 val_main_v164 val_main_v163 val_main_v162 val_main_v161
  generalize val_main_v160 x0 x1 x2 x3 x6 = y
  pointwise
  by_cases h0 : h.val < 1
  · rw [dif_pos h0]
    refine congrArg (fun k => y (ix3 b r k)) (Fin.ext ?_)
    dsimp only
    omega
  · rw [dif_neg h0]
    refine congrArg (fun k => y (ix3 b r k)) (Fin.ext ?_)
    dsimp only
    omega

/-- The transposed columns. -/
theorem ut_at (e : Fin 256) (n : Fin 34816) (b : Fin 8) (r : Fin 4352) (hn : n.val = 4352 * b.val + r.val) :
    val_main_v170 x0 x1 x2 x3 (ix2 e n) = pj x0 x1 x2 x3 b r (⟨256 + e.val, by omega⟩ : Fin 2088) := by
  rw [← v134_at]
  unfold val_main_v170 val_main_v169 val_main_v168 val_main_v167
  generalize val_main_v134 x0 x1 x2 x3 = y
  have hr := r.isLt
  pointwise
  refine congrArg₂ (fun p q => y (ix3 p q _)) (Fin.ext ?_) (Fin.ext ?_)
  · dsimp only
    omega
  · dsimp only
    omega

end Cert.PreRefIdeal.RValue
end
-- ==== Proof.PreIdealMore.lean ====
/- The projection kernel's other results over the extended reals are the reference's. -/
module

public import proofs.«01_k».proof.Proof.PreIdealFinal
public import proofs.«01_k».proof.Proof.PreIdealMorePay
public import proofs.«01_k».proof.Proof.PreRefMore

@[expose] public section

set_option maxRecDepth 16384

noncomputable section
open Idealize.ShloMosaic Idealize.ShloMosaic.TcCoe Idealize.SL.Sem
open Idealize.ShloMosaic.Pipeline (Dat)

namespace Cert.PreIdeal.Hand

open Cert.PreIdeal Cert.PreIdeal.Gen Cert.PreSpec

/-- The product with the channel matrix is the channel transform of the row. -/
theorem xcs_at {x0 : (⟨3, ![8, 4352, 1024]⟩ : Shape).Idx → EReal} {x1 : (⟨4, ![8, 2, 8, 1024]⟩ : Shape).Idx → EReal} {x2 : (⟨1, ![1024]⟩ : Shape).Idx → EReal}
    {x3 : (⟨2, ![1024, 2088]⟩ : Shape).Idx → EReal} {x4 : (⟨2, ![5, 512]⟩ : Shape).Idx → EReal} {x5 : (⟨1, ![512]⟩ : Shape).Idx → EReal} {x6 : (⟨2, ![256, 512]⟩ : Shape).Idx → EReal} {b : Fin 8} {j : Fin 17}
    {v0 : Vec Ideal S1x256x1024 .f32} {v2 : Vec Ideal S1x1024 .f32} {v16 v22 : Vec Ideal S1x1x1x1024 .f32} {v27 : Vec Ideal S1024x2176 .bf16}
    {v50 w0 w1 w2 w3 w4 : Vec Ideal S1x512 .f32} {v6 : Vec Ideal S256x512 .bf16} (H : Blk x0 x1 x2 x3 x4 x5 b j v0 v2 v16 v22 v27 v50 w0 w1 w2 w3 w4)
    (H6 : ∀ (k : Fin 256) (e : Fin 512), v6 (ix2 k e) = x6 (ix2 k e)) (r : Fin 256) (R : Fin 4352) (hR : R.val = 256 * j.val + r.val) (e : Fin 512) :
    k0_pay17 (k0_pay5 v0 v2 v16 v22 v27) v6 (ix2 r e) = ch x0 x1 x2 x3 x6 b R e := by
  rw [pay17_at]
  unfold ch
  exact Finset.sum_congr rfl fun k _ => congrArg₂ (fun p q : EReal => p * q) (q_at H r R hR _ _ (.inl ⟨by have := k.isLt; show k.val < 1280; omega, rfl⟩)) (H6 k e)

variable (m : (ℓ : Loc nD τ sig) → Buf (Elt Ideal) ℓ)

/-! ## The channel matrix at a point -/

/-- Where an element of window 6's block sits in its array. -/
def pl6 (t : Fin cfg0.N) (y : S256x512.Idx) : S256x512.Idx := ((cfg0.win 6).blk t).view.emb y
theorem pl6_val (t : Fin cfg0.N) (y : S256x512.Idx) (ax : Fin 2) : (pl6 t y ax : ℕ) = cc0_transform_6 (grid0.coords t) ax * S256x512.size ax + (y ax : ℕ) :=
  (cfg0.win 6).rect_emb_val t y ax rfl
theorem rd6 (t : Fin cfg0.N) (A : Vec Ideal S256x512 .bf16) (y : S256x512.Idx) : (((cfg0.win 6).blk t).view.read (Elt Ideal) A : Vec Ideal S256x512 .bf16) y = A (pl6 t y) := rfl
def bk6 (c : Dev nD) (t : Fin cfg0.N) : Vec Ideal S256x512 .bf16 := iblk m c 6 t
theorem j6 (c : Dev nD) (t : Fin cfg0.N) (k : Fin 256) (e : Fin 512) : bk6 m c t (ix2 k e) = (m ((c : Thread nD τ).loc main_arg6)) (ix2 k e) :=
  (rd6 t (V m c main_arg6) _).trans ((congrArg (V m c main_arg6) (eq2 _ k e ((pl6_val t (ix2 k e) 0).trans (by show 0 * 256 + k.val = k.val; omega)) ((pl6_val t (ix2 k e) 1).trans (by show 0 * 512 + e.val = e.val; omega)))).trans (congrFun (V_main_arg6 m c) _))
def ld6 (c : Dev nD) (t : Fin cfg0.N) : Vec Ideal S256x512 .bf16 :=
  View.readAt (Elt Ideal) (ms0_6 t).view (Rect.unit (s := S256x512) ![0, 0] S256x512.size inb_S256x512_S256x512_0_0).toLoadRect ((hs0_6 t).unread (bk6 m c t))
theorem ld6_at (c : Dev nD) (t : Fin cfg0.N) (k : Fin 256) (e : Fin 512) : ld6 m c t (ix2 k e) = bk6 m c t (ix2 k e) := by
  exact (ldu (hs0_6 t) _ _ _ _ _).trans <| congrArg (bk6 m c t) (eq2 _ k e (by show 0 + 1 * k.val = k.val; omega) (by show 0 + 1 * e.val = e.val; omega))

/-! ## What a point writes -/

/-- The channel transform at a point's block. -/
def G4 (c : Dev nD) (t : Fin cfg0.N) (y : S1x2x256x256.Idx) : EReal :=
  ch (m ((c : Thread nD τ).loc main_arg0)) (m ((c : Thread nD τ).loc main_arg1)) (m ((c : Thread nD τ).loc main_arg2)) (m ((c : Thread nD τ).loc main_arg3)) (m ((c : Thread nD τ).loc main_arg6)) (bt t) (rt t (y 2))
    (⟨256 * (y 1).val + (y 3).val, by have h1 : (y 1).val < 2 := (y 1).isLt; have h3 : (y 3).val < 256 := (y 3).isLt; omega⟩ : Fin 512)

theorem G4_eq (c : Dev nD) (t : Fin cfg0.N) (y : S1x2x256x256.Idx) (r : Fin 256) (e : Fin 512) (hr : (y 2).val = r.val) (he : e.val = 256 * (y 1).val + (y 3).val) :
    ch (m ((c : Thread nD τ).loc main_arg0)) (m ((c : Thread nD τ).loc main_arg1)) (m ((c : Thread nD τ).loc main_arg2)) (m ((c : Thread nD τ).loc main_arg3)) (m ((c : Thread nD τ).loc main_arg6)) (bt t) (rt t r) e = G4 m c t y := by
  obtain rfl : y 2 = r := Fin.ext hr
  unfold G4
  exact congrArg (fun k => ch (m ((c : Thread nD τ).loc main_arg0)) (m ((c : Thread nD τ).loc main_arg1)) (m ((c : Thread nD τ).loc main_arg2)) (m ((c : Thread nD τ).loc main_arg3)) (m ((c : Thread nD τ).loc main_arg6)) (bt t) (rt t (y 2)) k) (Fin.ext he)

/-- The transposed columns at a point's block. -/
def GT (c : Dev nD) (t : Fin cfg0.N) (y : S256x256.Idx) : EReal :=
  pj (m ((c : Thread nD τ).loc main_arg0)) (m ((c : Thread nD τ).loc main_arg1)) (m ((c : Thread nD τ).loc main_arg2)) (m ((c : Thread nD τ).loc main_arg3)) (bt t) (rt t (y 1)) (⟨256 + (y 0).val, by have h0 : (y 0).val < 256 := (y 0).isLt; omega⟩ : Fin 2088)

theorem GT_eq (c : Dev nD) (t : Fin cfg0.N) (y : S256x256.Idx) (r : Fin 256) (e : Fin 2088) (hr : (y 1).val = r.val) (he : e.val = 256 + (y 0).val) :
    pj (m ((c : Thread nD τ).loc main_arg0)) (m ((c : Thread nD τ).loc main_arg1)) (m ((c : Thread nD τ).loc main_arg2)) (m ((c : Thread nD τ).loc main_arg3)) (bt t) (rt t r) e = GT m c t y := by
  obtain rfl : y 1 = r := Fin.ext hr
  unfold GT
  exact congrArg (fun k => pj (m ((c : Thread nD τ).loc main_arg0)) (m ((c : Thread nD τ).loc main_arg1)) (m ((c : Thread nD τ).loc main_arg2)) (m ((c : Thread nD τ).loc main_arg3)) (bt t) (rt t (y 1)) k) (Fin.ext he)

theorem piecesA9 (c : Dev nD) (t : Fin cfg0.N) (h0 : t.val % 17 = 0) : ∀ p ∈ (runA m c t h0).2.2.1, ∀ x : p.1.shape.Idx, p.2 x = G4 m c t (p.1.emb x) := by
  have H := blk_at m c t
  have H6 := fun k e => (ld6_at m c t k e).trans (j6 m c t k e)
  unfold runA kernelRun0_A
  simp only [List.forall_mem_cons, List.not_mem_nil, false_implies, implies_true, and_true]
  refine ⟨?_, ?_⟩
  · intro x
    have x0 : (x 0).val < 1 := (x 0).isLt
    have x1 : (x 1).val < 1 := (x 1).isLt
    have x3 : (x 3).val < 256 := (x 3).isLt
    have ex : (x : S1x1x256x256.Idx) = ix4 0 0 (x 2) (x 3) := eq4 x 0 0 (x 2) (x 3) (by show (x 0).val = 0; omega) (by show (x 1).val = 0; omega) rfl rfl
    refine Eq.trans (congrArg (fun z : S1x1x256x256.Idx => k0_pay2 _ z) ex) ?_
    refine (pay2_at _ (x 2) (x 3)).trans ?_
    refine (xcs_at H H6 (x 2) (rt t (x 2)) rfl _).trans ?_
    exact G4_eq m c t _ _ _ (by show 0 + 1 * (x 2).val = (x 2).val; omega) (by show 256 + (x 3).val = 256 * (1 + 1 * (x 1).val) + (0 + 1 * (x 3).val); omega)
  · intro x
    have x0 : (x 0).val < 1 := (x 0).isLt
    have x1 : (x 1).val < 1 := (x 1).isLt
    have x3 : (x 3).val < 256 := (x 3).isLt
    have ex : (x : S1x1x256x256.Idx) = ix4 0 0 (x 2) (x 3) := eq4 x 0 0 (x 2) (x 3) (by show (x 0).val = 0; omega) (by show (x 1).val = 0; omega) rfl rfl
    refine Eq.trans (congrArg (fun z : S1x1x256x256.Idx => k0_pay1 _ z) ex) ?_
    refine (pay1_at _ (x 2) (x 3)).trans ?_
    refine (xcs_at H H6 (x 2) (rt t (x 2)) rfl _).trans ?_
    exact G4_eq m c t _ _ _ (by show 0 + 1 * (x 2).val = (x 2).val; omega) (by show (x 3).val = 256 * (0 + 1 * (x 1).val) + (0 + 1 * (x 3).val); omega)

theorem piecesB8 (c : Dev nD) (t : Fin cfg0.N) (h0 : ¬t.val % 17 = 0) : ∀ p ∈ (runB m c t h0).2.1, ∀ x : p.1.shape.Idx, p.2 x = G4 m c t (p.1.emb x) := by
  have H := blk_at m c t
  have H6 := fun k e => (ld6_at m c t k e).trans (j6 m c t k e)
  unfold runB kernelRun0_B
  simp only [List.forall_mem_cons, List.not_mem_nil, false_implies, implies_true, and_true]
  refine ⟨?_, ?_⟩
  · intro x
    have x0 : (x 0).val < 1 := (x 0).isLt
    have x1 : (x 1).val < 1 := (x 1).isLt
    have x3 : (x 3).val < 256 := (x 3).isLt
    have ex : (x : S1x1x256x256.Idx) = ix4 0 0 (x 2) (x 3) := eq4 x 0 0 (x 2) (x 3) (by show (x 0).val = 0; omega) (by show (x 1).val = 0; omega) rfl rfl
    refine Eq.trans (congrArg (fun z : S1x1x256x256.Idx => k0_pay4 _ z) ex) ?_
    refine (pay4_at _ (x 2) (x 3)).trans ?_
    refine (xcs_at H H6 (x 2) (rt t (x 2)) rfl _).trans ?_
    exact G4_eq m c t _ _ _ (by show 0 + 1 * (x 2).val = (x 2).val; omega) (by show 256 + (x 3).val = 256 * (1 + 1 * (x 1).val) + (0 + 1 * (x 3).val); omega)
  · intro x
    have x0 : (x 0).val < 1 := (x 0).isLt
    have x1 : (x 1).val < 1 := (x 1).isLt
    have x3 : (x 3).val < 256 := (x 3).isLt
    have ex : (x : S1x1x256x256.Idx) = ix4 0 0 (x 2) (x 3) := eq4 x 0 0 (x 2) (x 3) (by show (x 0).val = 0; omega) (by show (x 1).val = 0; omega) rfl rfl
    refine Eq.trans (congrArg (fun z : S1x1x256x256.Idx => k0_pay3 _ z) ex) ?_
    refine (pay3_at _ (x 2) (x 3)).trans ?_
    refine (xcs_at H H6 (x 2) (rt t (x 2)) rfl _).trans ?_
    exact G4_eq m c t _ _ _ (by show 0 + 1 * (x 2).val = (x 2).val; omega) (by show (x 3).val = 256 * (0 + 1 * (x 1).val) + (0 + 1 * (x 3).val); omega)

theorem piecesA10 (c : Dev nD) (t : Fin cfg0.N) (h0 : t.val % 17 = 0) : ∀ p ∈ (runA m c t h0).2.2.2.1, ∀ x : p.1.shape.Idx, p.2 x = GT m c t (p.1.emb x) := by
  have H := blk_at m c t
  unfold runA kernelRun0_A
  simp only [List.forall_mem_cons, List.not_mem_nil, false_implies, implies_true, and_true]
  intro x
  have x0 : (x 0).val < 256 := (x 0).isLt
  have ex : (x : S256x256.Idx) = ix2 (x 0) (x 1) := eq2 x (x 0) (x 1) rfl rfl
  refine Eq.trans (congrArg (fun z : S256x256.Idx => k0_pay8 _ z) ex) ?_
  refine (pay8_at _ (x 0) (x 1)).trans ?_
  refine (q_at H (x 1) (rt t (x 1)) rfl _ (⟨256 + (x 0).val, by omega⟩ : Fin 2088) (.inl ⟨by show 256 + (x 0).val < 1280; omega, rfl⟩)).trans ?_
  exact GT_eq m c t _ _ _ (by show 0 + 1 * (x 1).val = (x 1).val; omega) (by show 256 + (x 0).val = 256 + (0 + 1 * (x 0).val); omega)

theorem piecesB10 (c : Dev nD) (t : Fin cfg0.N) (h0 : ¬t.val % 17 = 0) : ∀ p ∈ (runB m c t h0).2.2.1, ∀ x : p.1.shape.Idx, p.2 x = GT m c t (p.1.emb x) := by
  have H := blk_at m c t
  unfold runB kernelRun0_B
  simp only [List.forall_mem_cons, List.not_mem_nil, false_implies, implies_true, and_true]
  intro x
  have x0 : (x 0).val < 256 := (x 0).isLt
  have ex : (x : S256x256.Idx) = ix2 (x 0) (x 1) := eq2 x (x 0) (x 1) rfl rfl
  refine Eq.trans (congrArg (fun z : S256x256.Idx => k0_pay8 _ z) ex) ?_
  refine (pay8_at _ (x 0) (x 1)).trans ?_
  refine (q_at H (x 1) (rt t (x 1)) rfl _ (⟨256 + (x 0).val, by omega⟩ : Fin 2088) (.inl ⟨by show 256 + (x 0).val < 1280; omega, rfl⟩)).trans ?_
  exact GT_eq m c t _ _ _ (by show 0 + 1 * (x 1).val = (x 1).val; omega) (by show 256 + (x 0).val = 256 + (0 + 1 * (x 0).val); omega)

theorem out8 (c : Dev nD) (t : Fin cfg0.N) (h0 : ¬t.val % 17 = 0) (y : S1x2x256x256.Idx) : (outsAt0 m c t.val t.isLt).2.1 y = G4 m c t y := by
  refine (congrFun (congrArg (fun p => p.2.1) (outsAt0_B m c t h0)) y).trans ?_
  unfold outsB
  dsimp only
  exact View.read_writes_apply_of_pieces (Val := Elt Ideal) VO0_8 VO0_8.junk (G4 m c t) (runB m c t h0).2.1 (piecesB8 m c t h0) y (coverB_8 m c t h0 y)

theorem out9A (c : Dev nD) (t : Fin cfg0.N) (h0 : t.val % 17 = 0) (y : S1x2x256x256.Idx) : (outsAt0 m c t.val t.isLt).2.2.1 y = G4 m c t y := by
  refine (congrFun (congrArg (fun p => p.2.2.1) (outsAt0_A m c t h0)) y).trans ?_
  unfold outsA
  dsimp only
  exact View.read_writes_apply_of_pieces (Val := Elt Ideal) VO0_9 VO0_9.junk (G4 m c t) (runA m c t h0).2.2.1 (piecesA9 m c t h0) y (coverA_9 m c t h0 y)

theorem out10 (c : Dev nD) (t : Fin cfg0.N) (y : S256x256.Idx) : (outsAt0 m c t.val t.isLt).2.2.2 y = GT m c t y := by
  by_cases h0 : t.val % 17 = 0
  · refine (congrFun (congrArg (fun p => p.2.2.2) (outsAt0_A m c t h0)) y).trans ?_
    unfold outsA
    dsimp only
    exact View.read_writes_apply_of_pieces (Val := Elt Ideal) VO0_10 VO0_10.junk (GT m c t) (runA m c t h0).2.2.2.1 (piecesA10 m c t h0) y (coverA_10 m c t h0 y)
  · refine (congrFun (congrArg (fun p => p.2.2.2) (outsAt0_B m c t h0)) y).trans ?_
    unfold outsB
    dsimp only
    exact View.read_writes_apply_of_pieces (Val := Elt Ideal) VO0_10 VO0_10.junk (GT m c t) (runB m c t h0).2.2.1 (piecesB10 m c t h0) y (coverB_10 m c t h0 y)

theorem out9B (c : Dev nD) (t : Fin cfg0.N) (h0 : ¬t.val % 17 = 0) :
    (outsAt0 m c t.val t.isLt).2.2.1 = (outsAt0 m c (t.val - 1) (Nat.lt_of_le_of_lt (Nat.sub_le _ _) t.isLt)).2.2.1 := by
  rw [outsAt0_B m c t h0]
  generalize outsAt0 m c (t.val - 1) (Nat.lt_of_le_of_lt (Nat.sub_le _ _) t.isLt) = p
  unfold outsB
  exact rfl

/-- The context output keeps, through a row of tiles, what the row's first tile left. -/
theorem out9 (c : Dev nD) (y : S1x2x256x256.Idx) (r : Fin 4352) (e : Fin 512) (b : Fin 8) (hr : r.val = (y 2).val) (he : e.val = 256 * (y 1).val + (y 3).val) :
    ∀ (n : ℕ) (t : Fin cfg0.N), t.val = n → b.val = n / 17 → (outsAt0 m c t.val t.isLt).2.2.1 y = ch (m ((c : Thread nD τ).loc main_arg0)) (m ((c : Thread nD τ).loc main_arg1)) (m ((c : Thread nD τ).loc main_arg2)) (m ((c : Thread nD τ).loc main_arg3)) (m ((c : Thread nD τ).loc main_arg6)) b r e := by
  intro n
  induction n with
  | zero =>
    intro t ht hb
    refine (out9A m c t (by omega) y).trans ?_
    refine (G4_eq m c t y (y 2) e rfl he).symm.trans ?_
    exact congrArg₂ (fun p q => ch (m ((c : Thread nD τ).loc main_arg0)) (m ((c : Thread nD τ).loc main_arg1)) (m ((c : Thread nD τ).loc main_arg2)) (m ((c : Thread nD τ).loc main_arg3)) (m ((c : Thread nD τ).loc main_arg6)) p q e) (Fin.ext (by show t.val / 17 = b.val; omega)) (Fin.ext (by show 256 * (t.val % 17) + (y 2).val = r.val; omega))
  | succ n ih =>
    intro t ht hb
    by_cases h0 : t.val % 17 = 0
    · refine (out9A m c t h0 y).trans ?_
      refine (G4_eq m c t y (y 2) e rfl he).symm.trans ?_
      exact congrArg₂ (fun p q => ch (m ((c : Thread nD τ).loc main_arg0)) (m ((c : Thread nD τ).loc main_arg1)) (m ((c : Thread nD τ).loc main_arg2)) (m ((c : Thread nD τ).loc main_arg3)) (m ((c : Thread nD τ).loc main_arg6)) p q e) (Fin.ext (by show t.val / 17 = b.val; omega)) (Fin.ext (by show 256 * (t.val % 17) + (y 2).val = r.val; omega))
    · have h := ih ⟨t.val - 1, Nat.lt_of_le_of_lt (Nat.sub_le _ _) t.isLt⟩ (by show t.val - 1 = n; omega) (by omega)
      exact (congrFun (out9B m c t h0) y).trans h

/-! ## The results -/

abbrev REF1 (c : Dev nD) : Vec Ideal S8x2x4096x256 .bf16 := Cert.PreRefIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg6))
abbrev REF2 (c : Dev nD) : Vec Ideal S8x2x256x256 .bf16 := Cert.PreRefIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg6))
abbrev REF3 (c : Dev nD) : Vec Ideal S256x34816 .bf16 := Cert.PreRefIdeal.Read.val_main_v170 (F := Ideal) (m ((c : Thread nD τ).loc main_arg0)) (m ((c : Thread nD τ).loc main_arg1)) (m ((c : Thread nD τ).loc main_arg2)) (m ((c : Thread nD τ).loc main_arg3))

theorem tr8 : ∀ t : Fin cfg0.N, cc0_transform_8 (grid0.coords t) = ![t.val / 17, 0, t.val % 17 - 1, 0] :=
  (by decide +kernel : ∀ t : Fin grid0.N, cc0_transform_8 (grid0.coords t) = ![t.val / 17, 0, t.val % 17 - 1, 0])
theorem tr9 : ∀ t : Fin cfg0.N, cc0_transform_9 (grid0.coords t) = ![t.val / 17, 0, 0, 0] :=
  (by decide +kernel : ∀ t : Fin grid0.N, cc0_transform_9 (grid0.coords t) = ![t.val / 17, 0, 0, 0])
theorem tr10 : ∀ t : Fin cfg0.N, cc0_transform_10 (grid0.coords t) = ![0, t.val] :=
  (by decide +kernel : ∀ t : Fin grid0.N, cc0_transform_10 (grid0.coords t) = ![0, t.val])

/-- Where an element of window 8's block sits in its array. -/
def pl8 (t : Fin cfg0.N) (y : S1x2x256x256.Idx) : S8x2x4096x256.Idx := ((cfg0.win 8).blk t).view.emb y
theorem pl8_val (t : Fin cfg0.N) (y : S1x2x256x256.Idx) (ax : Fin 4) : (pl8 t y ax : ℕ) = cc0_transform_8 (grid0.coords t) ax * S1x2x256x256.size ax + (y ax : ℕ) :=
  (cfg0.win 8).rect_emb_val t y ax rfl
/-- Where an element of window 9's block sits in its array. -/
def pl9 (t : Fin cfg0.N) (y : S1x2x256x256.Idx) : S8x2x256x256.Idx := ((cfg0.win 9).blk t).view.emb y
theorem pl9_val (t : Fin cfg0.N) (y : S1x2x256x256.Idx) (ax : Fin 4) : (pl9 t y ax : ℕ) = cc0_transform_9 (grid0.coords t) ax * S1x2x256x256.size ax + (y ax : ℕ) :=
  (cfg0.win 9).rect_emb_val t y ax rfl
/-- Where an element of window 10's block sits in its array. -/
def pl10 (t : Fin cfg0.N) (y : S256x256.Idx) : S256x34816.Idx := ((cfg0.win 10).blk t).view.emb y
theorem pl10_val (t : Fin cfg0.N) (y : S256x256.Idx) (ax : Fin 2) : (pl10 t y ax : ℕ) = cc0_transform_10 (grid0.coords t) ax * S256x256.size ax + (y ax : ℕ) :=
  (cfg0.win 10).rect_emb_val t y ax rfl

theorem point8 (c : Dev nD) (t : Fin cfg0.N) (ht : ¬t.val % 17 = 0) (y : S1x2x256x256.Idx) : (outsAt0 m c t.val t.isLt).2.1 y = REF1 m c (pl8 t y) := by
  have y0 : (y 0).val < 1 := (y 0).isLt
  have y1 : (y 1).val < 2 := (y 1).isLt
  have y2 : (y 2).val < 256 := (y 2).isLt
  have y3 : (y 3).val < 256 := (y 3).isLt
  have h0 := pl8_val t y 0
  have h1 := pl8_val t y 1
  have h2 := pl8_val t y 2
  have h3 := pl8_val t y 3
  rw [tr8] at h0 h1 h2 h3
  have e : pl8 t y = ix4 (bt t) (⟨(y 1).val, y1⟩ : Fin 2) (⟨(t.val % 17 - 1) * 256 + (y 2).val, by omega⟩ : Fin 4096) (⟨(y 3).val, y3⟩ : Fin 256) := by
    refine eq4 _ _ _ _ _ (h0.trans ?_) (h1.trans ?_) (h2.trans ?_) (h3.trans ?_)
    · show t.val / 17 * 1 + (y 0).val = t.val / 17; omega
    · show 0 * 2 + (y 1).val = (y 1).val; omega
    · show (t.val % 17 - 1) * 256 + (y 2).val = (t.val % 17 - 1) * 256 + (y 2).val; rfl
    · show 0 * 256 + (y 3).val = (y 3).val; omega
  rw [e]
  refine (out8 m c t ht y).trans (Eq.trans ?_ (Cert.PreRefIdeal.RValue.lat_at _ _ _ _ _ (bt t) _ _ _).symm)
  unfold G4
  exact congrArg (fun r => ch (m ((c : Thread nD τ).loc main_arg0)) (m ((c : Thread nD τ).loc main_arg1)) (m ((c : Thread nD τ).loc main_arg2)) (m ((c : Thread nD τ).loc main_arg3)) (m ((c : Thread nD τ).loc main_arg6)) (bt t) r _) (Fin.ext (by show 256 * (t.val % 17) + (y 2).val = 256 + ((t.val % 17 - 1) * 256 + (y 2).val); omega))

theorem point9 (c : Dev nD) (t : Fin cfg0.N) (y : S1x2x256x256.Idx) : (outsAt0 m c t.val t.isLt).2.2.1 y = REF2 m c (pl9 t y) := by
  have y0 : (y 0).val < 1 := (y 0).isLt
  have y1 : (y 1).val < 2 := (y 1).isLt
  have y2 : (y 2).val < 256 := (y 2).isLt
  have y3 : (y 3).val < 256 := (y 3).isLt
  have h0 := pl9_val t y 0
  have h1 := pl9_val t y 1
  have h2 := pl9_val t y 2
  have h3 := pl9_val t y 3
  rw [tr9] at h0 h1 h2 h3
  have e : pl9 t y = ix4 (bt t) (⟨(y 1).val, y1⟩ : Fin 2) (⟨(y 2).val, y2⟩ : Fin 256) (⟨(y 3).val, y3⟩ : Fin 256) := by
    refine eq4 _ _ _ _ _ (h0.trans ?_) (h1.trans ?_) (h2.trans ?_) (h3.trans ?_)
    · show t.val / 17 * 1 + (y 0).val = t.val / 17; omega
    · show 0 * 2 + (y 1).val = (y 1).val; omega
    · show 0 * 256 + (y 2).val = (y 2).val; omega
    · show 0 * 256 + (y 3).val = (y 3).val; omega
  rw [e]
  exact (out9 m c y (⟨(y 2).val, by omega⟩ : Fin 4352) (⟨256 * (y 1).val + (y 3).val, by omega⟩ : Fin 512) (bt t) rfl rfl t.val t rfl rfl).trans (Cert.PreRefIdeal.RValue.ctx_at _ _ _ _ _ (bt t) _ _ _).symm

theorem point10 (c : Dev nD) (t : Fin cfg0.N) (y : S256x256.Idx) : (outsAt0 m c t.val t.isLt).2.2.2 y = REF3 m c (pl10 t y) := by
  have ht := t_lt t
  have y0 : (y 0).val < 256 := (y 0).isLt
  have y1 : (y 1).val < 256 := (y 1).isLt
  have h0 := pl10_val t y 0
  have h1 := pl10_val t y 1
  rw [tr10] at h0 h1
  have e : pl10 t y = ix2 (⟨(y 0).val, y0⟩ : Fin 256) (⟨t.val * 256 + (y 1).val, by omega⟩ : Fin 34816) := by
    refine eq2 _ _ _ (h0.trans ?_) (h1.trans ?_)
    · show 0 * 256 + (y 0).val = (y 0).val; omega
    · show t.val * 256 + (y 1).val = t.val * 256 + (y 1).val; rfl
  rw [e]
  exact (out10 m c t y).trans (Cert.PreRefIdeal.RValue.ut_at _ _ _ _ _ _ (bt t) (rt t (y 1)) (by show t.val * 256 + (y 1).val = 4352 * (t.val / 17) + (256 * (t.val % 17) + (y 1).val); omega)).symm

theorem covers8 : (cfg0.win 8).Covers := by decide +kernel
theorem covers9 : (cfg0.win 9).Covers := by decide +kernel
theorem covers10 : (cfg0.win 10).Covers := by decide +kernel

theorem final8 (c : Dev nD) : (dats m 0 c).arrAt 8 cfg0.N = REF1 m c :=
  (dats m 0 c).arrAt_eq_of_covers 8 _ covers8 fun t hf y => (congrFun (after0_8 m c t) y).trans (point8 m c t (fun h0 => by
    have h := noFlush0_8_A t ((hcond0_0 t).mpr h0) (not1_of t h0)
    rw [hf] at h
    exact absurd h Bool.noConfusion) y)
theorem final9 (c : Dev nD) : (dats m 0 c).arrAt 9 cfg0.N = REF2 m c :=
  (dats m 0 c).arrAt_eq_of_covers 9 _ covers9 fun t _ y => (congrFun (after0_9 m c t) y).trans (point9 m c t y)
theorem final10 (c : Dev nD) : (dats m 0 c).arrAt 10 cfg0.N = REF3 m c :=
  (dats m 0 c).arrAt_eq_of_covers 10 _ covers10 fun t _ y => (congrFun (after0_10 m c t) y).trans (point10 m c t y)

/-- The run: the four results are the reference's, the arguments are unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v17_0) = REF m c
      ∧ r.2.mem ((c.tc : Thread nD τ).loc main_v17_1) = REF1 m c
      ∧ r.2.mem ((c.tc : Thread nD τ).loc main_v17_2) = REF2 m c
      ∧ r.2.mem ((c.tc : Thread nD τ).loc main_v17_3) = REF3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c), ((h.1 c).1 8).trans (final8 m c), ((h.1 c).1 9).trans (final9 m c), ((h.1 c).1 10).trans (final10 m c), h.2 c⟩) (θ_run_and (run_main m ρ) (unchanged m ρ))

end Cert.PreIdeal.Hand
end
-- ==== Proof.lean ====
module

public import proofs.«01_k».proof.Defs
public import proofs.«01_k».proof.Proof.Gen.Four
public import proofs.«01_k».proof.Proof.Gen.Four.Skeleton
public import proofs.«01_k».proof.Proof.Gen.Four.Launch
public import proofs.«01_k».proof.Proof.Gen.Four.Points
public import proofs.«01_k».proof.Proof.Gen.Four.Frame
public import proofs.«01_k».proof.Proof.Gen.FourIdeal
public import proofs.«01_k».proof.Proof.Gen.FourIdeal.Skeleton
public import proofs.«01_k».proof.Proof.Gen.FourIdeal.Launch
public import proofs.«01_k».proof.Proof.Gen.FourIdeal.Points
public import proofs.«01_k».proof.Proof.Gen.FourIdeal.Frame
public import proofs.«01_k».proof.Proof.Gen.FourRefIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_tables
public import proofs.«01_k».proof.Proof.Gen.Pre
public import proofs.«01_k».proof.Proof.Gen.Pre.Skeleton
public import proofs.«01_k».proof.Proof.Gen.Pre.Launch
public import proofs.«01_k».proof.Proof.Gen.PreIdeal
public import proofs.«01_k».proof.Proof.Gen.PreIdeal.Skeleton
public import proofs.«01_k».proof.Proof.Gen.PreIdeal.Launch
public import proofs.«01_k».proof.Proof.Gen.PreRefIdeal
public import proofs.«01_k».proof.Proof.Gen.PreRefIdeal.Run
public import proofs.«01_k».proof.Proof.Gen.PreRefIdeal.Read
public import proofs.«01_k».proof.Proof.Gen.FourCtx
public import proofs.«01_k».proof.Proof.Gen.FourCtx.Skeleton
public import proofs.«01_k».proof.Proof.Gen.FourCtx.Launch
public import proofs.«01_k».proof.Proof.Gen.FourCtx.Points
public import proofs.«01_k».proof.Proof.Gen.FourCtx.Frame
public import proofs.«01_k».proof.Proof.Gen.FourCtxIdeal
public import proofs.«01_k».proof.Proof.Gen.FourCtxIdeal.Skeleton
public import proofs.«01_k».proof.Proof.Gen.FourCtxIdeal.Launch
public import proofs.«01_k».proof.Proof.Gen.FourCtxIdeal.Points
public import proofs.«01_k».proof.Proof.Gen.FourCtxIdeal.Frame
public import proofs.«01_k».proof.Proof.Gen.FourCtxRefIdeal
public import proofs.«01_k».proof.Proof.FourValue
public import proofs.«01_k».proof.Proof.FourCtxValue
public import proofs.«01_k».proof.Proof.AdaValue
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.ExpertsPre
public import proofs.«01_k».proof.Proof.ExpertsIdealFinal
public import proofs.«01_k».proof.Proof.PreFrame
public import proofs.«01_k».proof.Proof.PreIdealFinal
public import proofs.«01_k».proof.Proof.PreIdealMore
public import Idealize.ShloMosaic.Lib.Bf16Pair
public import Idealize.ShloMosaic.Lib.Claim
public import Idealize.ShloMosaic.Adequacy
public import Idealize.ShloMosaic.Init

@[expose] public section

noncomputable section

namespace Cert.Proof

open Idealize.ShloMosaic Idealize.SL.Sem Cert.Four

theorem frame_four_ref : Cert.quiescent_FourRefIdeal := fun m ρ _ =>
  (θ_run Cert.FourRefIdeal.defs _ _).mono (fun r h => ⟨fun c => (h c).2, Idealize.ShloMosaic.sem_eq_zero_of_no_sems (by decide) r.2⟩)
    (Cert.FourRefIdeal.Value.run (F := Ideal) m ρ)

theorem algebraic_four : Cert.algebraic_FourIdeal_FourRefIdeal := fun m g m' g' _ agree =>
  ⟨fun c => Cert.FourIdeal.FValue.REF (m ((c.tc : Thread Cert.FourIdeal.nD Cert.FourIdeal.τ).loc Cert.FourIdeal.main_arg0))
      (m ((c.tc : Thread Cert.FourIdeal.nD Cert.FourIdeal.τ).loc Cert.FourIdeal.main_arg1)) (m ((c.tc : Thread Cert.FourIdeal.nD Cert.FourIdeal.τ).loc Cert.FourIdeal.main_arg2)),
    (θ_run Cert.FourIdeal.defs _ _).mono (fun r h c => ⟨(h c).1.trans (Cert.FourIdeal.FValue.final m c), (h c).2⟩) (Cert.FourIdeal.Value.run_blocks (F := Ideal) m g),
    (θ_run Cert.FourRefIdeal.defs _ _).mono (fun r h c => ⟨by
      refine (h c).1.trans ((Cert.FourRefIdeal.Read.val_main_v22_eq (F := Ideal) _ _ _).trans ?_)
      rw [(agree c).1, (agree c).2.1, (agree c).2.2], (h c).2⟩) (Cert.FourRefIdeal.Value.run (F := Ideal) m' g')⟩

theorem frame_four_ctx_ref : Cert.quiescent_FourCtxRefIdeal := fun m ρ _ =>
  (θ_run Cert.FourCtxRefIdeal.defs _ _).mono (fun r h => ⟨fun c => (h c).2, Idealize.ShloMosaic.sem_eq_zero_of_no_sems (by decide) r.2⟩)
    (Cert.FourCtxRefIdeal.Value.run (F := Ideal) m ρ)

theorem algebraic_four_ctx : Cert.algebraic_FourCtxIdeal_FourCtxRefIdeal := fun m g m' g' _ agree =>
  ⟨fun c => Cert.FourCtxIdeal.FValue.REF (m ((c.tc : Thread Cert.FourCtxIdeal.nD Cert.FourCtxIdeal.τ).loc Cert.FourCtxIdeal.main_arg0))
      (m ((c.tc : Thread Cert.FourCtxIdeal.nD Cert.FourCtxIdeal.τ).loc Cert.FourCtxIdeal.main_arg1)) (m ((c.tc : Thread Cert.FourCtxIdeal.nD Cert.FourCtxIdeal.τ).loc Cert.FourCtxIdeal.main_arg2)),
    (θ_run Cert.FourCtxIdeal.defs _ _).mono (fun r h c => ⟨(h c).1.trans (Cert.FourCtxIdeal.FValue.final m c), (h c).2⟩) (Cert.FourCtxIdeal.Value.run_blocks (F := Ideal) m g),
    (θ_run Cert.FourCtxRefIdeal.defs _ _).mono (fun r h c => ⟨by
      refine (h c).1.trans ((Cert.FourCtxRefIdeal.Read.val_main_v22_eq (F := Ideal) _ _ _).trans ?_)
      rw [(agree c).1, (agree c).2.1, (agree c).2.2], (h c).2⟩) (Cert.FourCtxRefIdeal.Value.run (F := Ideal) m' g')⟩

/-- The precondition of the tables, in numbers. -/
theorem frame_ada_ref : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)

theorem algebraic_ada : Cert.algebraic_AdaIdeal_AdaRefIdeal := fun m g m' g' _ agree =>
  ⟨fun c => Cert.AdaIdeal.AValue.REF (m ((c.tc : Thread Cert.AdaIdeal.nD Cert.AdaIdeal.τ).loc Cert.AdaIdeal.main_arg0)) (m ((c.tc : Thread Cert.AdaIdeal.nD Cert.AdaIdeal.τ).loc Cert.AdaIdeal.main_arg1))
      (m ((c.tc : Thread Cert.AdaIdeal.nD Cert.AdaIdeal.τ).loc Cert.AdaIdeal.main_arg2)) (m ((c.tc : Thread Cert.AdaIdeal.nD Cert.AdaIdeal.τ).loc Cert.AdaIdeal.main_arg3)),
    (θ_run Cert.AdaIdeal.defs _ _).mono (fun r h c => ⟨(h c).1.trans (Cert.AdaIdeal.AValue.final m c), (h c).2⟩) (Cert.AdaIdeal.Value.run_blocks (F := Ideal) m g),
    (θ_run Cert.AdaRefIdeal.defs _ _).mono (fun r h c => ⟨by
      refine (h c).1.trans ((Cert.AdaRefIdeal.Read.val_main_v14_eq (F := Ideal) _ _ _ _).trans ?_)
      rw [(agree c).1, (agree c).2.1, (agree c).2.2.1, (agree c).2.2.2], (h c).2⟩) (Cert.AdaRefIdeal.Value.run (F := Ideal) m' g')⟩

theorem good (m : (ℓ : Loc Cert.Experts.nD Cert.Experts.τ Cert.Experts.sig) → Buf (Elt Bits) ℓ) (h : Cert.Pre_Experts m) : Cert.Experts.Hand.Good m :=
  Cert.Tables.words _ _ _ _ _ _ _ (h 0)
theorem good_ideal (m : (ℓ : Loc Cert.ExpertsIdeal.nD Cert.ExpertsIdeal.τ Cert.ExpertsIdeal.sig) → Buf (Elt Ideal) ℓ) (h : Cert.Pre_ExpertsIdeal m) : Cert.ExpertsIdeal.Hand.Good m :=
  Cert.Tables.words _ _ _ _ _ _ _ (h 0)

theorem frame_experts : Cert.quiescent_Experts := fun m ρ h =>
  Cert.Experts.Hand.frame m ρ (Cert.Experts.Hand.ok_of m (good m h)) (Cert.Experts.Hand.first_of m (good m h))

theorem frame_experts_ideal : Cert.quiescent_ExpertsIdeal := fun m ρ h =>
  Cert.ExpertsIdeal.Hand.frame m ρ (Cert.ExpertsIdeal.Hand.ok_of m (good_ideal m h)) (Cert.ExpertsIdeal.Hand.first_of m (good_ideal m h))

theorem frame_experts_ref : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

theorem preserves_experts : Cert.preserves_Experts_ExpertsIdeal := ⟨IdealRules.bf16_pair.statement _ _, IdealRules.bf16_pack.statement _⟩

theorem algebraic_experts : Cert.algebraic_ExpertsIdeal_ExpertsRefIdeal := fun m g m' g' h agree =>
  ⟨fun c => Cert.ExpertsIdeal.Hand.REF m c,
    Cert.ExpertsIdeal.Hand.run_value m g (good_ideal m h),
    (θ_run Cert.ExpertsRefIdeal.defs _ _).mono (fun r h c => ⟨by
      refine (h c).1.trans ((Cert.ExpertsRefIdeal.Read.val_main_v75_eq (F := Ideal) m' c).trans ?_)
      obtain ⟨a0, a1, a2, a3, a4, a5, a6⟩ := agree c
      rw [a0, a1, a2, a3, a4, a5, a6], (h c).2⟩) (Cert.ExpertsRefIdeal.Value.run (F := Ideal) m' g')⟩

theorem frame_pre : Cert.quiescent_Pre := fun m ρ _ => Cert.Pre.Hand.frame m ρ

theorem frame_pre_ideal : Cert.quiescent_PreIdeal := fun m ρ _ => Cert.PreIdeal.Hand.frame m ρ

theorem frame_pre_ref : Cert.quiescent_PreRefIdeal := fun m ρ _ =>
  (θ_run Cert.PreRefIdeal.defs _ _).mono (fun r h => ⟨fun c => (h c).2.2.2.2, Idealize.ShloMosaic.sem_eq_zero_of_no_sems (by decide) r.2⟩)
    (Cert.PreRefIdeal.Value.run (F := Ideal) m ρ)

theorem algebraic_pre : Cert.algebraic_PreIdeal_PreRefIdeal := fun m g m' g' _ agree =>
  ⟨fun c => Cert.PreIdeal.Hand.REF m c, fun c => Cert.PreIdeal.Hand.REF1 m c, fun c => Cert.PreIdeal.Hand.REF2 m c, fun c => Cert.PreIdeal.Hand.REF3 m c,
    Cert.PreIdeal.Hand.run_values m g,
    (θ_run Cert.PreRefIdeal.defs _ _).mono (fun r h c => by
      obtain ⟨a0, a1, a2, a3, a4, a5, a6⟩ := agree c
      obtain ⟨h0, h1, h2, h3, hr⟩ := h c
      have b0 : Idealize.ShloMosaic.StableHlo.launchContents m' c (Proc.devRef .tc Cert.PreRefIdeal.main_arg0) = m ((c.tc : Thread Cert.PreIdeal.nD Cert.PreIdeal.τ).loc Cert.PreIdeal.main_arg0) := a0
      have b1 : Idealize.ShloMosaic.StableHlo.launchContents m' c (Proc.devRef .tc Cert.PreRefIdeal.main_arg1) = m ((c.tc : Thread Cert.PreIdeal.nD Cert.PreIdeal.τ).loc Cert.PreIdeal.main_arg1) := a1
      have b2 : Idealize.ShloMosaic.StableHlo.launchContents m' c (Proc.devRef .tc Cert.PreRefIdeal.main_arg2) = m ((c.tc : Thread Cert.PreIdeal.nD Cert.PreIdeal.τ).loc Cert.PreIdeal.main_arg2) := a2
      have b3 : Idealize.ShloMosaic.StableHlo.launchContents m' c (Proc.devRef .tc Cert.PreRefIdeal.main_arg3) = m ((c.tc : Thread Cert.PreIdeal.nD Cert.PreIdeal.τ).loc Cert.PreIdeal.main_arg3) := a3
      have b4 : Idealize.ShloMosaic.StableHlo.launchContents m' c (Proc.devRef .tc Cert.PreRefIdeal.main_arg4) = m ((c.tc : Thread Cert.PreIdeal.nD Cert.PreIdeal.τ).loc Cert.PreIdeal.main_arg4) := a4
      have b5 : Idealize.ShloMosaic.StableHlo.launchContents m' c (Proc.devRef .tc Cert.PreRefIdeal.main_arg5) = m ((c.tc : Thread Cert.PreIdeal.nD Cert.PreIdeal.τ).loc Cert.PreIdeal.main_arg5) := a5
      have b6 : Idealize.ShloMosaic.StableHlo.launchContents m' c (Proc.devRef .tc Cert.PreRefIdeal.main_arg6) = m ((c.tc : Thread Cert.PreIdeal.nD Cert.PreIdeal.τ).loc Cert.PreIdeal.main_arg6) := a6
      refine ⟨h0.trans ((Cert.PreRefIdeal.Read.val_main_v148_eq (F := Ideal) _).trans ?_), h1.trans ((Cert.PreRefIdeal.Read.val_main_v157_eq (F := Ideal) _).trans ?_),
        h2.trans ((Cert.PreRefIdeal.Read.val_main_v166_eq (F := Ideal) _).trans ?_), h3.trans ((Cert.PreRefIdeal.Read.val_main_v170_eq (F := Ideal) _).trans ?_), hr⟩
      · rw [b0, b1, b2, b3, b4, b5]
      · rw [b0, b1, b2, b3, b6]
      · rw [b0, b1, b2, b3, b6]
      · rw [b0, b1, b2, b3]) (Cert.PreRefIdeal.Value.run (F := Ideal) m' g')⟩

theorem claim : Cert.Claim := ⟨Cert.Four.Gen.facts, Cert.FourIdeal.Gen.facts, Cert.FourRefIdeal.Gen.facts,
  Cert.Experts.Gen.facts, Cert.ExpertsIdeal.Gen.facts, Cert.ExpertsRefIdeal.Gen.facts,
  Cert.Pre.Gen.facts, Cert.PreIdeal.Gen.facts, Cert.PreRefIdeal.Gen.facts,
  Cert.FourCtx.Gen.facts, Cert.FourCtxIdeal.Gen.facts, Cert.FourCtxRefIdeal.Gen.facts,
  Cert.Ada.Gen.facts, Cert.AdaIdeal.Gen.facts, Cert.AdaRefIdeal.Gen.facts, Cert.Pre_tables.Gen.facts,
  fun m ρ _ => Cert.Four.Gen.frame m ρ, fun m ρ _ => Cert.FourIdeal.Gen.frame m ρ, frame_four_ref,
  frame_experts, frame_experts_ideal, frame_experts_ref, frame_pre, frame_pre_ideal, frame_pre_ref,
  fun m ρ _ => Cert.FourCtx.Gen.frame m ρ, fun m ρ _ => Cert.FourCtxIdeal.Gen.frame m ρ, frame_four_ctx_ref,
  fun m ρ _ => Cert.Ada.Gen.frame m ρ, fun m ρ _ => Cert.AdaIdeal.Gen.frame m ρ, frame_ada_ref,
  trivial, algebraic_four, preserves_experts, algebraic_experts, trivial, algebraic_pre, trivial, algebraic_four_ctx,
  trivial, algebraic_ada⟩

end Cert.Proof

end
